-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v5_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x1536 : Shape := ⟨3, ![6, 4096, 1536]⟩
abbrev S1536x64 : Shape := ⟨2, ![1536, 64]⟩
abbrev S64 : Shape := ⟨1, ![64]⟩
abbrev S6x4096x64 : Shape := ⟨3, ![6, 4096, 64]⟩
abbrev S6 : Shape := ⟨1, ![6]⟩
abbrev S64x1536 : Shape := ⟨2, ![64, 1536]⟩
abbrev S1x64 : Shape := ⟨2, ![1, 64]⟩
abbrev S6x64x4096 : Shape := ⟨3, ![6, 64, 4096]⟩
abbrev S6x4096 : Shape := ⟨2, ![6, 4096]⟩
abbrev S6x64 : Shape := ⟨2, ![6, 64]⟩
abbrev S1x512x1536 : Shape := ⟨3, ![1, 512, 1536]⟩
abbrev S1x64x512 : Shape := ⟨3, ![1, 64, 512]⟩
abbrev S2x1x4096 : Shape := ⟨3, ![2, 1, 4096]⟩
abbrev S2x4096x1536 : Shape := ⟨3, ![2, 4096, 1536]⟩
abbrev S2x64x4096 : Shape := ⟨3, ![2, 64, 4096]⟩
abbrev S64x128 : Shape := ⟨2, ![64, 128]⟩
abbrev S64x64 : Shape := ⟨2, ![64, 64]⟩
abbrev S64x1 : Shape := ⟨2, ![64, 1]⟩
abbrev S64x253 : Shape := ⟨2, ![64, 253]⟩
abbrev S1 : Shape := ⟨1, ![1]⟩
abbrev S1x64x128 : Shape := ⟨3, ![1, 64, 128]⟩
abbrev S1x1x1 : Shape := ⟨3, ![1, 1, 1]⟩
abbrev S64x512 : Shape := ⟨2, ![64, 512]⟩
abbrev S64x256 : Shape := ⟨2, ![64, 256]⟩
abbrev S256x1536 : Shape := ⟨2, ![256, 1536]⟩
abbrev S1x256x1536 : Shape := ⟨3, ![1, 256, 1536]⟩
abbrev S1x1x512 : Shape := ⟨3, ![1, 1, 512]⟩
abbrev S1x512 : Shape := ⟨2, ![1, 512]⟩
abbrev S512x1536 : Shape := ⟨2, ![512, 1536]⟩
abbrev S1x32x1536 : Shape := ⟨3, ![1, 32, 1536]⟩
abbrev S32x1536 : Shape := ⟨2, ![32, 1536]⟩
abbrev S32x128 : Shape := ⟨2, ![32, 128]⟩
abbrev S32 : Shape := ⟨1, ![32]⟩
abbrev S32x1 : Shape := ⟨2, ![32, 1]⟩
abbrev S32x253 : Shape := ⟨2, ![32, 253]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S6x128 : Shape := ⟨2, ![6, 128]⟩
abbrev S1x1x128 : Shape := ⟨3, ![1, 1, 128]⟩
abbrev S1x1x256 : Shape := ⟨3, ![1, 1, 256]⟩
abbrev S1x256 : Shape := ⟨2, ![1, 256]⟩
abbrev S1x64x256 : Shape := ⟨3, ![1, 64, 256]⟩

abbrev nBuf : Space → Nat
  | .hbm => 20
  | .vmem => 30
  | .smem => 2
  | _ => 0

abbrev bufTy : (tb : Table) → Fin (tcTables nBuf tb) → BufTy
  | .hbm, ⟨0, _⟩ => ⟨S6x4096x1536, .bf16⟩
  | .hbm, ⟨1, _⟩ => ⟨S1536x64, .fp8e4m3⟩
  | .hbm, ⟨2, _⟩ => ⟨S64, .f32⟩
  | .hbm, ⟨3, _⟩ => ⟨S64, .f32⟩
  | .hbm, ⟨4, _⟩ => ⟨S6x4096x64, .bf16⟩
  | .hbm, ⟨5, _⟩ => ⟨S6x4096x64, .bf16⟩
  | .hbm, ⟨6, _⟩ => ⟨S6, .f32⟩
  | .hbm, ⟨7, _⟩ => ⟨S64x1536, .fp8e4m3⟩
  | .hbm, ⟨8, _⟩ => ⟨S1x64, .f32⟩
  | .hbm, ⟨9, _⟩ => ⟨S1x64, .f32⟩
  | .hbm, ⟨10, _⟩ => ⟨S6x64x4096, .bf16⟩
  | .hbm, ⟨11, _⟩ => ⟨S6x64x4096, .bf16⟩
  | .hbm, ⟨12, _⟩ => ⟨S6, .f32⟩
  | .hbm, ⟨13, _⟩ => ⟨S6x64x4096, .f32⟩
  | .hbm, ⟨14, _⟩ => ⟨S6x4096x1536, .bf16⟩
  | .hbm, ⟨15, _⟩ => ⟨S64x1536, .f32⟩
  | .hbm, ⟨16, _⟩ => ⟨S6x4096x1536, .fp8e4m3⟩
  | .hbm, ⟨17, _⟩ => ⟨S6x4096, .f32⟩
  | .hbm, ⟨18, _⟩ => ⟨S6x64x4096, .fp8e5m2⟩
  | .hbm, ⟨19, _⟩ => ⟨S6x64, .f32⟩
  | .local _ .vmem, ⟨0, _⟩ => ⟨S1x512x1536, .bf16⟩
  | .local _ .vmem, ⟨1, _⟩ => ⟨S1x512x1536, .bf16⟩
  | .local _ .vmem, ⟨2, _⟩ => ⟨S64x1536, .fp8e4m3⟩
  | .local _ .vmem, ⟨3, _⟩ => ⟨S1x64, .f32⟩
  | .local _ .vmem, ⟨4, _⟩ => ⟨S1x64, .f32⟩
  | .local _ .vmem, ⟨5, _⟩ => ⟨S1x64x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .f32⟩
  | .local _ .vmem, ⟨10, _⟩ => ⟨S1x64x512, .f32⟩
  | .local _ .vmem, ⟨11, _⟩ => ⟨S1x512x1536, .bf16⟩
  | .local _ .vmem, ⟨12, _⟩ => ⟨S1x512x1536, .bf16⟩
  | .local _ .vmem, ⟨13, _⟩ => ⟨S64x1536, .f32⟩
  | .local _ .vmem, ⟨14, _⟩ => ⟨S1x512x1536, .fp8e4m3⟩
  | .local _ .vmem, ⟨15, _⟩ => ⟨S1x512x1536, .fp8e4m3⟩
  | .local _ .vmem, ⟨16, _⟩ => ⟨S6x4096, .f32⟩
  | .local _ .vmem, ⟨17, _⟩ => ⟨S1x64x512, .fp8e5m2⟩
  | .local _ .vmem, ⟨18, _⟩ => ⟨S1x64x512, .fp8e5m2⟩
  | .local _ .vmem, ⟨19, _⟩ => ⟨S6x64, .f32⟩
  | .local _ .vmem, ⟨20, _⟩ => ⟨S2x1x4096, .f32⟩
  | .local _ .vmem, ⟨21, _⟩ => ⟨S2x4096x1536, .fp8e4m3⟩
  | .local _ .vmem, ⟨22, _⟩ => ⟨S2x64x4096, .f32⟩
  | .local _ .vmem, ⟨23, _⟩ => ⟨S64x128, .f32⟩
  | .local _ .vmem, ⟨24, _⟩ => ⟨S64x128, .f32⟩
  | .local _ .vmem, ⟨25, _⟩ => ⟨S64x128, .f32⟩
  | .local _ .vmem, ⟨26, _⟩ => ⟨S64x128, .f32⟩
  | .local _ .vmem, ⟨27, _⟩ => ⟨S64x1536, .bf16⟩
  | .local _ .vmem, ⟨28, _⟩ => ⟨S64x128, .f32⟩
  | .local _ .vmem, ⟨29, _⟩ => ⟨S64x128, .f32⟩
  | .local _ .smem, ⟨0, _⟩ => ⟨S6, .f32⟩
  | .local _ .smem, ⟨1, _⟩ => ⟨S6, .f32⟩
  | _, _ => ⟨S6x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨2, ![7, 8], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c0_i32_7 : BitVec 32 := 0#32
  let v14 : BitVec 1 := Scalar.cmpi .sgt arg0 c0_i32_7
  let v15 : BitVec 32 := Scalar.extui v14
  let c0_i32_8 : BitVec 32 := 0#32
  let v16 : BitVec 1 := Scalar.cmpi .ne v15 c0_i32_8
  v16

def k0_off1 (i : grid0.Coords) : Fin 1 → Nat :=
  let arg0 : BitVec 32 := BitVec.ofNat 32 (i 0).val
  let c1_i32_32 : BitVec 32 := 1#32
  let v81 : BitVec 32 := Scalar.subi arg0 c1_i32_32
  let v82 : Index := Scalar.indexCast v81
  ![v82.toNat]
def k0_cond4 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off2 (i : grid0.Coords) : Fin 3 → Nat :=
  let arg0 : BitVec 32 := BitVec.ofNat 32 (i 0).val
  let c1_i32 : BitVec 32 := 1#32
  let v14 : BitVec 32 := Scalar.subi arg0 c1_i32
  let c2_i32 : BitVec 32 := 2#32
  let v17 : BitVec 32 := Scalar.remsi v14 c2_i32
  let v21 : Index := Scalar.indexCast v17
  let c0_10 : Index := 0#32
  let arg1 : BitVec 32 := BitVec.ofNat 32 (i 1).val
  let c512_i32 : BitVec 32 := 512#32
  let v15 : BitVec 32 := Scalar.muli arg1 c512_i32
  let v16 : BitVec 32 := v15
  let v22 : Index := Scalar.indexCast v16
  ![v21.toNat, 0, v22.toNat]
def k0_off3 (i : grid0.Coords) : Fin 3 → Nat :=
  let arg0 : BitVec 32 := BitVec.ofNat 32 (i 0).val
  let c1_i32 : BitVec 32 := 1#32
  let v14 : BitVec 32 := Scalar.subi arg0 c1_i32
  let c2_i32 : BitVec 32 := 2#32
  let v17 : BitVec 32 := Scalar.remsi v14 c2_i32
  let v52 : Index := Scalar.indexCast v17
  let c0_26 : Index := 0#32
  let arg1 : BitVec 32 := BitVec.ofNat 32 (i 1).val
  let c512_i32 : BitVec 32 := 512#32
  let v15 : BitVec 32 := Scalar.muli arg1 c512_i32
  let v16 : BitVec 32 := v15
  let v53 : Index := Scalar.indexCast v16
  ![v52.toNat, 0, v53.toNat]
def k0_off4 (i : grid0.Coords) : Fin 3 → Nat :=
  let arg0 : BitVec 32 := BitVec.ofNat 32 (i 0).val
  let c1_i32 : BitVec 32 := 1#32
  let v14 : BitVec 32 := Scalar.subi arg0 c1_i32
  let c2_i32 : BitVec 32 := 2#32
  let v17 : BitVec 32 := Scalar.remsi v14 c2_i32
  let v61 : Index := Scalar.indexCast v17
  let arg1 : BitVec 32 := BitVec.ofNat 32 (i 1).val
  let c512_i32 : BitVec 32 := 512#32
  let v15 : BitVec 32 := Scalar.muli arg1 c512_i32
  let v16 : BitVec 32 := v15
  let v62 : Index := Scalar.indexCast v16
  let c0_29 : Index := 0#32
  ![v61.toNat, v62.toNat, 0]
def k0_cond5 (i : grid0.Coords) : BitVec 1 :=
  let arg0 : BitVec 32 := BitVec.ofNat 32 (i 0).val
  let c6_i32 : BitVec 32 := 6#32
  let v11 : BitVec 1 := Scalar.cmpi .slt arg0 c6_i32
  let v12 : BitVec 32 := Scalar.extui v11
  let c0_i32_6 : BitVec 32 := 0#32
  let v13 : BitVec 1 := Scalar.cmpi .ne v12 c0_i32_6
  v13

def k0_off5 (i : grid0.Coords) : Fin 1 → Nat :=
  let arg0 : BitVec 32 := BitVec.ofNat 32 (i 0).val
  let v14 : Index := Scalar.indexCast arg0
  ![v14.toNat]
def k0_mult2 (i : grid0.Coords) : BitVec 32 :=
  let arg1 : BitVec 32 := BitVec.ofNat 32 (i 1).val
  let c512_i32 : BitVec 32 := 512#32
  let v17 : BitVec 32 := Scalar.muli arg1 c512_i32
  v17
def k0_off6 (i : grid0.Coords) (c0_i32_310 : BitVec 32) : Fin 2 → Nat :=
  let c0_311 : Index := 0#32
  let arg1 : BitVec 32 := BitVec.ofNat 32 (i 1).val
  let c512_i32 : BitVec 32 := 512#32
  let v17 : BitVec 32 := Scalar.muli arg1 c512_i32
  let v18 : BitVec 32 := v17
  let v1054 : BitVec 32 := Scalar.addi v18 c0_i32_310
  let v1055 : Index := Scalar.indexCast v1054
  ![0, v1055.toNat]
def k0_off7 (i : grid0.Coords) (c0_i32_313 : BitVec 32) : Fin 3 → Nat :=
  let arg0 : BitVec 32 := BitVec.ofNat 32 (i 0).val
  let c2_i32 : BitVec 32 := 2#32
  let v19 : BitVec 32 := Scalar.remsi arg0 c2_i32
  let v1067 : Index := Scalar.indexCast v19
  let c0_314 : Index := 0#32
  let arg1 : BitVec 32 := BitVec.ofNat 32 (i 1).val
  let c512_i32 : BitVec 32 := 512#32
  let v17 : BitVec 32 := Scalar.muli arg1 c512_i32
  let v18 : BitVec 32 := v17
  let v1066 : BitVec 32 := Scalar.addi v18 c0_i32_313
  let v1068 : Index := Scalar.indexCast v1066
  ![v1067.toNat, 0, v1068.toNat]
def k0_off8 (i : grid0.Coords) : Fin 3 → Nat :=
  let arg0 : BitVec 32 := BitVec.ofNat 32 (i 0).val
  let c2_i32 : BitVec 32 := 2#32
  let v19 : BitVec 32 := Scalar.remsi arg0 c2_i32
  let v1158 : Index := Scalar.indexCast v19
  let arg1 : BitVec 32 := BitVec.ofNat 32 (i 1).val
  let c512_i32 : BitVec 32 := 512#32
  let v17 : BitVec 32 := Scalar.muli arg1 c512_i32
  let v18 : BitVec 32 := v17
  let v1159 : Index := Scalar.indexCast v18
  let c0_336 : Index := 0#32
  ![v1158.toNat, v1159.toNat, 0]
def k0_off9 (i : grid0.Coords) (c0_i32_351 : BitVec 32) : Fin 3 → Nat :=
  let arg0 : BitVec 32 := BitVec.ofNat 32 (i 0).val
  let c2_i32 : BitVec 32 := 2#32
  let v19 : BitVec 32 := Scalar.remsi arg0 c2_i32
  let v1173 : Index := Scalar.indexCast v19
  let c0_352 : Index := 0#32
  let arg1 : BitVec 32 := BitVec.ofNat 32 (i 1).val
  let c512_i32 : BitVec 32 := 512#32
  let v17 : BitVec 32 := Scalar.muli arg1 c512_i32
  let v18 : BitVec 32 := v17
  let v1172 : BitVec 32 := Scalar.addi v18 c0_i32_351
  let v1174 : Index := Scalar.indexCast v1172
  ![v1173.toNat, 0, v1174.toNat]
def k0_off10 (i : grid0.Coords) (c0_i32_362 : BitVec 32) : Fin 3 → Nat :=
  let arg0 : BitVec 32 := BitVec.ofNat 32 (i 0).val
  let c2_i32 : BitVec 32 := 2#32
  let v19 : BitVec 32 := Scalar.remsi arg0 c2_i32
  let v1197 : Index := Scalar.indexCast v19
  let c0_363 : Index := 0#32
  let arg1 : BitVec 32 := BitVec.ofNat 32 (i 1).val
  let c512_i32 : BitVec 32 := 512#32
  let v17 : BitVec 32 := Scalar.muli arg1 c512_i32
  let v18 : BitVec 32 := v17
  let v1196 : BitVec 32 := Scalar.addi v18 c0_i32_362
  let v1198 : Index := Scalar.indexCast v1196
  ![v1197.toNat, 0, v1198.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg0 c6_i32
  let c5_i32 : BitVec 32 := 5#32
  let v1 : BitVec 32 := Scalar.select v0 c5_i32 arg0
  let c7_i32 : BitVec 32 := 7#32
  let v2 : BitVec 32 := Scalar.select v0 c7_i32 arg1
  let c0_i32 : BitVec 32 := 0#32
  let c0_i32_0 : BitVec 32 := 0#32
  ![v1.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg0 c6_i32
  let c5_i32 : BitVec 32 := 5#32
  let v1 : BitVec 32 := Scalar.select v0 c5_i32 arg0
  let c7_i32 : BitVec 32 := 7#32
  let v2 : BitVec 32 := Scalar.select v0 c7_i32 arg1
  let c0_i32 : BitVec 32 := 0#32
  let c0_i32_0 : BitVec 32 := 0#32
  ![v1.toNat, c0_i32.toNat, v2.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg0 c6_i32
  let c5_i32 : BitVec 32 := 5#32
  let v1 : BitVec 32 := Scalar.select v0 c5_i32 arg0
  let c7_i32 : BitVec 32 := 7#32
  let v2 : BitVec 32 := Scalar.select v0 c7_i32 arg1
  let c0_i32 : BitVec 32 := 0#32
  let c0_i32_0 : BitVec 32 := 0#32
  ![v1.toNat, c0_i32.toNat, v2.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg0 c6_i32
  let c5_i32 : BitVec 32 := 5#32
  let v1 : BitVec 32 := Scalar.select v0 c5_i32 arg0
  let c7_i32 : BitVec 32 := 7#32
  let v2 : BitVec 32 := Scalar.select v0 c7_i32 arg1
  let c0_i32 : BitVec 32 := 0#32
  let c0_i32_0 : BitVec 32 := 0#32
  ![v1.toNat, c0_i32.toNat, v2.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg0 c6_i32
  let c5_i32 : BitVec 32 := 5#32
  let v1 : BitVec 32 := Scalar.select v0 c5_i32 arg0
  let c7_i32 : BitVec 32 := 7#32
  let v2 : BitVec 32 := Scalar.select v0 c7_i32 arg1
  let c0_i32 : BitVec 32 := 0#32
  let c0_i32_0 : BitVec 32 := 0#32
  ![v1.toNat, v2.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, c0_i32_2.toNat, v3.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S64x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1536 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S6x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x64x512 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S6x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S6x4096x1536 : Shape := ⟨3, ![6, 4096, 1536]⟩
abbrev S1536x64 : Shape := ⟨2, ![1536, 64]⟩
abbrev S64 : Shape := ⟨1, ![64]⟩
abbrev S6x4096x64 : Shape := ⟨3, ![6, 4096, 64]⟩
abbrev S6 : Shape := ⟨1, ![6]⟩
abbrev S6x64x4096 : Shape := ⟨3, ![6, 64, 4096]⟩
abbrev S64x1536 : Shape := ⟨2, ![64, 1536]⟩
abbrev S6x4096 : Shape := ⟨2, ![6, 4096]⟩
abbrev S6x64 : Shape := ⟨2, ![6, 64]⟩
abbrev S6x4096x1 : Shape := ⟨3, ![6, 4096, 1]⟩
abbrev S6x4096x252 : Shape := ⟨3, ![6, 4096, 252]⟩
abbrev S24576x1536 : Shape := ⟨2, ![24576, 1536]⟩
abbrev S24576x64 : Shape := ⟨2, ![24576, 64]⟩
abbrev S1x1x64 : Shape := ⟨3, ![1, 1, 64]⟩
abbrev S6x1x1 : Shape := ⟨3, ![6, 1, 1]⟩
abbrev S6x64x1 : Shape := ⟨3, ![6, 64, 1]⟩
abbrev S6x64x252 : Shape := ⟨3, ![6, 64, 252]⟩
abbrev S6x1x64 : Shape := ⟨3, ![6, 1, 64]⟩
abbrev S1x64 : Shape := ⟨2, ![1, 64]⟩

abbrev nBuf : Space → Nat
  | .hbm => 15
  | .vmem => 15
  | .smem => 0
  | _ => 0

abbrev bufTy : (tb : Table) → Fin (tcTables nBuf tb) → BufTy
  | .hbm, ⟨0, _⟩ => ⟨S6x4096x1536, .bf16⟩
  | .hbm, ⟨1, _⟩ => ⟨S1536x64, .fp8e4m3⟩
  | .hbm, ⟨2, _⟩ => ⟨S64, .f32⟩
  | .hbm, ⟨3, _⟩ => ⟨S64, .f32⟩
  | .hbm, ⟨4, _⟩ => ⟨S6x4096x64, .bf16⟩
  | .hbm, ⟨5, _⟩ => ⟨S6x4096x64, .bf16⟩
  | .hbm, ⟨6, _⟩ => ⟨S6, .f32⟩
  | .hbm, ⟨7, _⟩ => ⟨S6, .f32⟩
  | .hbm, ⟨8, _⟩ => ⟨S6x64x4096, .f32⟩
  | .hbm, ⟨9, _⟩ => ⟨S6x4096x1536, .bf16⟩
  | .hbm, ⟨10, _⟩ => ⟨S64x1536, .f32⟩
  | .hbm, ⟨11, _⟩ => ⟨S6x4096x1536, .fp8e4m3⟩
  | .hbm, ⟨12, _⟩ => ⟨S6x4096, .f32⟩
  | .hbm, ⟨13, _⟩ => ⟨S6x64x4096, .fp8e5m2⟩
  | .hbm, ⟨14, _⟩ => ⟨S6x64, .f32⟩
  | .local _ .vmem, ⟨0, _⟩ => ⟨S6x4096x1536, .bf16⟩
  | .local _ .vmem, ⟨1, _⟩ => ⟨S1536x64, .fp8e4m3⟩
  | .local _ .vmem, ⟨2, _⟩ => ⟨S64, .f32⟩
  | .local _ .vmem, ⟨3, _⟩ => ⟨S64, .f32⟩
  | .local _ .vmem, ⟨4, _⟩ => ⟨S6x4096x64, .bf16⟩
  | .local _ .vmem, ⟨5, _⟩ => ⟨S6x4096x64, .bf16⟩
  | .local _ .vmem, ⟨6, _⟩ => ⟨S6, .f32⟩
  | .local _ .vmem, ⟨7, _⟩ => ⟨S6, .f32⟩
  | .local _ .vmem, ⟨8, _⟩ => ⟨S6x64x4096, .f32⟩
  | .local _ .vmem, ⟨9, _⟩ => ⟨S6x4096x1536, .bf16⟩
  | .local _ .vmem, ⟨10, _⟩ => ⟨S64x1536, .f32⟩
  | .local _ .vmem, ⟨11, _⟩ => ⟨S6x4096x1536, .fp8e4m3⟩
  | .local _ .vmem, ⟨12, _⟩ => ⟨S6x4096, .f32⟩
  | .local _ .vmem, ⟨13, _⟩ => ⟨S6x64x4096, .fp8e5m2⟩
  | .local _ .vmem, ⟨14, _⟩ => ⟨S6x64, .f32⟩
  | _, _ => ⟨S6x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S6x4096x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x64x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x4096x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x4096x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x64x4096 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.BlocksK.lean ====
/- The kernel body cut at its conditionals: the five guarded blocks of the body as programs of their own (`Gen.blkInit`,
   `Gen.blkFinish`, `Gen.blkZero`, `Gen.blkBack`, `Gen.blkFwd`), and the body as their guarded sequence (`Gen.body_blocks`). -/
module

public import proofs.«01_k».proof.Proof.Gen.Kernel.Skeleton
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- At the first grid point: the weight scales, the bias and the dequantised weights are laid out, the accumulated outputs zeroed. -/
noncomputable def blkInit (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole)  :
    Prog (TpuEff nD τ sig (Elt F) Λ₀ .tc) PUnit := do
  k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
  let v56 : Vec F S64x1536 .f32 ← Prog.lift (.load arg12 (Rect.unit (s := S64x1536) ![0, 0] S64x1536.size inb_S64x1536_S64x1536_0_0).toLoadRect (View.loadsAt_vmem h_S64x1536))
  Prog.lift (.store arg12 (Rect.unit (s := S64x1536) ![0, 0] S64x1536.size inb_S64x1536_S64x1536_0_0) (k0_pay1 (F := F)) Finset.univ (View.stores_vmem_bits_univ h_S64x1536 rfl) (.inl rfl))
  let v58 : Vec F S6x4096 .f32 ← Prog.lift (.load arg14 (Rect.unit (s := S6x4096) ![0, 0] S6x4096.size inb_S6x4096_S6x4096_0_0).toLoadRect (View.loadsAt_vmem h_S6x4096))
  Prog.lift (.store arg14 (Rect.unit (s := S6x4096) ![0, 0] S6x4096.size inb_S6x4096_S6x4096_0_0) (k0_pay2 (F := F)) Finset.univ (View.stores_vmem_bits_univ h_S6x4096 rfl) (.inl rfl))
  let v60 : Vec F S6x64 .f32 ← Prog.lift (.load arg16 (Rect.unit (s := S6x64) ![0, 0] S6x64.size inb_S6x64_S6x64_0_0).toLoadRect (View.loadsAt_vmem h_S6x64))
  Prog.lift (.store arg16 (Rect.unit (s := S6x64) ![0, 0] S6x64.size inb_S6x64_S6x64_0_0) (k0_pay3 (F := F)) Finset.univ (View.stores_vmem_bits_univ h_S6x64 rfl) (.inl rfl))
  pure ⟨⟩

/-- At the first chunk of every sample but the first: the gradient scale and the loss of the sample before. -/
noncomputable def blkFinish (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h2 : k0_cond2 i = 1#1) (k0_h3 : k0_cond3 i = 1#1) :
    Prog (TpuEff nD τ sig (Elt F) Λ₀ .tc) PUnit := do
  let arg0 : BitVec 32 := BitVec.ofNat 32 (i 0).val
  let ⟨v46, v62, v65⟩ : Σ' (v46 : FVec F S64x1 .f32) (v62 : BitVec 32), IVec S64x64 1 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0
  let v72 : Vec F S6x64 .f32 ← Prog.lift (.load arg16 (Rect.unit (s := S6x64) ![0, 0] S6x64.size inb_S6x64_S6x64_0_0).toLoadRect (View.loadsAt_vmem h_S6x64))
  let v80 : Vec F S6x64 .f32 ← Prog.lift (.load arg16 (Rect.unit (s := S6x64) ![0, 0] S6x64.size inb_S6x64_S6x64_0_0).toLoadRect (View.loadsAt_vmem h_S6x64))
  Prog.lift (.store arg16 (Rect.unit (s := S6x64) ![0, 0] S6x64.size inb_S6x64_S6x64_0_0) (k0_pay4 v46 v62 v65 v72) Finset.univ (View.stores_vmem_bits_univ h_S6x64 rfl) (.inl rfl))
  let v83 : Elt F .f32 ← smemLoad arg2 (Rect.unit (s := S6) (k0_off1 i) S1.size (k0_off1_inb i k0_h2 k0_h3)) numel1_S1 rfl
  let v84 : Vec F S64x128 .f32 ← Prog.lift (.load arg21 (Rect.unit (s := S64x128) ![0, 0] S64x128.size inb_S64x128_S64x128_0_0).toLoadRect (View.loadsAt_vmem h_S64x128))
  let v93 : Elt F .f32 ← smemLoad arg9 (Rect.unit (s := S6) (k0_off1 i) S1.size (k0_off1_inb i k0_h2 k0_h3)) numel1_S1 rfl
  Prog.lift (.store arg9 (Rect.unit (s := S6) (k0_off1 i) S1.size (k0_off1_inb i k0_h2 k0_h3)) (fun _ => k0_pay5 v83 v84) Finset.univ (View.stores_smem_one rfl numel1_S1) (.inl rfl))
  pure ⟨⟩

/-- At the first chunk of every sample: the running maximum and the running sum of squares start at zero. -/
noncomputable def blkZero (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole)  :
    Prog (TpuEff nD τ sig (Elt F) Λ₀ .tc) PUnit := do
  let v18 : Vec F S64x128 .f32 ← Prog.lift (.load arg20 (Rect.unit (s := S64x128) ![0, 0] S64x128.size inb_S64x128_S64x128_0_0).toLoadRect (View.loadsAt_vmem h_S64x128))
  Prog.lift (.store arg20 (Rect.unit (s := S64x128) ![0, 0] S64x128.size inb_S64x128_S64x128_0_0) (k0_pay6 (F := F)) Finset.univ (View.stores_vmem_bits_univ h_S64x128 rfl) (.inl rfl))
  let v22 : Vec F S64x128 .f32 ← Prog.lift (.load arg21 (Rect.unit (s := S64x128) ![0, 0] S64x128.size inb_S64x128_S64x128_0_0).toLoadRect (View.loadsAt_vmem h_S64x128))
  Prog.lift (.store arg21 (Rect.unit (s := S64x128) ![0, 0] S64x128.size inb_S64x128_S64x128_0_0) (k0_pay7 (F := F)) Finset.univ (View.stores_vmem_bits_univ h_S64x128 rfl) (.inl rfl))
  pure ⟨⟩

/-- The backward pass over a chunk of the sample before. -/
noncomputable def blkBack (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h4 : k0_cond4 i = 1#1) :
    Prog (TpuEff nD τ sig (Elt F) Λ₀ .tc) PUnit := do
  let arg0 : BitVec 32 := BitVec.ofNat 32 (i 0).val
  let arg1 : BitVec 32 := BitVec.ofNat 32 (i 1).val
  let ⟨v16, v17, v37, v48⟩ : Σ' (v16 : BitVec 32) (v17 : BitVec 32) (v37 : FVec F S64x512 .bf16), FVec F S256x1536 .bf16 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 k0_h4
  let v49 : Vec F S1x256x1536 .bf16 ← Prog.lift (.load arg11 (Rect.unit (s := S1x512x1536) ![0, 256, 0] S1x256x1536.size inb_S1x512x1536_S1x256x1536_0_256_0).toLoadRect (View.loadsAt_vmem h_S1x256x1536))
  Prog.lift (.store arg11 (Rect.unit (s := S1x512x1536) ![0, 256, 0] S1x256x1536.size inb_S1x512x1536_S1x256x1536_0_256_0) (k0_pay8 v48) Finset.univ (View.stores_vmem h_S1x256x1536 (harg11.storeExact_slice rfl _ packedbf16_S1x512x1536_S1x256x1536_0_256_0) (fun _ => rfl)) (.inl rfl))
  let v54 : Vec F S1x1x512 .f32 ← Prog.lift (.load arg17 (Rect.unit (s := S2x1x4096) (k0_off3 i) S1x1x512.size (k0_off3_inb i k0_h4)).toLoadRect (View.loadsAt_vmem h_S1x1x512))
  let v59 : Vec F S64x1536 .f32 ← Prog.lift (.load arg12 (Rect.unit (s := S64x1536) ![0, 0] S64x1536.size inb_S64x1536_S64x1536_0_0).toLoadRect (View.loadsAt_vmem h_S64x1536))
  let v63 : Vec F S1x512x1536 .fp8e4m3 ← Prog.lift (.load arg18 (Rect.unit (s := S2x4096x1536) (k0_off4 i) S1x512x1536.size (k0_off4_inb i k0_h4)).toLoadRect (View.loadsAt_vmem h_S1x512x1536))
  let v67 : Vec F S64x1536 .f32 ← Prog.lift (.load arg12 (Rect.unit (s := S64x1536) ![0, 0] S64x1536.size inb_S64x1536_S64x1536_0_0).toLoadRect (View.loadsAt_vmem h_S64x1536))
  Prog.lift (.store arg12 (Rect.unit (s := S64x1536) ![0, 0] S64x1536.size inb_S64x1536_S64x1536_0_0) (k0_pay9 v37 v54 v59 v63) Finset.univ (View.stores_vmem_bits_univ h_S64x1536 rfl) (.inl rfl))
  pure ⟨⟩

/-- The forward pass over a chunk of the sample. -/
noncomputable def blkFwd (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h5 : k0_cond5 i = 1#1) :
    Prog (TpuEff nD τ sig (Elt F) Λ₀ .tc) PUnit := do
  let arg0 : BitVec 32 := BitVec.ofNat 32 (i 0).val
  let arg1 : BitVec 32 := BitVec.ofNat 32 (i 1).val
  let ⟨v16, v18, v19, v21, v60, v61⟩ : Σ' (v16 : F .f32) (v18 : BitVec 32) (v19 : BitVec 32) (v21 : FVec F S32x1536 .bf16) (v60 : IVec S32x1 32), IVec S32x1 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 k0_h5
  let ⟨v67, v85, v86, v105⟩ : Σ' (v67 : FVec F S32x1 .f32) (v85 : FVec F S32x1536 .bf16) (v86 : FVec F S32x1536 .bf16), FVec F S32x128 .bf16 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v21 v60 v61
  let ⟨v131, k0_w2⟩ : Σ' (v131 : FVec F S32x1 .f32), Vec F S1x32x1536 .fp8e4m3 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v85 v86 v105
  let ⟨v149, v188, v190, v195⟩ : Σ' (v149 : FVec F S32x1536 .bf16) (v188 : IVec S32x1 32) (v190 : IVec S32x1 1), FVec F S32x1 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_w2
  let ⟨v213, v240⟩ : Σ' (v213 : FVec F S32x1536 .bf16), FVec F S32x1 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v149 v188 v190
  let ⟨v259, v277, v278, v279⟩ : Σ' (v259 : FVec F S32x1 .f32) (v277 : FVec F S32x1536 .bf16) (v278 : FVec F S32x1536 .bf16), FVec F S32x128 .bf16 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v213 v240
  let ⟨v323, v329⟩ : Σ' (v323 : FVec F S32x1 .f32), FVec F S32x1 .bf16 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v278 v279
  let ⟨v341, v370, v373, v374⟩ : Σ' (v341 : FVec F S32x1536 .bf16) (v370 : FVec F S32x1 .f32) (v373 : IVec S32x253 32), FVec F S32x253 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v277 v329
  let ⟨v387, v405, v406, v415⟩ : Σ' (v387 : FVec F S32x1 .f32) (v405 : FVec F S32x1536 .bf16) (v406 : FVec F S32x1536 .bf16), FVec F S32x128 .bf16 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v341 v370 v373 v374
  let ⟨v451, v463⟩ : Σ' (v451 : FVec F S32x1 .f32), FVec F S32x1536 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v405 v406 v415
  let ⟨v469, v508⟩ : Σ' (v469 : FVec F S32x1536 .bf16), IVec S32x1 32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v463
  let ⟨v515, v533, v534, v551⟩ : Σ' (v515 : FVec F S32x1 .f32) (v533 : FVec F S32x1536 .bf16) (v534 : FVec F S32x1536 .bf16), FVec F S32x128 .bf16 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v469 v508
  let ⟨v579, v592⟩ : Σ' (v579 : FVec F S32x1 .f32), FVec F S32x1536 .fp8e4m3 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v533 v534 v551
  let ⟨v597, v636, v638, v641, cst_184⟩ : Σ' (v597 : FVec F S32x1536 .bf16) (v636 : IVec S32x1 32) (v638 : IVec S32x1 1) (v641 : FVec F S32x1 .f32), F .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v592
  let ⟨v643, v661, v686⟩ : Σ' (v643 : FVec F S32x1 .f32) (v661 : FVec F S32x1536 .bf16), FVec F S32x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v597 v636 v638 v641 cst_184
  let ⟨v707, v725⟩ : Σ' (v707 : FVec F S32x1 .f32), FVec F S32x1536 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v661 v686
  let ⟨v766, v771, v774, v775⟩ : Σ' (v766 : IVec S32x1 1) (v771 : FVec F S32x1 .f32) (v774 : FVec F S32x1 .f32), FVec F S32x1 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v725
  let ⟨v789, v818, v819, v820⟩ : Σ' (v789 : FVec F S32x1536 .bf16) (v818 : FVec F S32x1 .f32) (v819 : IVec S32x253 32), IVec S32x253 32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v725 v766 v774 v775
  let ⟨v835, v853, v854, v861⟩ : Σ' (v835 : FVec F S32x1 .f32) (v853 : FVec F S32x1536 .bf16) (v854 : FVec F S32x1536 .bf16), FVec F S32x128 .bf16 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v789 v818 v819 v820
  let ⟨v899, v909, cst_264⟩ : Σ' (v899 : FVec F S32x1 .f32) (v909 : FVec F S32x1536 .bf16), F .bf16 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v853 v854 v861
  let ⟨v917, v954⟩ : Σ' (v917 : FVec F S32x1536 .bf16), IVec S32x253 32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v909 cst_264
  let ⟨v963, v981, v982, v997⟩ : Σ' (v963 : FVec F S32x1 .f32) (v981 : FVec F S32x1536 .bf16) (v982 : FVec F S32x1536 .bf16), FVec F S32x128 .bf16 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v917 v954
  let ⟨v1027, v1040⟩ : Σ' (v1027 : FVec F S32x1 .f32), FVec F S32x1536 .fp8e4m3 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v981 v982 v997
  let ⟨v1081, v1082, v1085⟩ : Σ' (v1081 : FVec F S1x128 .f32) (v1082 : BitVec 32), FVec F S6x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 k0_h5 v18 v19 v67 v131 v195 v259 v323 v387 v451 v515 v1040
  let ⟨v1128, v1131⟩ : Σ' (v1128 : FVec F S128x1 .f32), IVec S128x128 1 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 k0_h5 v18 v19 v579 v643 v707 v771 v835 v899 v963 v1027 v1081 v1082 v1085
  let ⟨v1163, v1164, v1165, v1166, v1167⟩ : Σ' (v1163 : Vec F S64x1 .f32) (v1164 : Vec F S64x1 .f32) (v1165 : Vec F S64x128 .f32) (v1166 : Vec F S64x128 .f32), Vec F S64x1536 .fp8e4m3 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 k0_h5 v18 v19 v1128 v1131
  let ⟨v1195, v1204, v1207, v1208⟩ : Σ' (v1195 : FVec F S64x256 .f32) (v1204 : FVec F S64x128 .f32) (v1207 : FVec F S64x128 .f32), FVec F S64x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h5 v16 v18 v19 v1163 v1164 v1165 v1166 v1167
  let ⟨v1210, v1213, v1240, v1242, v1248⟩ : Σ' (v1210 : FVec F S64x128 .f32) (v1213 : FVec F S64x128 .f32) (v1240 : FVec F S64x256 .f32) (v1242 : FVec F S64x256 .f32), FVec F S1x64x256 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h5 v16 v18 v19 v1163 v1164 v1195 v1204 v1207 v1208
  Prog.lift (.store arg19 (Rect.unit (s := S2x64x4096) (k0_off10 i 256#32) S1x64x256.size (k0_off10_inb i k0_h5 1)) v1248 Finset.univ (View.stores_vmem_bits_univ h_S1x64x256 rfl) (.inl rfl))
  let v1261 : Vec F S64x128 .f32 ← Prog.lift (.load arg20 (Rect.unit (s := S64x128) ![0, 0] S64x128.size inb_S64x128_S64x128_0_0).toLoadRect (View.loadsAt_vmem h_S64x128))
  Prog.lift (.store arg20 (Rect.unit (s := S64x128) ![0, 0] S64x128.size inb_S64x128_S64x128_0_0) (k0_pay10 v1213 v1242) Finset.univ (View.stores_vmem_bits_univ h_S64x128 rfl) (.inl rfl))
  let v1264 : Vec F S64x128 .f32 ← Prog.lift (.load arg21 (Rect.unit (s := S64x128) ![0, 0] S64x128.size inb_S64x128_S64x128_0_0).toLoadRect (View.loadsAt_vmem h_S64x128))
  Prog.lift (.store arg21 (Rect.unit (s := S64x128) ![0, 0] S64x128.size inb_S64x128_S64x128_0_0) (k0_pay11 v1210 v1240) Finset.univ (View.stores_vmem_bits_univ h_S64x128 rfl) (.inl rfl))
  pure ⟨⟩

/-- The body is its guarded blocks, in order. -/
theorem body_blocks (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) :
    cc0_rectified_flow_final_linear (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 = (do
      (if h : k0_cond1 i = 1#1 then blkInit i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 else pure ⟨⟩)
      (if h2 : k0_cond2 i = 1#1 then (do
          (if h3 : k0_cond3 i = 1#1 then blkFinish i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h2 h3 else pure ⟨⟩)
          blkZero i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        else pure ⟨⟩)
      (if h : k0_cond4 i = 1#1 then blkBack i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h else pure ⟨⟩)
      (if h : k0_cond5 i = 1#1 then blkFwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h else pure ⟨⟩)
      pure ⟨⟩) := by
  rw [cc0_rectified_flow_final_linear_eq_skeleton]
  unfold cc0_rectified_flow_final_linear_skel
  by_cases h1 : k0_cond1 i = 1#1 <;> by_cases h2 : k0_cond2 i = 1#1 <;> by_cases h3 : k0_cond3 i = 1#1 <;>
    by_cases h4 : k0_cond4 i = 1#1 <;> by_cases h5 : k0_cond5 i = 1#1 <;>
    simp only [h1, h2, h3, h4, h5, ↓reduceDIte, blkInit, blkFinish, blkZero, blkBack, blkFwd, bind_assoc, pure_bind] <;>
    try rfl

end Cert.Kernel.Gen

end
-- ==== Proof.RunInitK.lean ====
/- The run of the block at the first grid point (`Gen.blkInit`): what its stores leave in each buffer it writes, as pieces the run finds. -/
module

public import proofs.«01_k».proof.Proof.BlocksK

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the block at the first grid point leaves in the buffers it writes, as pieces (last first) over what it found there, with the proof that it
    runs from the buffers it reads and writes at any contents `x·` to those, the read ones unchanged. -/
noncomputable def runInit (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole)
    (x4 : Vec F S64x1536 .fp8e4m3) (x5 : Vec F S1x64 .f32) (x6 : Vec F S1x64 .f32) (x12 : Vec F S64x1536 .f32) (x14 : Vec F S6x4096 .f32) (x16 : Vec F S6x64 .f32) (x22 : Vec F S64x128 .f32) (x23 : Vec F S64x128 .f32) (x24 : Vec F S64x1536 .bf16) :
    Σ' (L12 : List (View.Piece (Elt F) S64x1536 .f32)), Σ' (L14 : List (View.Piece (Elt F) S6x4096 .f32)), Σ' (L16 : List (View.Piece (Elt F) S6x64 .f32)), Σ' (L22 : List (View.Piece (Elt F) S64x128 .f32)), Σ' (L23 : List (View.Piece (Elt F) S64x128 .f32)), { L24 : List (View.Piece (Elt F) S64x1536 .bf16) //
      ∀ (E : Set ℕ) (K : PUnit → sProp 𝕄),
        iprop(owns (c : Thread nD τ) arg4 fullShare x4 ∗ owns (c : Thread nD τ) arg5 fullShare x5 ∗ owns (c : Thread nD τ) arg6 fullShare x6 ∗ owns (c : Thread nD τ) arg12 fullShare x12 ∗ owns (c : Thread nD τ) arg14 fullShare x14 ∗ owns (c : Thread nD τ) arg16 fullShare x16 ∗ owns (c : Thread nD τ) arg22 fullShare x22 ∗ owns (c : Thread nD τ) arg23 fullShare x23 ∗ owns (c : Thread nD τ) arg24 fullShare x24
            ∗ (iprop(owns (c : Thread nD τ) arg4 fullShare x4 ∗ owns (c : Thread nD τ) arg5 fullShare x5 ∗ owns (c : Thread nD τ) arg6 fullShare x6 ∗ (arg12.view.loc (c : Thread nD τ) ↦[arg12.view.set]{fullShare} arg12.view.writes (Elt F) (harg12.unread x12) L12) ∗ (arg14.view.loc (c : Thread nD τ) ↦[arg14.view.set]{fullShare} arg14.view.writes (Elt F) (harg14.unread x14) L14) ∗ (arg16.view.loc (c : Thread nD τ) ↦[arg16.view.set]{fullShare} arg16.view.writes (Elt F) (harg16.unread x16) L16) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24)) -∗ K ⟨⟩))
          ⊢ wp frame (wpE (defs₀ (F := F)) Variants.none c none) E (blkInit i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ) K } := by
  refine ⟨?_, ?_, ?_, ?_, ?_, ?_, fun E K => ?run⟩
  case run =>
    unfold blkInit
    unfold owns
    iintro ⟨⟨%f4, %hf4, H4⟩, ⟨%f5, %hf5, H5⟩, ⟨%f6, %hf6, H6⟩, ⟨%f12, %hf12, H12⟩, ⟨%f14, %hf14, H14⟩, ⟨%f16, %hf16, H16⟩, ⟨%f22, %hf22, H22⟩, ⟨%f23, %hf23, H23⟩, ⟨%f24, %hf24, H24⟩, Hk⟩
    obtain rfl := harg4.eq_unread hf4; obtain rfl := harg5.eq_unread hf5; obtain rfl := harg6.eq_unread hf6; obtain rfl := harg12.eq_unread hf12; obtain rfl := harg14.eq_unread hf14; obtain rfl := harg16.eq_unread hf16; obtain rfl := harg22.eq_unread hf22; obtain rfl := harg23.eq_unread hf23; obtain rfl := harg24.eq_unread hf24
    sl_exec
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H12]
    · iexact H12
    isplitl [H14]
    · iexact H14
    isplitl [H16]
    · iexact H16
    isplitl [H22]
    · iexact H22
    isplitl [H23]
    · iexact H23
    iexact H24

end Cert.Kernel.Gen

end
-- ==== Proof.RunFinishK.lean ====
/- The run of the block that ends a sample (`Gen.blkFinish`): what its stores leave in each buffer it writes, as pieces the run finds. -/
module

public import proofs.«01_k».proof.Proof.BlocksK

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the block that ends a sample leaves in the buffers it writes, as pieces (last first) over what it found there, with the proof that it
    runs from the buffers it reads and writes at any contents `x·` to those, the read ones unchanged. -/
noncomputable def runFinish (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h2 : k0_cond2 i = 1#1) (k0_h3 : k0_cond3 i = 1#1)
    (x2 : Vec F S6 .f32) (x9 : Vec F S6 .f32) (x16 : Vec F S6x64 .f32) (x20 : Vec F S64x128 .f32) (x21 : Vec F S64x128 .f32) (x25 : Vec F S64x128 .f32) (x26 : Vec F S64x128 .f32) :
    Σ' (L9 : List (View.Piece (Elt F) S6 .f32)), Σ' (L16 : List (View.Piece (Elt F) S6x64 .f32)), Σ' (L25 : List (View.Piece (Elt F) S64x128 .f32)), { L26 : List (View.Piece (Elt F) S64x128 .f32) //
      ∀ (E : Set ℕ) (K : PUnit → sProp 𝕄),
        iprop(owns (c : Thread nD τ) arg2 fullShare x2 ∗ owns (c : Thread nD τ) arg9 fullShare x9 ∗ owns (c : Thread nD τ) arg16 fullShare x16 ∗ owns (c : Thread nD τ) arg20 fullShare x20 ∗ owns (c : Thread nD τ) arg21 fullShare x21 ∗ owns (c : Thread nD τ) arg25 fullShare x25 ∗ owns (c : Thread nD τ) arg26 fullShare x26
            ∗ (iprop(owns (c : Thread nD τ) arg2 fullShare x2 ∗ (arg9.view.loc (c : Thread nD τ) ↦[arg9.view.set]{fullShare} arg9.view.writes (Elt F) (harg9.unread x9) L9) ∗ (arg16.view.loc (c : Thread nD τ) ↦[arg16.view.set]{fullShare} arg16.view.writes (Elt F) (harg16.unread x16) L16) ∗ owns (c : Thread nD τ) arg20 fullShare x20 ∗ owns (c : Thread nD τ) arg21 fullShare x21 ∗ (arg25.view.loc (c : Thread nD τ) ↦[arg25.view.set]{fullShare} arg25.view.writes (Elt F) (harg25.unread x25) L25) ∗ (arg26.view.loc (c : Thread nD τ) ↦[arg26.view.set]{fullShare} arg26.view.writes (Elt F) (harg26.unread x26) L26)) -∗ K ⟨⟩))
          ⊢ wp frame (wpE (defs₀ (F := F)) Variants.none c none) E (blkFinish i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h2 k0_h3) K } := by
  refine ⟨?_, ?_, ?_, ?_, fun E K => ?run⟩
  case run =>
    unfold blkFinish
    unfold owns
    iintro ⟨⟨%f2, %hf2, H2⟩, ⟨%f9, %hf9, H9⟩, ⟨%f16, %hf16, H16⟩, ⟨%f20, %hf20, H20⟩, ⟨%f21, %hf21, H21⟩, ⟨%f25, %hf25, H25⟩, ⟨%f26, %hf26, H26⟩, Hk⟩
    obtain rfl := harg2.eq_unread hf2; obtain rfl := harg9.eq_unread hf9; obtain rfl := harg16.eq_unread hf16; obtain rfl := harg20.eq_unread hf20; obtain rfl := harg21.eq_unread hf21; obtain rfl := harg25.eq_unread hf25; obtain rfl := harg26.eq_unread hf26
    sl_exec
    sl_step
    iapply Hk
    isplitl [H2]
    · iexists _; isplitr; · ipureintro; exact harg2.read_unread _
      iexact H2
    isplitl [H9]
    · iexact H9
    isplitl [H16]
    · iexact H16
    isplitl [H20]
    · iexists _; isplitr; · ipureintro; exact harg20.read_unread _
      iexact H20
    isplitl [H21]
    · iexists _; isplitr; · ipureintro; exact harg21.read_unread _
      iexact H21
    isplitl [H25]
    · iexact H25
    iexact H26

end Cert.Kernel.Gen

end
-- ==== Proof.RunZeroK.lean ====
/- The run of the block that starts a sample (`Gen.blkZero`): what its stores leave in each buffer it writes, as pieces the run finds. -/
module

public import proofs.«01_k».proof.Proof.BlocksK

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the block that starts a sample leaves in the buffers it writes, as pieces (last first) over what it found there, with the proof that it
    runs from the buffers it reads and writes at any contents `x·` to those, the read ones unchanged. -/
noncomputable def runZero (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole)
    (x20 : Vec F S64x128 .f32) (x21 : Vec F S64x128 .f32) :
    Σ' (L20 : List (View.Piece (Elt F) S64x128 .f32)), { L21 : List (View.Piece (Elt F) S64x128 .f32) //
      ∀ (E : Set ℕ) (K : PUnit → sProp 𝕄),
        iprop(owns (c : Thread nD τ) arg20 fullShare x20 ∗ owns (c : Thread nD τ) arg21 fullShare x21
            ∗ (iprop((arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21)) -∗ K ⟨⟩))
          ⊢ wp frame (wpE (defs₀ (F := F)) Variants.none c none) E (blkZero i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ) K } := by
  refine ⟨?_, ?_, fun E K => ?run⟩
  case run =>
    unfold blkZero
    unfold owns
    iintro ⟨⟨%f20, %hf20, H20⟩, ⟨%f21, %hf21, H21⟩, Hk⟩
    obtain rfl := harg20.eq_unread hf20; obtain rfl := harg21.eq_unread hf21
    sl_exec
    sl_step
    iapply Hk
    isplitl [H20]
    · iexact H20
    iexact H21

end Cert.Kernel.Gen

end
-- ==== Proof.RunBackK.lean ====
/- The run of the backward block (`Gen.blkBack`): what its stores leave in each buffer it writes, as pieces the run finds. -/
module

public import proofs.«01_k».proof.Proof.BlocksK

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the backward block leaves in the buffers it writes, as pieces (last first) over what it found there, with the proof that it
    runs from the buffers it reads and writes at any contents `x·` to those, the read ones unchanged. -/
noncomputable def runBack (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h4 : k0_cond4 i = 1#1)
    (x11 : Vec F S1x512x1536 .bf16) (x12 : Vec F S64x1536 .f32) (x15 : Vec F S1x64x512 .fp8e5m2) (x17 : Vec F S2x1x4096 .f32) (x18 : Vec F S2x4096x1536 .fp8e4m3) (x19 : Vec F S2x64x4096 .f32) (x24 : Vec F S64x1536 .bf16) (x25 : Vec F S64x128 .f32) (x26 : Vec F S64x128 .f32) :
    Σ' (L11 : List (View.Piece (Elt F) S1x512x1536 .bf16)), Σ' (L12 : List (View.Piece (Elt F) S64x1536 .f32)), { L15 : List (View.Piece (Elt F) S1x64x512 .fp8e5m2) //
      ∀ (E : Set ℕ) (K : PUnit → sProp 𝕄),
        iprop(owns (c : Thread nD τ) arg11 fullShare x11 ∗ owns (c : Thread nD τ) arg12 fullShare x12 ∗ owns (c : Thread nD τ) arg15 fullShare x15 ∗ owns (c : Thread nD τ) arg17 fullShare x17 ∗ owns (c : Thread nD τ) arg18 fullShare x18 ∗ owns (c : Thread nD τ) arg19 fullShare x19 ∗ owns (c : Thread nD τ) arg24 fullShare x24 ∗ owns (c : Thread nD τ) arg25 fullShare x25 ∗ owns (c : Thread nD τ) arg26 fullShare x26
            ∗ (iprop((arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg15.view.loc (c : Thread nD τ) ↦[arg15.view.set]{fullShare} arg15.view.writes (Elt F) (harg15.unread x15) L15) ∗ owns (c : Thread nD τ) arg17 fullShare x17 ∗ owns (c : Thread nD τ) arg18 fullShare x18 ∗ owns (c : Thread nD τ) arg19 fullShare x19 ∗ owns (c : Thread nD τ) arg24 fullShare x24 ∗ owns (c : Thread nD τ) arg25 fullShare x25 ∗ owns (c : Thread nD τ) arg26 fullShare x26) -∗ K ⟨⟩))
          ⊢ wp frame (wpE (defs₀ (F := F)) Variants.none c none) E (blkBack i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h4) K } := by
  refine ⟨?_, ?_, ?_, fun E K => ?run⟩
  case run =>
    unfold blkBack
    unfold owns
    iintro ⟨⟨%f11, %hf11, H11⟩, ⟨%f12, %hf12, H12⟩, ⟨%f15, %hf15, H15⟩, ⟨%f17, %hf17, H17⟩, ⟨%f18, %hf18, H18⟩, ⟨%f19, %hf19, H19⟩, ⟨%f24, %hf24, H24⟩, ⟨%f25, %hf25, H25⟩, ⟨%f26, %hf26, H26⟩, Hk⟩
    obtain rfl := harg11.eq_unread hf11; obtain rfl := harg12.eq_unread hf12; obtain rfl := harg15.eq_unread hf15; obtain rfl := harg17.eq_unread hf17; obtain rfl := harg18.eq_unread hf18; obtain rfl := harg19.eq_unread hf19; obtain rfl := harg24.eq_unread hf24; obtain rfl := harg25.eq_unread hf25; obtain rfl := harg26.eq_unread hf26
    sl_exec
    sl_step
    iapply Hk
    isplitl [H11]
    · iexact H11
    isplitl [H12]
    · iexact H12
    isplitl [H15]
    · iexact H15
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H24]
    · iexists _; isplitr; · ipureintro; exact harg24.read_unread _
      iexact H24
    isplitl [H25]
    · iexists _; isplitr; · ipureintro; exact harg25.read_unread _
      iexact H25
    iexists _; isplitr; · ipureintro; exact harg26.read_unread _
    iexact H26

end Cert.Kernel.Gen

end
-- ==== Proof.RunFwdK.lean ====
/- The run of the forward block (`Gen.blkFwd`): what its stores leave in each buffer it writes, as pieces the run finds. -/
module

public import proofs.«01_k».proof.Proof.BlocksK

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the forward block leaves in the buffers it writes, as pieces (last first) over what it found there, with the proof that it
    runs from the buffers it reads and writes at any contents `x·` to those, the read ones unchanged. -/
noncomputable def runFwd (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h5 : k0_cond5 i = 1#1)
    (x2 : Vec F S6 .f32) (x3 : Vec F S1x512x1536 .bf16) (x4 : Vec F S64x1536 .fp8e4m3) (x7 : Vec F S1x64x512 .bf16) (x8 : Vec F S1x64x512 .bf16) (x10 : Vec F S1x64x512 .f32) (x13 : Vec F S1x512x1536 .fp8e4m3) (x14 : Vec F S6x4096 .f32) (x17 : Vec F S2x1x4096 .f32) (x18 : Vec F S2x4096x1536 .fp8e4m3) (x19 : Vec F S2x64x4096 .f32) (x20 : Vec F S64x128 .f32) (x21 : Vec F S64x128 .f32) (x22 : Vec F S64x128 .f32) (x23 : Vec F S64x128 .f32) :
    Σ' (L10 : List (View.Piece (Elt F) S1x64x512 .f32)), Σ' (L13 : List (View.Piece (Elt F) S1x512x1536 .fp8e4m3)), Σ' (L14 : List (View.Piece (Elt F) S6x4096 .f32)), Σ' (L17 : List (View.Piece (Elt F) S2x1x4096 .f32)), Σ' (L18 : List (View.Piece (Elt F) S2x4096x1536 .fp8e4m3)), Σ' (L19 : List (View.Piece (Elt F) S2x64x4096 .f32)), Σ' (L20 : List (View.Piece (Elt F) S64x128 .f32)), { L21 : List (View.Piece (Elt F) S64x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg10 fullShare x10 ∗ owns (c : Thread nD τ) arg13 fullShare x13 ∗ owns (c : Thread nD τ) arg14 fullShare x14 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ (arg10.view.loc (c : Thread nD τ) ↦[arg10.view.set]{fullShare} arg10.view.writes (Elt F) (harg10.unread x10) L10) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ owns (c : Thread nD τ) arg22 fullShare x22 ∗ owns (c : Thread nD τ) arg23 fullShare x23) -∗ K ⟨⟩))
          ⊢ wp frame (wpE (defs₀ (F := F)) Variants.none c none) E (blkFwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h5) K } := by
  refine ⟨?_, ?_, ?_, ?_, ?_, ?_, ?_, ?_, fun E K => ?run⟩
  case run =>
    unfold blkFwd
    unfold owns
    iintro ⟨⟨%f2, %hf2, H2⟩, ⟨%f3, %hf3, H3⟩, ⟨%f4, %hf4, H4⟩, ⟨%f7, %hf7, H7⟩, ⟨%f8, %hf8, H8⟩, ⟨%f10, %hf10, H10⟩, ⟨%f13, %hf13, H13⟩, ⟨%f14, %hf14, H14⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg2.eq_unread hf2; obtain rfl := harg3.eq_unread hf3; obtain rfl := harg4.eq_unread hf4; obtain rfl := harg7.eq_unread hf7; obtain rfl := harg8.eq_unread hf8; obtain rfl := harg10.eq_unread hf10; obtain rfl := harg13.eq_unread hf13; obtain rfl := harg14.eq_unread hf14; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; isplitr; · ipureintro; exact harg7.read_unread _
      iexact H7
    isplitl [H8]
    · iexists _; isplitr; · ipureintro; exact harg8.read_unread _
      iexact H8
    isplitl [H10]
    · iexact H10
    isplitl [H13]
    · iexact H13
    isplitl [H14]
    · iexact H14
    isplitl [H17]
    · iexact H17
    isplitl [H18]
    · iexact H18
    isplitl [H19]
    · iexact H19
    isplitl [H20]
    · iexact H20
    isplitl [H21]
    · iexact H21
    isplitl [H22]
    · iexists _; isplitr; · ipureintro; exact harg22.read_unread _
      iexact H22
    iexists _; isplitr; · ipureintro; exact harg23.read_unread _
    iexact H23

end Cert.Kernel.Gen

end
-- ==== Proof.StepsK.lean ====
/- One step of the kernel body as a function on the contents of its buffers (`Gen.stBody`), and the proof that the body
   takes buffers at any contents to buffers at what that function says (`Gen.body_run`): the five blocks' runs in sequence. -/
module

public import proofs.«01_k».proof.Proof.RunInitK
public import proofs.«01_k».proof.Proof.RunFinishK
public import proofs.«01_k».proof.Proof.RunZeroK
public import proofs.«01_k».proof.Proof.RunBackK
public import proofs.«01_k».proof.Proof.RunFwdK

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's buffers: inputs `a2`..`a8`, outputs `a9`..`a16`, scratch `a17`..`a26`, each a whole buffer. -/
structure Mems where
  a2 : Memref sig .tc .smem S6 .f32
  h2 : a2.IsWhole
  a3 : Memref sig .tc .vmem S1x512x1536 .bf16
  h3 : a3.IsWhole
  a4 : Memref sig .tc .vmem S64x1536 .fp8e4m3
  h4 : a4.IsWhole
  a5 : Memref sig .tc .vmem S1x64 .f32
  h5 : a5.IsWhole
  a6 : Memref sig .tc .vmem S1x64 .f32
  h6 : a6.IsWhole
  a7 : Memref sig .tc .vmem S1x64x512 .bf16
  h7 : a7.IsWhole
  a8 : Memref sig .tc .vmem S1x64x512 .bf16
  h8 : a8.IsWhole
  a9 : Memref sig .tc .smem S6 .f32
  h9 : a9.IsWhole
  a10 : Memref sig .tc .vmem S1x64x512 .f32
  h10 : a10.IsWhole
  a11 : Memref sig .tc .vmem S1x512x1536 .bf16
  h11 : a11.IsWhole
  a12 : Memref sig .tc .vmem S64x1536 .f32
  h12 : a12.IsWhole
  a13 : Memref sig .tc .vmem S1x512x1536 .fp8e4m3
  h13 : a13.IsWhole
  a14 : Memref sig .tc .vmem S6x4096 .f32
  h14 : a14.IsWhole
  a15 : Memref sig .tc .vmem S1x64x512 .fp8e5m2
  h15 : a15.IsWhole
  a16 : Memref sig .tc .vmem S6x64 .f32
  h16 : a16.IsWhole
  a17 : Memref sig .tc .vmem S2x1x4096 .f32
  h17 : a17.IsWhole
  a18 : Memref sig .tc .vmem S2x4096x1536 .fp8e4m3
  h18 : a18.IsWhole
  a19 : Memref sig .tc .vmem S2x64x4096 .f32
  h19 : a19.IsWhole
  a20 : Memref sig .tc .vmem S64x128 .f32
  h20 : a20.IsWhole
  a21 : Memref sig .tc .vmem S64x128 .f32
  h21 : a21.IsWhole
  a22 : Memref sig .tc .vmem S64x128 .f32
  h22 : a22.IsWhole
  a23 : Memref sig .tc .vmem S64x128 .f32
  h23 : a23.IsWhole
  a24 : Memref sig .tc .vmem S64x1536 .bf16
  h24 : a24.IsWhole
  a25 : Memref sig .tc .vmem S64x128 .f32
  h25 : a25.IsWhole
  a26 : Memref sig .tc .vmem S64x128 .f32
  h26 : a26.IsWhole

/-- The contents of the input buffers. -/
structure Ins (F : FTy → Type) where
  /-- loss_weight -/
  x2 : Vec F S6 .f32
  /-- x -/
  x3 : Vec F S1x512x1536 .bf16
  /-- w -/
  x4 : Vec F S64x1536 .fp8e4m3
  /-- w_scales -/
  x5 : Vec F S1x64 .f32
  /-- b -/
  x6 : Vec F S1x64 .f32
  /-- x0 -/
  x7 : Vec F S1x64x512 .bf16
  /-- noise -/
  x8 : Vec F S1x64x512 .bf16

/-- The contents of the output and scratch buffers. -/
@[ext] structure St (F : FTy → Type) where
  /-- loss -/
  x9 : Vec F S6 .f32
  /-- pred -/
  x10 : Vec F S1x64x512 .f32
  /-- dH -/
  x11 : Vec F S1x512x1536 .bf16
  /-- dW -/
  x12 : Vec F S64x1536 .f32
  /-- h_codes -/
  x13 : Vec F S1x512x1536 .fp8e4m3
  /-- h_scales -/
  x14 : Vec F S6x4096 .f32
  /-- dv_codes -/
  x15 : Vec F S1x64x512 .fp8e5m2
  /-- dv_scales -/
  x16 : Vec F S6x64 .f32
  /-- row of scales -/
  x17 : Vec F S2x1x4096 .f32
  /-- codes kept -/
  x18 : Vec F S2x4096x1536 .fp8e4m3
  /-- gradient kept -/
  x19 : Vec F S2x64x4096 .f32
  /-- running maximum -/
  x20 : Vec F S64x128 .f32
  /-- running sum of squares -/
  x21 : Vec F S64x128 .f32
  /-- weight scales -/
  x22 : Vec F S64x128 .f32
  /-- bias -/
  x23 : Vec F S64x128 .f32
  /-- dequantised weights -/
  x24 : Vec F S64x1536 .bf16
  /-- gradient scale -/
  x25 : Vec F S64x128 .f32
  /-- inverse gradient scale -/
  x26 : Vec F S64x128 .f32

/-- The input buffers at `I`, the others at `S`. -/
def ownsAll (c : Dev nD) (M : Mems) (I : Ins F) (S : St F) : sProp 𝕄 :=
  iprop(owns (c : Thread nD τ) M.a2 fullShare I.x2
    ∗ owns (c : Thread nD τ) M.a3 fullShare I.x3
    ∗ owns (c : Thread nD τ) M.a4 fullShare I.x4
    ∗ owns (c : Thread nD τ) M.a5 fullShare I.x5
    ∗ owns (c : Thread nD τ) M.a6 fullShare I.x6
    ∗ owns (c : Thread nD τ) M.a7 fullShare I.x7
    ∗ owns (c : Thread nD τ) M.a8 fullShare I.x8
    ∗ owns (c : Thread nD τ) M.a9 fullShare S.x9
    ∗ owns (c : Thread nD τ) M.a10 fullShare S.x10
    ∗ owns (c : Thread nD τ) M.a11 fullShare S.x11
    ∗ owns (c : Thread nD τ) M.a12 fullShare S.x12
    ∗ owns (c : Thread nD τ) M.a13 fullShare S.x13
    ∗ owns (c : Thread nD τ) M.a14 fullShare S.x14
    ∗ owns (c : Thread nD τ) M.a15 fullShare S.x15
    ∗ owns (c : Thread nD τ) M.a16 fullShare S.x16
    ∗ owns (c : Thread nD τ) M.a17 fullShare S.x17
    ∗ owns (c : Thread nD τ) M.a18 fullShare S.x18
    ∗ owns (c : Thread nD τ) M.a19 fullShare S.x19
    ∗ owns (c : Thread nD τ) M.a20 fullShare S.x20
    ∗ owns (c : Thread nD τ) M.a21 fullShare S.x21
    ∗ owns (c : Thread nD τ) M.a22 fullShare S.x22
    ∗ owns (c : Thread nD τ) M.a23 fullShare S.x23
    ∗ owns (c : Thread nD τ) M.a24 fullShare S.x24
    ∗ owns (c : Thread nD τ) M.a25 fullShare S.x25
    ∗ owns (c : Thread nD τ) M.a26 fullShare S.x26)

/-- What `Gen.blkInit` makes of the contents. -/
def stInit (c : Dev nD) (i : grid0.Coords) (M : Mems)  (I : Ins F) (S : St F) : St F :=
  { S with
    x12 := M.a12.view.read (Elt F) (M.a12.view.writes (Elt F) (M.h12.unread S.x12) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).1)
    x14 := M.a14.view.read (Elt F) (M.a14.view.writes (Elt F) (M.h14.unread S.x14) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.1)
    x16 := M.a16.view.read (Elt F) (M.a16.view.writes (Elt F) (M.h16.unread S.x16) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.1)
    x22 := M.a22.view.read (Elt F) (M.a22.view.writes (Elt F) (M.h22.unread S.x22) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.2.1)
    x23 := M.a23.view.read (Elt F) (M.a23.view.writes (Elt F) (M.h23.unread S.x23) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.2.2.1)
    x24 := M.a24.view.read (Elt F) (M.a24.view.writes (Elt F) (M.h24.unread S.x24) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.2.2.2.1) }

set_option maxHeartbeats 2000000 in
theorem blkInit_run (c : Dev nD) (i : grid0.Coords) (M : Mems)  (I : Ins F) (S : St F) (E : Set ℕ) (K : PUnit → sProp 𝕄) :
    iprop(ownsAll c M I S ∗ (ownsAll c M I (stInit c i M  I S) -∗ K ⟨⟩))
      ⊢ wp frame (wpE (defs₀ (F := F)) Variants.none c none) E (blkInit i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 ) K := by
  unfold ownsAll
  iintro ⟨⟨H2, H3, H4, H5, H6, H7, H8, H9, H10, H11, H12, H13, H14, H15, H16, H17, H18, H19, H20, H21, H22, H23, H24, H25, H26⟩, Hk⟩
  iapply ((runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.2.2.2.2 E K)
  isplitl [H4]
  · iexact H4
  isplitl [H5]
  · iexact H5
  isplitl [H6]
  · iexact H6
  isplitl [H12]
  · iexact H12
  isplitl [H14]
  · iexact H14
  isplitl [H16]
  · iexact H16
  isplitl [H22]
  · iexact H22
  isplitl [H23]
  · iexact H23
  isplitl [H24]
  · iexact H24
  iintro ⟨G4, G5, G6, G12, G14, G16, G22, G23, G24⟩
  iapply Hk
  isplitl [H2]
  · iexact H2
  isplitl [H3]
  · iexact H3
  isplitl [G4]
  · iexact G4
  isplitl [G5]
  · iexact G5
  isplitl [G6]
  · iexact G6
  isplitl [H7]
  · iexact H7
  isplitl [H8]
  · iexact H8
  isplitl [H9]
  · iexact H9
  isplitl [H10]
  · iexact H10
  isplitl [H11]
  · iexact H11
  isplitl [G12]
  · unfold owns
    iexists _
    isplitr
    · ipureintro; exact rfl
    iexact G12
  isplitl [H13]
  · iexact H13
  isplitl [G14]
  · unfold owns
    iexists _
    isplitr
    · ipureintro; exact rfl
    iexact G14
  isplitl [H15]
  · iexact H15
  isplitl [G16]
  · unfold owns
    iexists _
    isplitr
    · ipureintro; exact rfl
    iexact G16
  isplitl [H17]
  · iexact H17
  isplitl [H18]
  · iexact H18
  isplitl [H19]
  · iexact H19
  isplitl [H20]
  · iexact H20
  isplitl [H21]
  · iexact H21
  isplitl [G22]
  · unfold owns
    iexists _
    isplitr
    · ipureintro; exact rfl
    iexact G22
  isplitl [G23]
  · unfold owns
    iexists _
    isplitr
    · ipureintro; exact rfl
    iexact G23
  isplitl [G24]
  · unfold owns
    iexists _
    isplitr
    · ipureintro; exact rfl
    iexact G24
  isplitl [H25]
  · iexact H25
  iexact H26

/-- What `Gen.blkFinish` makes of the contents. -/
def stFinish (c : Dev nD) (i : grid0.Coords) (M : Mems) (k0_h2 : k0_cond2 i = 1#1) (k0_h3 : k0_cond3 i = 1#1) (I : Ins F) (S : St F) : St F :=
  { S with
    x9 := M.a9.view.read (Elt F) (M.a9.view.writes (Elt F) (M.h9.unread S.x9) (runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).1)
    x16 := M.a16.view.read (Elt F) (M.a16.view.writes (Elt F) (M.h16.unread S.x16) (runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).2.1)
    x25 := M.a25.view.read (Elt F) (M.a25.view.writes (Elt F) (M.h25.unread S.x25) (runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).2.2.1)
    x26 := M.a26.view.read (Elt F) (M.a26.view.writes (Elt F) (M.h26.unread S.x26) (runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).2.2.2.1) }

set_option maxHeartbeats 2000000 in
theorem blkFinish_run (c : Dev nD) (i : grid0.Coords) (M : Mems) (k0_h2 : k0_cond2 i = 1#1) (k0_h3 : k0_cond3 i = 1#1) (I : Ins F) (S : St F) (E : Set ℕ) (K : PUnit → sProp 𝕄) :
    iprop(ownsAll c M I S ∗ (ownsAll c M I (stFinish c i M k0_h2 k0_h3 I S) -∗ K ⟨⟩))
      ⊢ wp frame (wpE (defs₀ (F := F)) Variants.none c none) E (blkFinish i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3) K := by
  unfold ownsAll
  iintro ⟨⟨H2, H3, H4, H5, H6, H7, H8, H9, H10, H11, H12, H13, H14, H15, H16, H17, H18, H19, H20, H21, H22, H23, H24, H25, H26⟩, Hk⟩
  iapply ((runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).2.2.2.2 E K)
  isplitl [H2]
  · iexact H2
  isplitl [H9]
  · iexact H9
  isplitl [H16]
  · iexact H16
  isplitl [H20]
  · iexact H20
  isplitl [H21]
  · iexact H21
  isplitl [H25]
  · iexact H25
  isplitl [H26]
  · iexact H26
  iintro ⟨G2, G9, G16, G20, G21, G25, G26⟩
  iapply Hk
  isplitl [G2]
  · iexact G2
  isplitl [H3]
  · iexact H3
  isplitl [H4]
  · iexact H4
  isplitl [H5]
  · iexact H5
  isplitl [H6]
  · iexact H6
  isplitl [H7]
  · iexact H7
  isplitl [H8]
  · iexact H8
  isplitl [G9]
  · unfold owns
    iexists _
    isplitr
    · ipureintro; exact rfl
    iexact G9
  isplitl [H10]
  · iexact H10
  isplitl [H11]
  · iexact H11
  isplitl [H12]
  · iexact H12
  isplitl [H13]
  · iexact H13
  isplitl [H14]
  · iexact H14
  isplitl [H15]
  · iexact H15
  isplitl [G16]
  · unfold owns
    iexists _
    isplitr
    · ipureintro; exact rfl
    iexact G16
  isplitl [H17]
  · iexact H17
  isplitl [H18]
  · iexact H18
  isplitl [H19]
  · iexact H19
  isplitl [G20]
  · iexact G20
  isplitl [G21]
  · iexact G21
  isplitl [H22]
  · iexact H22
  isplitl [H23]
  · iexact H23
  isplitl [H24]
  · iexact H24
  isplitl [G25]
  · unfold owns
    iexists _
    isplitr
    · ipureintro; exact rfl
    iexact G25
  unfold owns
  iexists _
  isplitr
  · ipureintro; exact rfl
  iexact G26

/-- What `Gen.blkZero` makes of the contents. -/
def stZero (c : Dev nD) (i : grid0.Coords) (M : Mems)  (I : Ins F) (S : St F) : St F :=
  { S with
    x20 := M.a20.view.read (Elt F) (M.a20.view.writes (Elt F) (M.h20.unread S.x20) (runZero c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  S.x20 S.x21).1)
    x21 := M.a21.view.read (Elt F) (M.a21.view.writes (Elt F) (M.h21.unread S.x21) (runZero c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  S.x20 S.x21).2.1) }

set_option maxHeartbeats 2000000 in
theorem blkZero_run (c : Dev nD) (i : grid0.Coords) (M : Mems)  (I : Ins F) (S : St F) (E : Set ℕ) (K : PUnit → sProp 𝕄) :
    iprop(ownsAll c M I S ∗ (ownsAll c M I (stZero c i M  I S) -∗ K ⟨⟩))
      ⊢ wp frame (wpE (defs₀ (F := F)) Variants.none c none) E (blkZero i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 ) K := by
  unfold ownsAll
  iintro ⟨⟨H2, H3, H4, H5, H6, H7, H8, H9, H10, H11, H12, H13, H14, H15, H16, H17, H18, H19, H20, H21, H22, H23, H24, H25, H26⟩, Hk⟩
  iapply ((runZero c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  S.x20 S.x21).2.2 E K)
  isplitl [H20]
  · iexact H20
  isplitl [H21]
  · iexact H21
  iintro ⟨G20, G21⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [G20]
  · unfold owns
    iexists _
    isplitr
    · ipureintro; exact rfl
    iexact G20
  isplitl [G21]
  · unfold owns
    iexists _
    isplitr
    · ipureintro; exact rfl
    iexact G21
  isplitl [H22]
  · iexact H22
  isplitl [H23]
  · iexact H23
  isplitl [H24]
  · iexact H24
  isplitl [H25]
  · iexact H25
  iexact H26

/-- What `Gen.blkBack` makes of the contents. -/
def stBack (c : Dev nD) (i : grid0.Coords) (M : Mems) (k0_h4 : k0_cond4 i = 1#1) (I : Ins F) (S : St F) : St F :=
  { S with
    x11 := M.a11.view.read (Elt F) (M.a11.view.writes (Elt F) (M.h11.unread S.x11) (runBack c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4 S.x11 S.x12 S.x15 S.x17 S.x18 S.x19 S.x24 S.x25 S.x26).1)
    x12 := M.a12.view.read (Elt F) (M.a12.view.writes (Elt F) (M.h12.unread S.x12) (runBack c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4 S.x11 S.x12 S.x15 S.x17 S.x18 S.x19 S.x24 S.x25 S.x26).2.1)
    x15 := M.a15.view.read (Elt F) (M.a15.view.writes (Elt F) (M.h15.unread S.x15) (runBack c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4 S.x11 S.x12 S.x15 S.x17 S.x18 S.x19 S.x24 S.x25 S.x26).2.2.1) }

set_option maxHeartbeats 2000000 in
theorem blkBack_run (c : Dev nD) (i : grid0.Coords) (M : Mems) (k0_h4 : k0_cond4 i = 1#1) (I : Ins F) (S : St F) (E : Set ℕ) (K : PUnit → sProp 𝕄) :
    iprop(ownsAll c M I S ∗ (ownsAll c M I (stBack c i M k0_h4 I S) -∗ K ⟨⟩))
      ⊢ wp frame (wpE (defs₀ (F := F)) Variants.none c none) E (blkBack i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4) K := by
  unfold ownsAll
  iintro ⟨⟨H2, H3, H4, H5, H6, H7, H8, H9, H10, H11, H12, H13, H14, H15, H16, H17, H18, H19, H20, H21, H22, H23, H24, H25, H26⟩, Hk⟩
  iapply ((runBack c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4 S.x11 S.x12 S.x15 S.x17 S.x18 S.x19 S.x24 S.x25 S.x26).2.2.2 E K)
  isplitl [H11]
  · iexact H11
  isplitl [H12]
  · iexact H12
  isplitl [H15]
  · iexact H15
  isplitl [H17]
  · iexact H17
  isplitl [H18]
  · iexact H18
  isplitl [H19]
  · iexact H19
  isplitl [H24]
  · iexact H24
  isplitl [H25]
  · iexact H25
  isplitl [H26]
  · iexact H26
  iintro ⟨G11, G12, G15, G17, G18, G19, G24, G25, G26⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [G11]
  · unfold owns
    iexists _
    isplitr
    · ipureintro; exact rfl
    iexact G11
  isplitl [G12]
  · unfold owns
    iexists _
    isplitr
    · ipureintro; exact rfl
    iexact G12
  isplitl [H13]
  · iexact H13
  isplitl [H14]
  · iexact H14
  isplitl [G15]
  · unfold owns
    iexists _
    isplitr
    · ipureintro; exact rfl
    iexact G15
  isplitl [H16]
  · iexact H16
  isplitl [G17]
  · iexact G17
  isplitl [G18]
  · iexact G18
  isplitl [G19]
  · iexact G19
  isplitl [H20]
  · iexact H20
  isplitl [H21]
  · iexact H21
  isplitl [H22]
  · iexact H22
  isplitl [H23]
  · iexact H23
  isplitl [G24]
  · iexact G24
  isplitl [G25]
  · iexact G25
  iexact G26

/-- What `Gen.blkFwd` makes of the contents. -/
def stFwd (c : Dev nD) (i : grid0.Coords) (M : Mems) (k0_h5 : k0_cond5 i = 1#1) (I : Ins F) (S : St F) : St F :=
  { S with
    x10 := M.a10.view.read (Elt F) (M.a10.view.writes (Elt F) (M.h10.unread S.x10) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).1)
    x13 := M.a13.view.read (Elt F) (M.a13.view.writes (Elt F) (M.h13.unread S.x13) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.1)
    x14 := M.a14.view.read (Elt F) (M.a14.view.writes (Elt F) (M.h14.unread S.x14) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.1)
    x17 := M.a17.view.read (Elt F) (M.a17.view.writes (Elt F) (M.h17.unread S.x17) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.1)
    x18 := M.a18.view.read (Elt F) (M.a18.view.writes (Elt F) (M.h18.unread S.x18) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.1)
    x19 := M.a19.view.read (Elt F) (M.a19.view.writes (Elt F) (M.h19.unread S.x19) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.2.1)
    x20 := M.a20.view.read (Elt F) (M.a20.view.writes (Elt F) (M.h20.unread S.x20) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.2.2.1)
    x21 := M.a21.view.read (Elt F) (M.a21.view.writes (Elt F) (M.h21.unread S.x21) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.2.2.2.1) }

set_option maxHeartbeats 2000000 in
theorem blkFwd_run (c : Dev nD) (i : grid0.Coords) (M : Mems) (k0_h5 : k0_cond5 i = 1#1) (I : Ins F) (S : St F) (E : Set ℕ) (K : PUnit → sProp 𝕄) :
    iprop(ownsAll c M I S ∗ (ownsAll c M I (stFwd c i M k0_h5 I S) -∗ K ⟨⟩))
      ⊢ wp frame (wpE (defs₀ (F := F)) Variants.none c none) E (blkFwd i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5) K := by
  unfold ownsAll
  iintro ⟨⟨H2, H3, H4, H5, H6, H7, H8, H9, H10, H11, H12, H13, H14, H15, H16, H17, H18, H19, H20, H21, H22, H23, H24, H25, H26⟩, Hk⟩
  iapply ((runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.2.2.2.2 E K)
  isplitl [H2]
  · iexact H2
  isplitl [H3]
  · iexact H3
  isplitl [H4]
  · iexact H4
  isplitl [H7]
  · iexact H7
  isplitl [H8]
  · iexact H8
  isplitl [H10]
  · iexact H10
  isplitl [H13]
  · iexact H13
  isplitl [H14]
  · iexact H14
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  iintro ⟨G2, G3, G4, G7, G8, G10, G13, G14, G17, G18, G19, G20, G21, G22, G23⟩
  iapply Hk
  isplitl [G2]
  · iexact G2
  isplitl [G3]
  · iexact G3
  isplitl [G4]
  · iexact G4
  isplitl [H5]
  · iexact H5
  isplitl [H6]
  · iexact H6
  isplitl [G7]
  · iexact G7
  isplitl [G8]
  · iexact G8
  isplitl [H9]
  · iexact H9
  isplitl [G10]
  · unfold owns
    iexists _
    isplitr
    · ipureintro; exact rfl
    iexact G10
  isplitl [H11]
  · iexact H11
  isplitl [H12]
  · iexact H12
  isplitl [G13]
  · unfold owns
    iexists _
    isplitr
    · ipureintro; exact rfl
    iexact G13
  isplitl [G14]
  · unfold owns
    iexists _
    isplitr
    · ipureintro; exact rfl
    iexact G14
  isplitl [H15]
  · iexact H15
  isplitl [H16]
  · iexact H16
  isplitl [G17]
  · unfold owns
    iexists _
    isplitr
    · ipureintro; exact rfl
    iexact G17
  isplitl [G18]
  · unfold owns
    iexists _
    isplitr
    · ipureintro; exact rfl
    iexact G18
  isplitl [G19]
  · unfold owns
    iexists _
    isplitr
    · ipureintro; exact rfl
    iexact G19
  isplitl [G20]
  · unfold owns
    iexists _
    isplitr
    · ipureintro; exact rfl
    iexact G20
  isplitl [G21]
  · unfold owns
    iexists _
    isplitr
    · ipureintro; exact rfl
    iexact G21
  isplitl [G22]
  · iexact G22
  isplitl [G23]
  · iexact G23
  isplitl [H24]
  · iexact H24
  isplitl [H25]
  · iexact H25
  iexact H26

/-- The contents after one step of the body at grid point `i`. -/
def stBody (c : Dev nD) (i : grid0.Coords) (M : Mems) (I : Ins F) (S : St F) : St F :=
  let S₁ := if _h : k0_cond1 i = 1#1 then stInit c i M I S else S
  let S₂ := if h2 : k0_cond2 i = 1#1 then
      stZero c i M I (if h3 : k0_cond3 i = 1#1 then stFinish c i M h2 h3 I S₁ else S₁)
    else S₁
  let S₃ := if h : k0_cond4 i = 1#1 then stBack c i M h I S₂ else S₂
  if h : k0_cond5 i = 1#1 then stFwd c i M h I S₃ else S₃

/-- From `A` the program runs to `B`. -/
def Runs (c : Dev nD) (A : sProp 𝕄) (p : Prog (TpuEff nD τ sig (Elt F) Λ₀ .tc) PUnit) (B : sProp 𝕄) : Prop :=
  ∀ (E : Set ℕ) (K : PUnit → sProp 𝕄), iprop(A ∗ (B -∗ K ⟨⟩)) ⊢ wp frame (wpE (defs₀ (F := F)) Variants.none c none) E p K

theorem Runs.nil (c : Dev nD) (A : sProp 𝕄) : Runs (F := F) c A (pure ⟨⟩) A := fun E K => by
  simp only [wp_pure]
  iintro ⟨H, Hk⟩
  ihave H2 := Hk $$ H
  imodintro
  iexact H2

theorem Runs.seq {c : Dev nD} {A B C : sProp 𝕄} {p q : Prog (TpuEff nD τ sig (Elt F) Λ₀ .tc) PUnit}
    (hp : Runs c A p B) (hq : Runs c B q C) : Runs c A (p >>= fun _ => q) C := fun E K => by
  rw [wp_bind]
  refine .trans ?_ (hp E _)
  iintro ⟨H, Hk⟩
  isplitl [H]
  · iexact H
  iintro H
  iapply (hq E K)
  isplitl [H]
  · iexact H
  iexact Hk

theorem Runs.dite {c : Dev nD} {M : Mems} {I : Ins F} {S : St F} {P : Prop} [Decidable P]
    {p : P → Prog (TpuEff nD τ sig (Elt F) Λ₀ .tc) PUnit} {f : P → St F}
    (h : ∀ hp, Runs c (ownsAll c M I S) (p hp) (ownsAll c M I (f hp))) :
    Runs c (ownsAll c M I S) (if hp : P then p hp else pure ⟨⟩) (ownsAll c M I (if hp : P then f hp else S)) := by
  by_cases hp : P
  · rw [dif_pos hp, dif_pos hp]; exact h hp
  · rw [dif_neg hp, dif_neg hp]; exact Runs.nil c _

/-- The body takes the buffers from `S` to `Gen.stBody` of it, the inputs as they were. -/
theorem body_run (c : Dev nD) (i : grid0.Coords) (M : Mems) (I : Ins F) (S : St F) :
    Runs c (ownsAll c M I S) (cc0_rectified_flow_final_linear i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26) (ownsAll c M I (stBody c i M I S)) := by
  rw [body_blocks]
  unfold stBody
  refine Runs.seq (Runs.dite fun _ => fun E K => blkInit_run c i M I _ E K) ?_
  refine Runs.seq (Runs.dite fun h2 => Runs.seq (Runs.dite fun h3 => fun E K => blkFinish_run c i M h2 h3 I _ E K)
    fun E K => blkZero_run c i M I _ E K) ?_
  refine Runs.seq (Runs.dite fun h4 => fun E K => blkBack_run c i M h4 I _ E K) ?_
  exact Runs.seq (Runs.dite fun h5 => fun E K => blkFwd_run c i M h5 I _ E K) (Runs.nil c _)

end Cert.Kernel.Gen

end
-- ==== Proof.TrackK.lean ====
/- The frame of the kernel: the pipeline's relational proof data over a statement of what the scratch buffers hold before
   each grid point and what the body may leave in each output's staging buffer (`Gen.Track`), the body obligation from
   one fact about `Gen.stBody` (`Gen.Track.Ok`), and the run (`Gen.run_track`); then the frame claim itself (`Gen.frame`),
   from the statement that says nothing (`Gen.noTrack`). -/
module

public import proofs.«01_k».proof.Proof.StepsK
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of the body at grid point `t`: the windows' current staging buffers and the scratch buffers. -/
def memsAt (t : Fin cfg0.N) : Mems where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := win0_13.stage (cfg0.slots t 13)
  h15 := hstage0_13 ((cfg0.slots t 13).cast nbuf0_13)
  a16 := win0_14.stage (cfg0.slots t 14)
  h16 := hstage0_14 ((cfg0.slots t 14).cast nbuf0_14)
  a17 := Memref.whole cc0_scratch0
  h17 := Memref.isWhole_whole _
  a18 := Memref.whole cc0_scratch1
  h18 := Memref.isWhole_whole _
  a19 := Memref.whole cc0_scratch2
  h19 := Memref.isWhole_whole _
  a20 := Memref.whole cc0_scratch3
  h20 := Memref.isWhole_whole _
  a21 := Memref.whole cc0_scratch4
  h21 := Memref.isWhole_whole _
  a22 := Memref.whole cc0_scratch5
  h22 := Memref.isWhole_whole _
  a23 := Memref.whole cc0_scratch6
  h23 := Memref.isWhole_whole _
  a24 := Memref.whole cc0_scratch7
  h24 := Memref.isWhole_whole _
  a25 := Memref.whole cc0_scratch8
  h25 := Memref.isWhole_whole _
  a26 := Memref.whole cc0_scratch9
  h26 := Memref.isWhole_whole _

/-- The contents of the scratch buffers. -/
structure Scr (F : FTy → Type) where
  x17 : Vec F S2x1x4096 .f32
  x18 : Vec F S2x4096x1536 .fp8e4m3
  x19 : Vec F S2x64x4096 .f32
  x20 : Vec F S64x128 .f32
  x21 : Vec F S64x128 .f32
  x22 : Vec F S64x128 .f32
  x23 : Vec F S64x128 .f32
  x24 : Vec F S64x1536 .bf16
  x25 : Vec F S64x128 .f32
  x26 : Vec F S64x128 .f32

/-- The scratch part of the contents. -/
def St.scr (S : St F) : Scr F := ⟨S.x17, S.x18, S.x19, S.x20, S.x21, S.x22, S.x23, S.x24, S.x25, S.x26⟩

/-- Contents of every window's block. -/
abbrev Blocks (F : FTy → Type) : Type := (w : Fin cfg0.W) → (cfg0.win w).block.Idx → Elt F (cfg0.win w).elt

/-- The input blocks. -/
def insOf (Y : Blocks F) : Ins F := ⟨Y 0, Y 1, Y 2, Y 3, Y 4, Y 5, Y 6⟩

/-- The output blocks and the scratch contents. -/
def stOf (Y : Blocks F) (Z : Scr F) : St F := ⟨Y 7, Y 8, Y 9, Y 10, Y 11, Y 12, Y 13, Y 14, Z.x17, Z.x18, Z.x19, Z.x20, Z.x21, Z.x22, Z.x23, Z.x24, Z.x25, Z.x26⟩

/-- What is stated of the run point by point: of the scratch buffers before point `t` (`inv`), and of each output's staging
    buffer after it (`o7`..`o14`, by window). -/
structure Track (F : FTy → Type) where
  inv : Fin (cfg0.N + 1) → Scr F → Prop
  o7 : Fin cfg0.N → Vec F S6 .f32 → Prop
  o8 : Fin cfg0.N → Vec F S1x64x512 .f32 → Prop
  o9 : Fin cfg0.N → Vec F S1x512x1536 .bf16 → Prop
  o10 : Fin cfg0.N → Vec F S64x1536 .f32 → Prop
  o11 : Fin cfg0.N → Vec F S1x512x1536 .fp8e4m3 → Prop
  o12 : Fin cfg0.N → Vec F S6x4096 .f32 → Prop
  o13 : Fin cfg0.N → Vec F S1x64x512 .fp8e5m2 → Prop
  o14 : Fin cfg0.N → Vec F S6x64 .f32 → Prop

/-- The scratch buffers at `Z`. -/
def scrOwns (c : Dev nD) (Z : Scr F) : sProp 𝕄 :=
  iprop(owns (c : Thread nD τ) (Memref.whole cc0_scratch0) fullShare Z.x17
    ∗ owns (c : Thread nD τ) (Memref.whole cc0_scratch1) fullShare Z.x18
    ∗ owns (c : Thread nD τ) (Memref.whole cc0_scratch2) fullShare Z.x19
    ∗ owns (c : Thread nD τ) (Memref.whole cc0_scratch3) fullShare Z.x20
    ∗ owns (c : Thread nD τ) (Memref.whole cc0_scratch4) fullShare Z.x21
    ∗ owns (c : Thread nD τ) (Memref.whole cc0_scratch5) fullShare Z.x22
    ∗ owns (c : Thread nD τ) (Memref.whole cc0_scratch6) fullShare Z.x23
    ∗ owns (c : Thread nD τ) (Memref.whole cc0_scratch7) fullShare Z.x24
    ∗ owns (c : Thread nD τ) (Memref.whole cc0_scratch8) fullShare Z.x25
    ∗ owns (c : Thread nD τ) (Memref.whole cc0_scratch9) fullShare Z.x26)

/-- The pipeline's proof data: inputs are left as found, the rest is what `T` states. -/
def rdat (T : Dev nD → Track F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => (T c).o7 t X
    | ⟨8, _⟩ => fun _ X => (T c).o8 t X
    | ⟨9, _⟩ => fun _ X => (T c).o9 t X
    | ⟨10, _⟩ => fun _ X => (T c).o10 t X
    | ⟨11, _⟩ => fun _ X => (T c).o11 t X
    | ⟨12, _⟩ => fun _ X => (T c).o12 t X
    | ⟨13, _⟩ => fun _ X => (T c).o13 t X
    | ⟨14, _⟩ => fun _ X => (T c).o14 t X
  Φ t := iprop((∃ Z : Scr F, ⌜(T c).inv t Z⌝ ∗ scrOwns c Z) ∗ (∃ r, prngReg c r))
  q _ := fullShare
  owed _ := 0

theorem A_eq (T : Dev nD → Track F) (c : Dev nD) (w : Fin cfg0.W) : (rdat m T c).A w = V m c (Pipeline.arrRef spec0 w) := by
  dsimp only [rdat]

/-- The statement holds before the first point and each step of the body keeps it. -/
structure Track.Ok (T : Dev nD → Track F) : Prop where
  zero : ∀ c Z, (T c).inv 0 Z
  step : ∀ (c : Dev nD) (t : Fin cfg0.N) (Y : Blocks F) (Z : Scr F), (∀ w, (rdat m T c).Finds w t (Y w)) → (T c).inv t.castSucc Z →
    (T c).inv t.succ (stBody c (grid0.coords t) (memsAt t) (insOf Y) (stOf Y Z)).scr
      ∧ (T c).o7 t (stBody c (grid0.coords t) (memsAt t) (insOf Y) (stOf Y Z)).x9
      ∧ (T c).o8 t (stBody c (grid0.coords t) (memsAt t) (insOf Y) (stOf Y Z)).x10
      ∧ (T c).o9 t (stBody c (grid0.coords t) (memsAt t) (insOf Y) (stOf Y Z)).x11
      ∧ (T c).o10 t (stBody c (grid0.coords t) (memsAt t) (insOf Y) (stOf Y Z)).x12
      ∧ (T c).o11 t (stBody c (grid0.coords t) (memsAt t) (insOf Y) (stOf Y Z)).x13
      ∧ (T c).o12 t (stBody c (grid0.coords t) (memsAt t) (insOf Y) (stOf Y Z)).x14
      ∧ (T c).o13 t (stBody c (grid0.coords t) (memsAt t) (insOf Y) (stOf Y Z)).x15
      ∧ (T c).o14 t (stBody c (grid0.coords t) (memsAt t) (insOf Y) (stOf Y Z)).x16

/-- What the body is called with at point `t`, -/
def bodyPre (T : Dev nD → Track F) (c : Dev nD) (t : Fin cfg0.N) (Y : Blocks F) : sProp 𝕄 :=
  iprop((rdat m T c).Φ t.castSucc ∗ (rdat m T c).owesAt () t.castSucc
    ∗ owns (c : Thread nD τ) (memsAt t).a2 fullShare (Y 0)
    ∗ owns (c : Thread nD τ) (memsAt t).a3 fullShare (Y 1)
    ∗ owns (c : Thread nD τ) (memsAt t).a4 fullShare (Y 2)
    ∗ owns (c : Thread nD τ) (memsAt t).a5 fullShare (Y 3)
    ∗ owns (c : Thread nD τ) (memsAt t).a6 fullShare (Y 4)
    ∗ owns (c : Thread nD τ) (memsAt t).a7 fullShare (Y 5)
    ∗ owns (c : Thread nD τ) (memsAt t).a8 fullShare (Y 6)
    ∗ owns (c : Thread nD τ) (memsAt t).a9 fullShare (Y 7)
    ∗ owns (c : Thread nD τ) (memsAt t).a10 fullShare (Y 8)
    ∗ owns (c : Thread nD τ) (memsAt t).a11 fullShare (Y 9)
    ∗ owns (c : Thread nD τ) (memsAt t).a12 fullShare (Y 10)
    ∗ owns (c : Thread nD τ) (memsAt t).a13 fullShare (Y 11)
    ∗ owns (c : Thread nD τ) (memsAt t).a14 fullShare (Y 12)
    ∗ owns (c : Thread nD τ) (memsAt t).a15 fullShare (Y 13)
    ∗ owns (c : Thread nD τ) (memsAt t).a16 fullShare (Y 14))

/-- and what it returns. -/
def bodyPost (T : Dev nD → Track F) (c : Dev nD) (t : Fin cfg0.N) (Y : Blocks F) : sProp 𝕄 :=
  iprop((rdat m T c).Φ t.succ ∗ (rdat m T c).owesAt () t.succ
    ∗ (∃ X, ⌜(rdat m T c).after 0 t (Y 0) X⌝ ∗ owns (c : Thread nD τ) (memsAt t).a2 fullShare X)
    ∗ (∃ X, ⌜(rdat m T c).after 1 t (Y 1) X⌝ ∗ owns (c : Thread nD τ) (memsAt t).a3 fullShare X)
    ∗ (∃ X, ⌜(rdat m T c).after 2 t (Y 2) X⌝ ∗ owns (c : Thread nD τ) (memsAt t).a4 fullShare X)
    ∗ (∃ X, ⌜(rdat m T c).after 3 t (Y 3) X⌝ ∗ owns (c : Thread nD τ) (memsAt t).a5 fullShare X)
    ∗ (∃ X, ⌜(rdat m T c).after 4 t (Y 4) X⌝ ∗ owns (c : Thread nD τ) (memsAt t).a6 fullShare X)
    ∗ (∃ X, ⌜(rdat m T c).after 5 t (Y 5) X⌝ ∗ owns (c : Thread nD τ) (memsAt t).a7 fullShare X)
    ∗ (∃ X, ⌜(rdat m T c).after 6 t (Y 6) X⌝ ∗ owns (c : Thread nD τ) (memsAt t).a8 fullShare X)
    ∗ (∃ X, ⌜(rdat m T c).after 7 t (Y 7) X⌝ ∗ owns (c : Thread nD τ) (memsAt t).a9 fullShare X)
    ∗ (∃ X, ⌜(rdat m T c).after 8 t (Y 8) X⌝ ∗ owns (c : Thread nD τ) (memsAt t).a10 fullShare X)
    ∗ (∃ X, ⌜(rdat m T c).after 9 t (Y 9) X⌝ ∗ owns (c : Thread nD τ) (memsAt t).a11 fullShare X)
    ∗ (∃ X, ⌜(rdat m T c).after 10 t (Y 10) X⌝ ∗ owns (c : Thread nD τ) (memsAt t).a12 fullShare X)
    ∗ (∃ X, ⌜(rdat m T c).after 11 t (Y 11) X⌝ ∗ owns (c : Thread nD τ) (memsAt t).a13 fullShare X)
    ∗ (∃ X, ⌜(rdat m T c).after 12 t (Y 12) X⌝ ∗ owns (c : Thread nD τ) (memsAt t).a14 fullShare X)
    ∗ (∃ X, ⌜(rdat m T c).after 13 t (Y 13) X⌝ ∗ owns (c : Thread nD τ) (memsAt t).a15 fullShare X)
    ∗ (∃ X, ⌜(rdat m T c).after 14 t (Y 14) X⌝ ∗ owns (c : Thread nD τ) (memsAt t).a16 fullShare X))

set_option maxHeartbeats 2000000 in
/-- The body at any point. -/
theorem sound_body (T : Dev nD → Track F) (hT : Track.Ok m T) (c : Dev nD) (t : Fin cfg0.N) (Y : Blocks F) (hY : ∀ w, (rdat m T c).Finds w t (Y w)) :
    bodyPre m T c t Y ⊢ wp frame (wpE (defs₀ (F := F)) Variants.none c none) Set.univ (bodyAt0 t) (fun _ => bodyPost m T c t Y) := by
  unfold bodyPre bodyPost
  rw [show (rdat m T c).owesAt () t.succ = (rdat m T c).owesAt () t.castSucc from rfl]
  rw [show (rdat m T c).Φ t.succ = iprop((∃ Z : Scr F, ⌜(T c).inv t.succ Z⌝ ∗ scrOwns c Z) ∗ (∃ r, prngReg c r)) from rfl]
  rw [show (rdat m T c).Φ t.castSucc = iprop((∃ Z : Scr F, ⌜(T c).inv t.castSucc Z⌝ ∗ scrOwns c Z) ∗ (∃ r, prngReg c r)) from rfl]
  unfold scrOwns
  iintro ⟨⟨⟨%Z, %hZ, Z0, Z1, Z2, Z3, Z4, Z5, Z6, Z7, Z8, Z9⟩, Hg⟩, Ho, H0, H1, H2, H3, H4, H5, H6, H7, H8, H9, H10, H11, H12, H13, H14⟩
  have hrun := body_run c (grid0.coords t) (memsAt t) (insOf Y) (stOf Y Z)
  have hstep := hT.step c t Y Z hY hZ
  generalize hS : stBody c (grid0.coords t) (memsAt t) (insOf Y) (stOf Y Z) = S' at hrun hstep
  unfold Runs ownsAll at hrun
  obtain ⟨hi, q7, q8, q9, q10, q11, q12, q13, q14⟩ := hstep
  iapply (hrun Set.univ _)
  isplitl [H0 H1 H2 H3 H4 H5 H6 H7 H8 H9 H10 H11 H12 H13 H14 Z0 Z1 Z2 Z3 Z4 Z5 Z6 Z7 Z8 Z9]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [Z0]
    · iexact Z0
    isplitl [Z1]
    · iexact Z1
    isplitl [Z2]
    · iexact Z2
    isplitl [Z3]
    · iexact Z3
    isplitl [Z4]
    · iexact Z4
    isplitl [Z5]
    · iexact Z5
    isplitl [Z6]
    · iexact Z6
    isplitl [Z7]
    · iexact Z7
    isplitl [Z8]
    · iexact Z8
    iexact Z9
  iintro ⟨H0, H1, H2, H3, H4, H5, H6, H7, H8, H9, H10, H11, H12, H13, H14, Z0, Z1, Z2, Z3, Z4, Z5, Z6, Z7, Z8, Z9⟩
  isplitl [Z0 Z1 Z2 Z3 Z4 Z5 Z6 Z7 Z8 Z9 Hg]
  · isplitr [Hg]
    · iexists S'.scr
      isplitr
      · ipureintro; exact hi
      isplitl [Z0]
      · iexact Z0
      isplitl [Z1]
      · iexact Z1
      isplitl [Z2]
      · iexact Z2
      isplitl [Z3]
      · iexact Z3
      isplitl [Z4]
      · iexact Z4
      isplitl [Z5]
      · iexact Z5
      isplitl [Z6]
      · iexact Z6
      isplitl [Z7]
      · iexact Z7
      isplitl [Z8]
      · iexact Z8
      iexact Z9
    iexact Hg
  isplitl [Ho]
  · iexact Ho
  isplitl [H0]
  · iexists _
    isplitr
    · ipureintro; exact rfl
    iexact H0
  isplitl [H1]
  · iexists _
    isplitr
    · ipureintro; exact rfl
    iexact H1
  isplitl [H2]
  · iexists _
    isplitr
    · ipureintro; exact rfl
    iexact H2
  isplitl [H3]
  · iexists _
    isplitr
    · ipureintro; exact rfl
    iexact H3
  isplitl [H4]
  · iexists _
    isplitr
    · ipureintro; exact rfl
    iexact H4
  isplitl [H5]
  · iexists _
    isplitr
    · ipureintro; exact rfl
    iexact H5
  isplitl [H6]
  · iexists _
    isplitr
    · ipureintro; exact rfl
    iexact H6
  isplitl [H7]
  · iexists _
    isplitr
    · ipureintro; exact q7
    iexact H7
  isplitl [H8]
  · iexists _
    isplitr
    · ipureintro; exact q8
    iexact H8
  isplitl [H9]
  · iexists _
    isplitr
    · ipureintro; exact q9
    iexact H9
  isplitl [H10]
  · iexists _
    isplitr
    · ipureintro; exact q10
    iexact H10
  isplitl [H11]
  · iexists _
    isplitr
    · ipureintro; exact q11
    iexact H11
  isplitl [H12]
  · iexists _
    isplitr
    · ipureintro; exact q12
    iexact H12
  isplitl [H13]
  · iexists _
    isplitr
    · ipureintro; exact q13
    iexact H13
  iexists _
  isplitr
  · ipureintro; exact q14
  iexact H14

/-- What the pipeline calls the body with at point `t` is `Gen.bodyAt0`. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (T : Dev nD → Track F) (hT : Track.Ok m T) (c : Dev nD) :
    (rdat m T c).BodyObligation (defs₀ (F := F)) Variants.none () Set.univ := fun t Y hY => by
  rw [bigSep_W0, bigSep_W0, defs₀_row]
  exact sound_body m T hT c t Y hY

/-- The frame kit's invariant: the scratch buffers and the generator at anything. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

/-- What the launch hands the region gives the statement before the first point. -/
theorem hin (T : Dev nD → Track F) (hT : Track.Ok m T) (c : Dev nD) : Pipeline.ΦA spec0 c ⊢ (rdat m T c).Φ 0 := by
  rw [show (rdat m T c).Φ 0 = iprop((∃ Z : Scr F, ⌜(T c).inv 0 Z⌝ ∗ scrOwns c Z) ∗ (∃ r, prngReg c r)) from rfl, PhiA0_eq]
  unfold scrOwns
  iintro ⟨⟨⟨%d0, Z0⟩, ⟨%d1, Z1⟩, ⟨%d2, Z2⟩, ⟨%d3, Z3⟩, ⟨%d4, Z4⟩, ⟨%d5, Z5⟩, ⟨%d6, Z6⟩, ⟨%d7, Z7⟩, ⟨%d8, Z8⟩, ⟨%d9, Z9⟩⟩, Hg⟩
  isplitr [Hg]
  · iexists (⟨d0, d1, d2, d3, d4, d5, d6, d7, d8, d9⟩ : Scr F)
    isplitr
    · ipureintro; exact hT.zero c _
    isplitl [Z0]
    · iexact Z0
    isplitl [Z1]
    · iexact Z1
    isplitl [Z2]
    · iexact Z2
    isplitl [Z3]
    · iexact Z3
    isplitl [Z4]
    · iexact Z4
    isplitl [Z5]
    · iexact Z5
    isplitl [Z6]
    · iexact Z6
    isplitl [Z7]
    · iexact Z7
    isplitl [Z8]
    · iexact Z8
    iexact Z9
  iexact Hg

/-- After the last point the scratch contents are forgotten. -/
theorem hout (T : Dev nD → Track F) (c : Dev nD) : (rdat m T c).Φ (Fin.last cfg0.N) ⊢ Pipeline.ΦA spec0 c := by
  rw [show (rdat m T c).Φ (Fin.last cfg0.N) = iprop((∃ Z : Scr F, ⌜(T c).inv (Fin.last cfg0.N) Z⌝ ∗ scrOwns c Z) ∗ (∃ r, prngReg c r)) from rfl, PhiA0_eq]
  unfold scrOwns
  iintro ⟨⟨%Z, %hZ, Z0, Z1, Z2, Z3, Z4, Z5, Z6, Z7, Z8, Z9⟩, Hg⟩
  isplitr [Hg]
  · isplitl [Z0]
    · iexists _; iexact Z0
    isplitl [Z1]
    · iexists _; iexact Z1
    isplitl [Z2]
    · iexists _; iexact Z2
    isplitl [Z3]
    · iexists _; iexact Z3
    isplitl [Z4]
    · iexists _; iexact Z4
    isplitl [Z5]
    · iexists _; iexact Z5
    isplitl [Z6]
    · iexists _; iexact Z6
    isplitl [Z7]
    · iexists _; iexact Z7
    isplitl [Z8]
    · iexists _; iexact Z8
    iexists _; iexact Z9
  iexact Hg

set_option backward.isDefEq.respectTransparency.types false in
set_option maxHeartbeats 800000 in
/-- The launch: every run ends, with the arrays as the proof data say and every semaphore counter at zero. -/
theorem run_track (T : Dev nD → Track F) (hT : Track.Ok m T) :
    θ_run defs (onTc (τ := τ) (main (F := F))) (s₀ m ρ) (fun r => RDat.FramePost (cfgs 0) (rdat m T) (V m) r ∧ r.2.sem = fun _ => 0) :=
  Pipeline.RDat.θ_run_frame_track (Q' := _) cfgs (0 : Fin 1) launch0 defs₀ Variants.none (rdat m T) m ρ main
    (hbody := body_obligation m T hT) (hshare := fun c w => by unfold RDat.share; split <;> rfl)
    (howed := fun _ _ => rfl) (V := V m)
    (hmain := hmain m Variants.none) (hA := A_eq m T) (hin := hin m T hT) (hout := hout m T)

/-- Nothing stated. -/
def noTrack (_ : Dev nD) : Track F := ⟨fun _ _ => True, fun _ _ => True, fun _ _ => True, fun _ _ => True, fun _ _ => True, fun _ _ => True, fun _ _ => True, fun _ _ => True, fun _ _ => True⟩

theorem noTrack_ok : Track.Ok m (noTrack (F := F)) where
  zero _ _ := trivial
  step _ _ _ _ _ _ := ⟨trivial, trivial, trivial, trivial, trivial, trivial, trivial, trivial, trivial⟩

/-- The argument arrays at the end of a run are what they were at its start. -/
theorem args_of (T : Dev nD → Track F) (r : PUnit × MemSt nD τ sig (Elt F)) (h : RDat.FramePost (cfgs 0) (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine ⟨?_, ?_, ?_, ?_, ?_, ?_, ?_⟩
  · exact ((h.arr_in c 1 rfl).trans (A_eq m T c 1)).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h.arr_in c 0 rfl).trans (A_eq m T c 0)).trans (V_main_arg6 m c)

/-- The frame claim, at any reading of the floats: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_of m noTrack r h.1, h.2⟩) (run_track m ρ noTrack (noTrack_ok m))

end Cert.Kernel.Gen

end
-- ==== Proof.BlocksI.lean ====
/- The kernel body cut at its conditionals: the five guarded blocks of the body as programs of their own (`Gen.blkInit`,
   `Gen.blkFinish`, `Gen.blkZero`, `Gen.blkBack`, `Gen.blkFwd`), and the body as their guarded sequence (`Gen.body_blocks`). -/
module

public import proofs.«01_k».proof.Proof.Gen.KernelIdeal.Skeleton
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- At the first grid point: the weight scales, the bias and the dequantised weights are laid out, the accumulated outputs zeroed. -/
noncomputable def blkInit (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole)  :
    Prog (TpuEff nD τ sig (Elt F) Λ₀ .tc) PUnit := do
  k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
  let v56 : Vec F S64x1536 .f32 ← Prog.lift (.load arg12 (Rect.unit (s := S64x1536) ![0, 0] S64x1536.size inb_S64x1536_S64x1536_0_0).toLoadRect (View.loadsAt_vmem h_S64x1536))
  Prog.lift (.store arg12 (Rect.unit (s := S64x1536) ![0, 0] S64x1536.size inb_S64x1536_S64x1536_0_0) (k0_pay1 (F := F)) Finset.univ (View.stores_vmem_bits_univ h_S64x1536 rfl) (.inl rfl))
  let v58 : Vec F S6x4096 .f32 ← Prog.lift (.load arg14 (Rect.unit (s := S6x4096) ![0, 0] S6x4096.size inb_S6x4096_S6x4096_0_0).toLoadRect (View.loadsAt_vmem h_S6x4096))
  Prog.lift (.store arg14 (Rect.unit (s := S6x4096) ![0, 0] S6x4096.size inb_S6x4096_S6x4096_0_0) (k0_pay2 (F := F)) Finset.univ (View.stores_vmem_bits_univ h_S6x4096 rfl) (.inl rfl))
  let v60 : Vec F S6x64 .f32 ← Prog.lift (.load arg16 (Rect.unit (s := S6x64) ![0, 0] S6x64.size inb_S6x64_S6x64_0_0).toLoadRect (View.loadsAt_vmem h_S6x64))
  Prog.lift (.store arg16 (Rect.unit (s := S6x64) ![0, 0] S6x64.size inb_S6x64_S6x64_0_0) (k0_pay3 (F := F)) Finset.univ (View.stores_vmem_bits_univ h_S6x64 rfl) (.inl rfl))
  pure ⟨⟩

/-- At the first chunk of every sample but the first: the gradient scale and the loss of the sample before. -/
noncomputable def blkFinish (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h2 : k0_cond2 i = 1#1) (k0_h3 : k0_cond3 i = 1#1) :
    Prog (TpuEff nD τ sig (Elt F) Λ₀ .tc) PUnit := do
  let arg0 : BitVec 32 := BitVec.ofNat 32 (i 0).val
  let ⟨v46, v62, v65⟩ : Σ' (v46 : FVec F S64x1 .f32) (v62 : BitVec 32), IVec S64x64 1 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0
  let v72 : Vec F S6x64 .f32 ← Prog.lift (.load arg16 (Rect.unit (s := S6x64) ![0, 0] S6x64.size inb_S6x64_S6x64_0_0).toLoadRect (View.loadsAt_vmem h_S6x64))
  let v80 : Vec F S6x64 .f32 ← Prog.lift (.load arg16 (Rect.unit (s := S6x64) ![0, 0] S6x64.size inb_S6x64_S6x64_0_0).toLoadRect (View.loadsAt_vmem h_S6x64))
  Prog.lift (.store arg16 (Rect.unit (s := S6x64) ![0, 0] S6x64.size inb_S6x64_S6x64_0_0) (k0_pay4 v46 v62 v65 v72) Finset.univ (View.stores_vmem_bits_univ h_S6x64 rfl) (.inl rfl))
  let v83 : Elt F .f32 ← smemLoad arg2 (Rect.unit (s := S6) (k0_off1 i) S1.size (k0_off1_inb i k0_h2 k0_h3)) numel1_S1 rfl
  let v84 : Vec F S64x128 .f32 ← Prog.lift (.load arg21 (Rect.unit (s := S64x128) ![0, 0] S64x128.size inb_S64x128_S64x128_0_0).toLoadRect (View.loadsAt_vmem h_S64x128))
  let v93 : Elt F .f32 ← smemLoad arg9 (Rect.unit (s := S6) (k0_off1 i) S1.size (k0_off1_inb i k0_h2 k0_h3)) numel1_S1 rfl
  Prog.lift (.store arg9 (Rect.unit (s := S6) (k0_off1 i) S1.size (k0_off1_inb i k0_h2 k0_h3)) (fun _ => k0_pay5 v83 v84) Finset.univ (View.stores_smem_one rfl numel1_S1) (.inl rfl))
  pure ⟨⟩

/-- At the first chunk of every sample: the running maximum and the running sum of squares start at zero. -/
noncomputable def blkZero (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole)  :
    Prog (TpuEff nD τ sig (Elt F) Λ₀ .tc) PUnit := do
  let v18 : Vec F S64x128 .f32 ← Prog.lift (.load arg20 (Rect.unit (s := S64x128) ![0, 0] S64x128.size inb_S64x128_S64x128_0_0).toLoadRect (View.loadsAt_vmem h_S64x128))
  Prog.lift (.store arg20 (Rect.unit (s := S64x128) ![0, 0] S64x128.size inb_S64x128_S64x128_0_0) (k0_pay6 (F := F)) Finset.univ (View.stores_vmem_bits_univ h_S64x128 rfl) (.inl rfl))
  let v22 : Vec F S64x128 .f32 ← Prog.lift (.load arg21 (Rect.unit (s := S64x128) ![0, 0] S64x128.size inb_S64x128_S64x128_0_0).toLoadRect (View.loadsAt_vmem h_S64x128))
  Prog.lift (.store arg21 (Rect.unit (s := S64x128) ![0, 0] S64x128.size inb_S64x128_S64x128_0_0) (k0_pay7 (F := F)) Finset.univ (View.stores_vmem_bits_univ h_S64x128 rfl) (.inl rfl))
  pure ⟨⟩

/-- The backward pass over a chunk of the sample before. -/
noncomputable def blkBack (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h4 : k0_cond4 i = 1#1) :
    Prog (TpuEff nD τ sig (Elt F) Λ₀ .tc) PUnit := do
  let arg0 : BitVec 32 := BitVec.ofNat 32 (i 0).val
  let arg1 : BitVec 32 := BitVec.ofNat 32 (i 1).val
  let ⟨v16, v17, v37, v48⟩ : Σ' (v16 : BitVec 32) (v17 : BitVec 32) (v37 : FVec F S64x512 .bf16), FVec F S256x1536 .bf16 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 k0_h4
  let v49 : Vec F S1x256x1536 .bf16 ← Prog.lift (.load arg11 (Rect.unit (s := S1x512x1536) ![0, 256, 0] S1x256x1536.size inb_S1x512x1536_S1x256x1536_0_256_0).toLoadRect (View.loadsAt_vmem h_S1x256x1536))
  Prog.lift (.store arg11 (Rect.unit (s := S1x512x1536) ![0, 256, 0] S1x256x1536.size inb_S1x512x1536_S1x256x1536_0_256_0) (k0_pay8 v48) Finset.univ (View.stores_vmem h_S1x256x1536 (harg11.storeExact_slice rfl _ packedbf16_S1x512x1536_S1x256x1536_0_256_0) (fun _ => rfl)) (.inl rfl))
  let v54 : Vec F S1x1x512 .f32 ← Prog.lift (.load arg17 (Rect.unit (s := S2x1x4096) (k0_off3 i) S1x1x512.size (k0_off3_inb i k0_h4)).toLoadRect (View.loadsAt_vmem h_S1x1x512))
  let v59 : Vec F S64x1536 .f32 ← Prog.lift (.load arg12 (Rect.unit (s := S64x1536) ![0, 0] S64x1536.size inb_S64x1536_S64x1536_0_0).toLoadRect (View.loadsAt_vmem h_S64x1536))
  let v63 : Vec F S1x512x1536 .fp8e4m3 ← Prog.lift (.load arg18 (Rect.unit (s := S2x4096x1536) (k0_off4 i) S1x512x1536.size (k0_off4_inb i k0_h4)).toLoadRect (View.loadsAt_vmem h_S1x512x1536))
  let v67 : Vec F S64x1536 .f32 ← Prog.lift (.load arg12 (Rect.unit (s := S64x1536) ![0, 0] S64x1536.size inb_S64x1536_S64x1536_0_0).toLoadRect (View.loadsAt_vmem h_S64x1536))
  Prog.lift (.store arg12 (Rect.unit (s := S64x1536) ![0, 0] S64x1536.size inb_S64x1536_S64x1536_0_0) (k0_pay9 v37 v54 v59 v63) Finset.univ (View.stores_vmem_bits_univ h_S64x1536 rfl) (.inl rfl))
  pure ⟨⟩

/-- The forward pass over a chunk of the sample. -/
noncomputable def blkFwd (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h5 : k0_cond5 i = 1#1) :
    Prog (TpuEff nD τ sig (Elt F) Λ₀ .tc) PUnit := do
  let arg0 : BitVec 32 := BitVec.ofNat 32 (i 0).val
  let arg1 : BitVec 32 := BitVec.ofNat 32 (i 1).val
  let ⟨v16, v18, v19, v21, v60, v61⟩ : Σ' (v16 : F .f32) (v18 : BitVec 32) (v19 : BitVec 32) (v21 : FVec F S32x1536 .bf16) (v60 : IVec S32x1 32), IVec S32x1 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 k0_h5
  let ⟨v67, v85, v86, v105⟩ : Σ' (v67 : FVec F S32x1 .f32) (v85 : FVec F S32x1536 .bf16) (v86 : FVec F S32x1536 .bf16), FVec F S32x128 .bf16 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v21 v60 v61
  let ⟨v131, k0_w2⟩ : Σ' (v131 : FVec F S32x1 .f32), Vec F S1x32x1536 .fp8e4m3 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v85 v86 v105
  let ⟨v149, v188, v190, v195⟩ : Σ' (v149 : FVec F S32x1536 .bf16) (v188 : IVec S32x1 32) (v190 : IVec S32x1 1), FVec F S32x1 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_w2
  let ⟨v213, v240⟩ : Σ' (v213 : FVec F S32x1536 .bf16), FVec F S32x1 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v149 v188 v190
  let ⟨v259, v277, v278, v279⟩ : Σ' (v259 : FVec F S32x1 .f32) (v277 : FVec F S32x1536 .bf16) (v278 : FVec F S32x1536 .bf16), FVec F S32x128 .bf16 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v213 v240
  let ⟨v323, v329⟩ : Σ' (v323 : FVec F S32x1 .f32), FVec F S32x1 .bf16 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v278 v279
  let ⟨v341, v370, v373, v374⟩ : Σ' (v341 : FVec F S32x1536 .bf16) (v370 : FVec F S32x1 .f32) (v373 : IVec S32x253 32), FVec F S32x253 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v277 v329
  let ⟨v387, v405, v406, v415⟩ : Σ' (v387 : FVec F S32x1 .f32) (v405 : FVec F S32x1536 .bf16) (v406 : FVec F S32x1536 .bf16), FVec F S32x128 .bf16 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v341 v370 v373 v374
  let ⟨v451, v463⟩ : Σ' (v451 : FVec F S32x1 .f32), FVec F S32x1536 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v405 v406 v415
  let ⟨v469, v508⟩ : Σ' (v469 : FVec F S32x1536 .bf16), IVec S32x1 32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v463
  let ⟨v515, v533, v534, v551⟩ : Σ' (v515 : FVec F S32x1 .f32) (v533 : FVec F S32x1536 .bf16) (v534 : FVec F S32x1536 .bf16), FVec F S32x128 .bf16 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v469 v508
  let ⟨v579, v592⟩ : Σ' (v579 : FVec F S32x1 .f32), FVec F S32x1536 .fp8e4m3 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v533 v534 v551
  let ⟨v597, v636, v638, v641, cst_184⟩ : Σ' (v597 : FVec F S32x1536 .bf16) (v636 : IVec S32x1 32) (v638 : IVec S32x1 1) (v641 : FVec F S32x1 .f32), F .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v592
  let ⟨v643, v661, v686⟩ : Σ' (v643 : FVec F S32x1 .f32) (v661 : FVec F S32x1536 .bf16), FVec F S32x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v597 v636 v638 v641 cst_184
  let ⟨v707, v725⟩ : Σ' (v707 : FVec F S32x1 .f32), FVec F S32x1536 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v661 v686
  let ⟨v766, v771, v774, v775⟩ : Σ' (v766 : IVec S32x1 1) (v771 : FVec F S32x1 .f32) (v774 : FVec F S32x1 .f32), FVec F S32x1 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v725
  let ⟨v789, v818, v819, v820⟩ : Σ' (v789 : FVec F S32x1536 .bf16) (v818 : FVec F S32x1 .f32) (v819 : IVec S32x253 32), IVec S32x253 32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v725 v766 v774 v775
  let ⟨v835, v853, v854, v861⟩ : Σ' (v835 : FVec F S32x1 .f32) (v853 : FVec F S32x1536 .bf16) (v854 : FVec F S32x1536 .bf16), FVec F S32x128 .bf16 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v789 v818 v819 v820
  let ⟨v899, v909, cst_264⟩ : Σ' (v899 : FVec F S32x1 .f32) (v909 : FVec F S32x1536 .bf16), F .bf16 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v853 v854 v861
  let ⟨v917, v954⟩ : Σ' (v917 : FVec F S32x1536 .bf16), IVec S32x253 32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v909 cst_264
  let ⟨v963, v981, v982, v997⟩ : Σ' (v963 : FVec F S32x1 .f32) (v981 : FVec F S32x1536 .bf16) (v982 : FVec F S32x1536 .bf16), FVec F S32x128 .bf16 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v917 v954
  let ⟨v1027, v1040⟩ : Σ' (v1027 : FVec F S32x1 .f32), FVec F S32x1536 .fp8e4m3 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v981 v982 v997
  let ⟨v1081, v1082, v1085⟩ : Σ' (v1081 : FVec F S1x128 .f32) (v1082 : BitVec 32), FVec F S6x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 k0_h5 v18 v19 v67 v131 v195 v259 v323 v387 v451 v515 v1040
  let ⟨v1128, v1131⟩ : Σ' (v1128 : FVec F S128x1 .f32), IVec S128x128 1 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 k0_h5 v18 v19 v579 v643 v707 v771 v835 v899 v963 v1027 v1081 v1082 v1085
  let ⟨v1163, v1164, v1165, v1166, v1167⟩ : Σ' (v1163 : Vec F S64x1 .f32) (v1164 : Vec F S64x1 .f32) (v1165 : Vec F S64x128 .f32) (v1166 : Vec F S64x128 .f32), Vec F S64x1536 .fp8e4m3 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 k0_h5 v18 v19 v1128 v1131
  let ⟨v1195, v1204, v1207, v1208⟩ : Σ' (v1195 : FVec F S64x256 .f32) (v1204 : FVec F S64x128 .f32) (v1207 : FVec F S64x128 .f32), FVec F S64x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h5 v16 v18 v19 v1163 v1164 v1165 v1166 v1167
  let ⟨v1210, v1213, v1240, v1242, v1248⟩ : Σ' (v1210 : FVec F S64x128 .f32) (v1213 : FVec F S64x128 .f32) (v1240 : FVec F S64x256 .f32) (v1242 : FVec F S64x256 .f32), FVec F S1x64x256 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h5 v16 v18 v19 v1163 v1164 v1195 v1204 v1207 v1208
  Prog.lift (.store arg19 (Rect.unit (s := S2x64x4096) (k0_off10 i 256#32) S1x64x256.size (k0_off10_inb i k0_h5 1)) v1248 Finset.univ (View.stores_vmem_bits_univ h_S1x64x256 rfl) (.inl rfl))
  let v1261 : Vec F S64x128 .f32 ← Prog.lift (.load arg20 (Rect.unit (s := S64x128) ![0, 0] S64x128.size inb_S64x128_S64x128_0_0).toLoadRect (View.loadsAt_vmem h_S64x128))
  Prog.lift (.store arg20 (Rect.unit (s := S64x128) ![0, 0] S64x128.size inb_S64x128_S64x128_0_0) (k0_pay10 v1213 v1242) Finset.univ (View.stores_vmem_bits_univ h_S64x128 rfl) (.inl rfl))
  let v1264 : Vec F S64x128 .f32 ← Prog.lift (.load arg21 (Rect.unit (s := S64x128) ![0, 0] S64x128.size inb_S64x128_S64x128_0_0).toLoadRect (View.loadsAt_vmem h_S64x128))
  Prog.lift (.store arg21 (Rect.unit (s := S64x128) ![0, 0] S64x128.size inb_S64x128_S64x128_0_0) (k0_pay11 v1210 v1240) Finset.univ (View.stores_vmem_bits_univ h_S64x128 rfl) (.inl rfl))
  pure ⟨⟩

/-- The body is its guarded blocks, in order. -/
theorem body_blocks (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) :
    cc0_rectified_flow_final_linear (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 = (do
      (if h : k0_cond1 i = 1#1 then blkInit i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 else pure ⟨⟩)
      (if h2 : k0_cond2 i = 1#1 then (do
          (if h3 : k0_cond3 i = 1#1 then blkFinish i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h2 h3 else pure ⟨⟩)
          blkZero i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
        else pure ⟨⟩)
      (if h : k0_cond4 i = 1#1 then blkBack i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h else pure ⟨⟩)
      (if h : k0_cond5 i = 1#1 then blkFwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h else pure ⟨⟩)
      pure ⟨⟩) := by
  rw [cc0_rectified_flow_final_linear_eq_skeleton]
  unfold cc0_rectified_flow_final_linear_skel
  by_cases h1 : k0_cond1 i = 1#1 <;> by_cases h2 : k0_cond2 i = 1#1 <;> by_cases h3 : k0_cond3 i = 1#1 <;>
    by_cases h4 : k0_cond4 i = 1#1 <;> by_cases h5 : k0_cond5 i = 1#1 <;>
    simp only [h1, h2, h3, h4, h5, ↓reduceDIte, blkInit, blkFinish, blkZero, blkBack, blkFwd, bind_assoc, pure_bind] <;>
    try rfl

end Cert.KernelIdeal.Gen

end
-- ==== Proof.RunInitI.lean ====
/- The run of the block at the first grid point (`Gen.blkInit`): what its stores leave in each buffer it writes, as pieces the run finds. -/
module

public import proofs.«01_k».proof.Proof.BlocksI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the block at the first grid point leaves in the buffers it writes, as pieces (last first) over what it found there, with the proof that it
    runs from the buffers it reads and writes at any contents `x·` to those, the read ones unchanged. -/
noncomputable def runInit (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole)
    (x4 : Vec F S64x1536 .fp8e4m3) (x5 : Vec F S1x64 .f32) (x6 : Vec F S1x64 .f32) (x12 : Vec F S64x1536 .f32) (x14 : Vec F S6x4096 .f32) (x16 : Vec F S6x64 .f32) (x22 : Vec F S64x128 .f32) (x23 : Vec F S64x128 .f32) (x24 : Vec F S64x1536 .bf16) :
    Σ' (L12 : List (View.Piece (Elt F) S64x1536 .f32)), Σ' (L14 : List (View.Piece (Elt F) S6x4096 .f32)), Σ' (L16 : List (View.Piece (Elt F) S6x64 .f32)), Σ' (L22 : List (View.Piece (Elt F) S64x128 .f32)), Σ' (L23 : List (View.Piece (Elt F) S64x128 .f32)), { L24 : List (View.Piece (Elt F) S64x1536 .bf16) //
      ∀ (E : Set ℕ) (K : PUnit → sProp 𝕄),
        iprop(owns (c : Thread nD τ) arg4 fullShare x4 ∗ owns (c : Thread nD τ) arg5 fullShare x5 ∗ owns (c : Thread nD τ) arg6 fullShare x6 ∗ owns (c : Thread nD τ) arg12 fullShare x12 ∗ owns (c : Thread nD τ) arg14 fullShare x14 ∗ owns (c : Thread nD τ) arg16 fullShare x16 ∗ owns (c : Thread nD τ) arg22 fullShare x22 ∗ owns (c : Thread nD τ) arg23 fullShare x23 ∗ owns (c : Thread nD τ) arg24 fullShare x24
            ∗ (iprop(owns (c : Thread nD τ) arg4 fullShare x4 ∗ owns (c : Thread nD τ) arg5 fullShare x5 ∗ owns (c : Thread nD τ) arg6 fullShare x6 ∗ (arg12.view.loc (c : Thread nD τ) ↦[arg12.view.set]{fullShare} arg12.view.writes (Elt F) (harg12.unread x12) L12) ∗ (arg14.view.loc (c : Thread nD τ) ↦[arg14.view.set]{fullShare} arg14.view.writes (Elt F) (harg14.unread x14) L14) ∗ (arg16.view.loc (c : Thread nD τ) ↦[arg16.view.set]{fullShare} arg16.view.writes (Elt F) (harg16.unread x16) L16) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24)) -∗ K ⟨⟩))
          ⊢ wp frame (wpE (defs₀ (F := F)) Variants.none c none) E (blkInit i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ) K } := by
  refine ⟨?_, ?_, ?_, ?_, ?_, ?_, fun E K => ?run⟩
  case run =>
    unfold blkInit
    unfold owns
    iintro ⟨⟨%f4, %hf4, H4⟩, ⟨%f5, %hf5, H5⟩, ⟨%f6, %hf6, H6⟩, ⟨%f12, %hf12, H12⟩, ⟨%f14, %hf14, H14⟩, ⟨%f16, %hf16, H16⟩, ⟨%f22, %hf22, H22⟩, ⟨%f23, %hf23, H23⟩, ⟨%f24, %hf24, H24⟩, Hk⟩
    obtain rfl := harg4.eq_unread hf4; obtain rfl := harg5.eq_unread hf5; obtain rfl := harg6.eq_unread hf6; obtain rfl := harg12.eq_unread hf12; obtain rfl := harg14.eq_unread hf14; obtain rfl := harg16.eq_unread hf16; obtain rfl := harg22.eq_unread hf22; obtain rfl := harg23.eq_unread hf23; obtain rfl := harg24.eq_unread hf24
    sl_exec
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H12]
    · iexact H12
    isplitl [H14]
    · iexact H14
    isplitl [H16]
    · iexact H16
    isplitl [H22]
    · iexact H22
    isplitl [H23]
    · iexact H23
    iexact H24

end Cert.KernelIdeal.Gen

end
-- ==== Proof.RunFinishI.lean ====
/- The run of the block that ends a sample (`Gen.blkFinish`): what its stores leave in each buffer it writes, as pieces the run finds. -/
module

public import proofs.«01_k».proof.Proof.BlocksI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the block that ends a sample leaves in the buffers it writes, as pieces (last first) over what it found there, with the proof that it
    runs from the buffers it reads and writes at any contents `x·` to those, the read ones unchanged. -/
noncomputable def runFinish (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h2 : k0_cond2 i = 1#1) (k0_h3 : k0_cond3 i = 1#1)
    (x2 : Vec F S6 .f32) (x9 : Vec F S6 .f32) (x16 : Vec F S6x64 .f32) (x20 : Vec F S64x128 .f32) (x21 : Vec F S64x128 .f32) (x25 : Vec F S64x128 .f32) (x26 : Vec F S64x128 .f32) :
    Σ' (L9 : List (View.Piece (Elt F) S6 .f32)), Σ' (L16 : List (View.Piece (Elt F) S6x64 .f32)), Σ' (L25 : List (View.Piece (Elt F) S64x128 .f32)), { L26 : List (View.Piece (Elt F) S64x128 .f32) //
      ∀ (E : Set ℕ) (K : PUnit → sProp 𝕄),
        iprop(owns (c : Thread nD τ) arg2 fullShare x2 ∗ owns (c : Thread nD τ) arg9 fullShare x9 ∗ owns (c : Thread nD τ) arg16 fullShare x16 ∗ owns (c : Thread nD τ) arg20 fullShare x20 ∗ owns (c : Thread nD τ) arg21 fullShare x21 ∗ owns (c : Thread nD τ) arg25 fullShare x25 ∗ owns (c : Thread nD τ) arg26 fullShare x26
            ∗ (iprop(owns (c : Thread nD τ) arg2 fullShare x2 ∗ (arg9.view.loc (c : Thread nD τ) ↦[arg9.view.set]{fullShare} arg9.view.writes (Elt F) (harg9.unread x9) L9) ∗ (arg16.view.loc (c : Thread nD τ) ↦[arg16.view.set]{fullShare} arg16.view.writes (Elt F) (harg16.unread x16) L16) ∗ owns (c : Thread nD τ) arg20 fullShare x20 ∗ owns (c : Thread nD τ) arg21 fullShare x21 ∗ (arg25.view.loc (c : Thread nD τ) ↦[arg25.view.set]{fullShare} arg25.view.writes (Elt F) (harg25.unread x25) L25) ∗ (arg26.view.loc (c : Thread nD τ) ↦[arg26.view.set]{fullShare} arg26.view.writes (Elt F) (harg26.unread x26) L26)) -∗ K ⟨⟩))
          ⊢ wp frame (wpE (defs₀ (F := F)) Variants.none c none) E (blkFinish i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h2 k0_h3) K } := by
  refine ⟨?_, ?_, ?_, ?_, fun E K => ?run⟩
  case run =>
    unfold blkFinish
    unfold owns
    iintro ⟨⟨%f2, %hf2, H2⟩, ⟨%f9, %hf9, H9⟩, ⟨%f16, %hf16, H16⟩, ⟨%f20, %hf20, H20⟩, ⟨%f21, %hf21, H21⟩, ⟨%f25, %hf25, H25⟩, ⟨%f26, %hf26, H26⟩, Hk⟩
    obtain rfl := harg2.eq_unread hf2; obtain rfl := harg9.eq_unread hf9; obtain rfl := harg16.eq_unread hf16; obtain rfl := harg20.eq_unread hf20; obtain rfl := harg21.eq_unread hf21; obtain rfl := harg25.eq_unread hf25; obtain rfl := harg26.eq_unread hf26
    sl_exec
    sl_step
    iapply Hk
    isplitl [H2]
    · iexists _; isplitr; · ipureintro; exact harg2.read_unread _
      iexact H2
    isplitl [H9]
    · iexact H9
    isplitl [H16]
    · iexact H16
    isplitl [H20]
    · iexists _; isplitr; · ipureintro; exact harg20.read_unread _
      iexact H20
    isplitl [H21]
    · iexists _; isplitr; · ipureintro; exact harg21.read_unread _
      iexact H21
    isplitl [H25]
    · iexact H25
    iexact H26

end Cert.KernelIdeal.Gen

end
-- ==== Proof.RunZeroI.lean ====
/- The run of the block that starts a sample (`Gen.blkZero`): what its stores leave in each buffer it writes, as pieces the run finds. -/
module

public import proofs.«01_k».proof.Proof.BlocksI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the block that starts a sample leaves in the buffers it writes, as pieces (last first) over what it found there, with the proof that it
    runs from the buffers it reads and writes at any contents `x·` to those, the read ones unchanged. -/
noncomputable def runZero (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole)
    (x20 : Vec F S64x128 .f32) (x21 : Vec F S64x128 .f32) :
    Σ' (L20 : List (View.Piece (Elt F) S64x128 .f32)), { L21 : List (View.Piece (Elt F) S64x128 .f32) //
      ∀ (E : Set ℕ) (K : PUnit → sProp 𝕄),
        iprop(owns (c : Thread nD τ) arg20 fullShare x20 ∗ owns (c : Thread nD τ) arg21 fullShare x21
            ∗ (iprop((arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21)) -∗ K ⟨⟩))
          ⊢ wp frame (wpE (defs₀ (F := F)) Variants.none c none) E (blkZero i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ) K } := by
  refine ⟨?_, ?_, fun E K => ?run⟩
  case run =>
    unfold blkZero
    unfold owns
    iintro ⟨⟨%f20, %hf20, H20⟩, ⟨%f21, %hf21, H21⟩, Hk⟩
    obtain rfl := harg20.eq_unread hf20; obtain rfl := harg21.eq_unread hf21
    sl_exec
    sl_step
    iapply Hk
    isplitl [H20]
    · iexact H20
    iexact H21

end Cert.KernelIdeal.Gen

end
-- ==== Proof.RunBackI.lean ====
/- The run of the backward block (`Gen.blkBack`): what its stores leave in each buffer it writes, as pieces the run finds. -/
module

public import proofs.«01_k».proof.Proof.BlocksI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the backward block leaves in the buffers it writes, as pieces (last first) over what it found there, with the proof that it
    runs from the buffers it reads and writes at any contents `x·` to those, the read ones unchanged. -/
noncomputable def runBack (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h4 : k0_cond4 i = 1#1)
    (x11 : Vec F S1x512x1536 .bf16) (x12 : Vec F S64x1536 .f32) (x15 : Vec F S1x64x512 .fp8e5m2) (x17 : Vec F S2x1x4096 .f32) (x18 : Vec F S2x4096x1536 .fp8e4m3) (x19 : Vec F S2x64x4096 .f32) (x24 : Vec F S64x1536 .bf16) (x25 : Vec F S64x128 .f32) (x26 : Vec F S64x128 .f32) :
    Σ' (L11 : List (View.Piece (Elt F) S1x512x1536 .bf16)), Σ' (L12 : List (View.Piece (Elt F) S64x1536 .f32)), { L15 : List (View.Piece (Elt F) S1x64x512 .fp8e5m2) //
      ∀ (E : Set ℕ) (K : PUnit → sProp 𝕄),
        iprop(owns (c : Thread nD τ) arg11 fullShare x11 ∗ owns (c : Thread nD τ) arg12 fullShare x12 ∗ owns (c : Thread nD τ) arg15 fullShare x15 ∗ owns (c : Thread nD τ) arg17 fullShare x17 ∗ owns (c : Thread nD τ) arg18 fullShare x18 ∗ owns (c : Thread nD τ) arg19 fullShare x19 ∗ owns (c : Thread nD τ) arg24 fullShare x24 ∗ owns (c : Thread nD τ) arg25 fullShare x25 ∗ owns (c : Thread nD τ) arg26 fullShare x26
            ∗ (iprop((arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg15.view.loc (c : Thread nD τ) ↦[arg15.view.set]{fullShare} arg15.view.writes (Elt F) (harg15.unread x15) L15) ∗ owns (c : Thread nD τ) arg17 fullShare x17 ∗ owns (c : Thread nD τ) arg18 fullShare x18 ∗ owns (c : Thread nD τ) arg19 fullShare x19 ∗ owns (c : Thread nD τ) arg24 fullShare x24 ∗ owns (c : Thread nD τ) arg25 fullShare x25 ∗ owns (c : Thread nD τ) arg26 fullShare x26) -∗ K ⟨⟩))
          ⊢ wp frame (wpE (defs₀ (F := F)) Variants.none c none) E (blkBack i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h4) K } := by
  refine ⟨?_, ?_, ?_, fun E K => ?run⟩
  case run =>
    unfold blkBack
    unfold owns
    iintro ⟨⟨%f11, %hf11, H11⟩, ⟨%f12, %hf12, H12⟩, ⟨%f15, %hf15, H15⟩, ⟨%f17, %hf17, H17⟩, ⟨%f18, %hf18, H18⟩, ⟨%f19, %hf19, H19⟩, ⟨%f24, %hf24, H24⟩, ⟨%f25, %hf25, H25⟩, ⟨%f26, %hf26, H26⟩, Hk⟩
    obtain rfl := harg11.eq_unread hf11; obtain rfl := harg12.eq_unread hf12; obtain rfl := harg15.eq_unread hf15; obtain rfl := harg17.eq_unread hf17; obtain rfl := harg18.eq_unread hf18; obtain rfl := harg19.eq_unread hf19; obtain rfl := harg24.eq_unread hf24; obtain rfl := harg25.eq_unread hf25; obtain rfl := harg26.eq_unread hf26
    sl_exec
    sl_step
    iapply Hk
    isplitl [H11]
    · iexact H11
    isplitl [H12]
    · iexact H12
    isplitl [H15]
    · iexact H15
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H24]
    · iexists _; isplitr; · ipureintro; exact harg24.read_unread _
      iexact H24
    isplitl [H25]
    · iexists _; isplitr; · ipureintro; exact harg25.read_unread _
      iexact H25
    iexists _; isplitr; · ipureintro; exact harg26.read_unread _
    iexact H26

end Cert.KernelIdeal.Gen

end
-- ==== Proof.RunFwdI.lean ====
/- The run of the forward block (`Gen.blkFwd`): what its stores leave in each buffer it writes, as pieces the run finds. -/
module

public import proofs.«01_k».proof.Proof.BlocksI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the forward block leaves in the buffers it writes, as pieces (last first) over what it found there, with the proof that it
    runs from the buffers it reads and writes at any contents `x·` to those, the read ones unchanged. -/
noncomputable def runFwd (c : Dev nD) (i : grid0.Coords) (arg2 : Memref sig .tc .smem S6 .f32) (harg2 : arg2.IsWhole) (arg3 : Memref sig .tc .vmem S1x512x1536 .bf16) (harg3 : arg3.IsWhole) (arg4 : Memref sig .tc .vmem S64x1536 .fp8e4m3) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S6 .f32) (harg9 : arg9.IsWhole) (arg10 : Memref sig .tc .vmem S1x64x512 .f32) (harg10 : arg10.IsWhole) (arg11 : Memref sig .tc .vmem S1x512x1536 .bf16) (harg11 : arg11.IsWhole) (arg12 : Memref sig .tc .vmem S64x1536 .f32) (harg12 : arg12.IsWhole) (arg13 : Memref sig .tc .vmem S1x512x1536 .fp8e4m3) (harg13 : arg13.IsWhole) (arg14 : Memref sig .tc .vmem S6x4096 .f32) (harg14 : arg14.IsWhole) (arg15 : Memref sig .tc .vmem S1x64x512 .fp8e5m2) (harg15 : arg15.IsWhole) (arg16 : Memref sig .tc .vmem S6x64 .f32) (harg16 : arg16.IsWhole) (arg17 : Memref sig .tc .vmem S2x1x4096 .f32) (harg17 : arg17.IsWhole) (arg18 : Memref sig .tc .vmem S2x4096x1536 .fp8e4m3) (harg18 : arg18.IsWhole) (arg19 : Memref sig .tc .vmem S2x64x4096 .f32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x128 .f32) (harg23 : arg23.IsWhole) (arg24 : Memref sig .tc .vmem S64x1536 .bf16) (harg24 : arg24.IsWhole) (arg25 : Memref sig .tc .vmem S64x128 .f32) (harg25 : arg25.IsWhole) (arg26 : Memref sig .tc .vmem S64x128 .f32) (harg26 : arg26.IsWhole) (k0_h5 : k0_cond5 i = 1#1)
    (x2 : Vec F S6 .f32) (x3 : Vec F S1x512x1536 .bf16) (x4 : Vec F S64x1536 .fp8e4m3) (x7 : Vec F S1x64x512 .bf16) (x8 : Vec F S1x64x512 .bf16) (x10 : Vec F S1x64x512 .f32) (x13 : Vec F S1x512x1536 .fp8e4m3) (x14 : Vec F S6x4096 .f32) (x17 : Vec F S2x1x4096 .f32) (x18 : Vec F S2x4096x1536 .fp8e4m3) (x19 : Vec F S2x64x4096 .f32) (x20 : Vec F S64x128 .f32) (x21 : Vec F S64x128 .f32) (x22 : Vec F S64x128 .f32) (x23 : Vec F S64x128 .f32) :
    Σ' (L10 : List (View.Piece (Elt F) S1x64x512 .f32)), Σ' (L13 : List (View.Piece (Elt F) S1x512x1536 .fp8e4m3)), Σ' (L14 : List (View.Piece (Elt F) S6x4096 .f32)), Σ' (L17 : List (View.Piece (Elt F) S2x1x4096 .f32)), Σ' (L18 : List (View.Piece (Elt F) S2x4096x1536 .fp8e4m3)), Σ' (L19 : List (View.Piece (Elt F) S2x64x4096 .f32)), Σ' (L20 : List (View.Piece (Elt F) S64x128 .f32)), { L21 : List (View.Piece (Elt F) S64x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg10 fullShare x10 ∗ owns (c : Thread nD τ) arg13 fullShare x13 ∗ owns (c : Thread nD τ) arg14 fullShare x14 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ (arg10.view.loc (c : Thread nD τ) ↦[arg10.view.set]{fullShare} arg10.view.writes (Elt F) (harg10.unread x10) L10) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ owns (c : Thread nD τ) arg22 fullShare x22 ∗ owns (c : Thread nD τ) arg23 fullShare x23) -∗ K ⟨⟩))
          ⊢ wp frame (wpE (defs₀ (F := F)) Variants.none c none) E (blkFwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h5) K } := by
  refine ⟨?_, ?_, ?_, ?_, ?_, ?_, ?_, ?_, fun E K => ?run⟩
  case run =>
    unfold blkFwd
    unfold owns
    iintro ⟨⟨%f2, %hf2, H2⟩, ⟨%f3, %hf3, H3⟩, ⟨%f4, %hf4, H4⟩, ⟨%f7, %hf7, H7⟩, ⟨%f8, %hf8, H8⟩, ⟨%f10, %hf10, H10⟩, ⟨%f13, %hf13, H13⟩, ⟨%f14, %hf14, H14⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg2.eq_unread hf2; obtain rfl := harg3.eq_unread hf3; obtain rfl := harg4.eq_unread hf4; obtain rfl := harg7.eq_unread hf7; obtain rfl := harg8.eq_unread hf8; obtain rfl := harg10.eq_unread hf10; obtain rfl := harg13.eq_unread hf13; obtain rfl := harg14.eq_unread hf14; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; isplitr; · ipureintro; exact harg7.read_unread _
      iexact H7
    isplitl [H8]
    · iexists _; isplitr; · ipureintro; exact harg8.read_unread _
      iexact H8
    isplitl [H10]
    · iexact H10
    isplitl [H13]
    · iexact H13
    isplitl [H14]
    · iexact H14
    isplitl [H17]
    · iexact H17
    isplitl [H18]
    · iexact H18
    isplitl [H19]
    · iexact H19
    isplitl [H20]
    · iexact H20
    isplitl [H21]
    · iexact H21
    isplitl [H22]
    · iexists _; isplitr; · ipureintro; exact harg22.read_unread _
      iexact H22
    iexists _; isplitr; · ipureintro; exact harg23.read_unread _
    iexact H23

end Cert.KernelIdeal.Gen

end
-- ==== Proof.StepsI.lean ====
/- One step of the kernel body as a function on the contents of its buffers (`Gen.stBody`), and the proof that the body
   takes buffers at any contents to buffers at what that function says (`Gen.body_run`): the five blocks' runs in sequence. -/
module

public import proofs.«01_k».proof.Proof.RunInitI
public import proofs.«01_k».proof.Proof.RunFinishI
public import proofs.«01_k».proof.Proof.RunZeroI
public import proofs.«01_k».proof.Proof.RunBackI
public import proofs.«01_k».proof.Proof.RunFwdI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's buffers: inputs `a2`..`a8`, outputs `a9`..`a16`, scratch `a17`..`a26`, each a whole buffer. -/
structure Mems where
  a2 : Memref sig .tc .smem S6 .f32
  h2 : a2.IsWhole
  a3 : Memref sig .tc .vmem S1x512x1536 .bf16
  h3 : a3.IsWhole
  a4 : Memref sig .tc .vmem S64x1536 .fp8e4m3
  h4 : a4.IsWhole
  a5 : Memref sig .tc .vmem S1x64 .f32
  h5 : a5.IsWhole
  a6 : Memref sig .tc .vmem S1x64 .f32
  h6 : a6.IsWhole
  a7 : Memref sig .tc .vmem S1x64x512 .bf16
  h7 : a7.IsWhole
  a8 : Memref sig .tc .vmem S1x64x512 .bf16
  h8 : a8.IsWhole
  a9 : Memref sig .tc .smem S6 .f32
  h9 : a9.IsWhole
  a10 : Memref sig .tc .vmem S1x64x512 .f32
  h10 : a10.IsWhole
  a11 : Memref sig .tc .vmem S1x512x1536 .bf16
  h11 : a11.IsWhole
  a12 : Memref sig .tc .vmem S64x1536 .f32
  h12 : a12.IsWhole
  a13 : Memref sig .tc .vmem S1x512x1536 .fp8e4m3
  h13 : a13.IsWhole
  a14 : Memref sig .tc .vmem S6x4096 .f32
  h14 : a14.IsWhole
  a15 : Memref sig .tc .vmem S1x64x512 .fp8e5m2
  h15 : a15.IsWhole
  a16 : Memref sig .tc .vmem S6x64 .f32
  h16 : a16.IsWhole
  a17 : Memref sig .tc .vmem S2x1x4096 .f32
  h17 : a17.IsWhole
  a18 : Memref sig .tc .vmem S2x4096x1536 .fp8e4m3
  h18 : a18.IsWhole
  a19 : Memref sig .tc .vmem S2x64x4096 .f32
  h19 : a19.IsWhole
  a20 : Memref sig .tc .vmem S64x128 .f32
  h20 : a20.IsWhole
  a21 : Memref sig .tc .vmem S64x128 .f32
  h21 : a21.IsWhole
  a22 : Memref sig .tc .vmem S64x128 .f32
  h22 : a22.IsWhole
  a23 : Memref sig .tc .vmem S64x128 .f32
  h23 : a23.IsWhole
  a24 : Memref sig .tc .vmem S64x1536 .bf16
  h24 : a24.IsWhole
  a25 : Memref sig .tc .vmem S64x128 .f32
  h25 : a25.IsWhole
  a26 : Memref sig .tc .vmem S64x128 .f32
  h26 : a26.IsWhole

/-- The contents of the input buffers. -/
structure Ins (F : FTy → Type) where
  /-- loss_weight -/
  x2 : Vec F S6 .f32
  /-- x -/
  x3 : Vec F S1x512x1536 .bf16
  /-- w -/
  x4 : Vec F S64x1536 .fp8e4m3
  /-- w_scales -/
  x5 : Vec F S1x64 .f32
  /-- b -/
  x6 : Vec F S1x64 .f32
  /-- x0 -/
  x7 : Vec F S1x64x512 .bf16
  /-- noise -/
  x8 : Vec F S1x64x512 .bf16

/-- The contents of the output and scratch buffers. -/
@[ext] structure St (F : FTy → Type) where
  /-- loss -/
  x9 : Vec F S6 .f32
  /-- pred -/
  x10 : Vec F S1x64x512 .f32
  /-- dH -/
  x11 : Vec F S1x512x1536 .bf16
  /-- dW -/
  x12 : Vec F S64x1536 .f32
  /-- h_codes -/
  x13 : Vec F S1x512x1536 .fp8e4m3
  /-- h_scales -/
  x14 : Vec F S6x4096 .f32
  /-- dv_codes -/
  x15 : Vec F S1x64x512 .fp8e5m2
  /-- dv_scales -/
  x16 : Vec F S6x64 .f32
  /-- row of scales -/
  x17 : Vec F S2x1x4096 .f32
  /-- codes kept -/
  x18 : Vec F S2x4096x1536 .fp8e4m3
  /-- gradient kept -/
  x19 : Vec F S2x64x4096 .f32
  /-- running maximum -/
  x20 : Vec F S64x128 .f32
  /-- running sum of squares -/
  x21 : Vec F S64x128 .f32
  /-- weight scales -/
  x22 : Vec F S64x128 .f32
  /-- bias -/
  x23 : Vec F S64x128 .f32
  /-- dequantised weights -/
  x24 : Vec F S64x1536 .bf16
  /-- gradient scale -/
  x25 : Vec F S64x128 .f32
  /-- inverse gradient scale -/
  x26 : Vec F S64x128 .f32

/-- The input buffers at `I`, the others at `S`. -/
def ownsAll (c : Dev nD) (M : Mems) (I : Ins F) (S : St F) : sProp 𝕄 :=
  iprop(owns (c : Thread nD τ) M.a2 fullShare I.x2
    ∗ owns (c : Thread nD τ) M.a3 fullShare I.x3
    ∗ owns (c : Thread nD τ) M.a4 fullShare I.x4
    ∗ owns (c : Thread nD τ) M.a5 fullShare I.x5
    ∗ owns (c : Thread nD τ) M.a6 fullShare I.x6
    ∗ owns (c : Thread nD τ) M.a7 fullShare I.x7
    ∗ owns (c : Thread nD τ) M.a8 fullShare I.x8
    ∗ owns (c : Thread nD τ) M.a9 fullShare S.x9
    ∗ owns (c : Thread nD τ) M.a10 fullShare S.x10
    ∗ owns (c : Thread nD τ) M.a11 fullShare S.x11
    ∗ owns (c : Thread nD τ) M.a12 fullShare S.x12
    ∗ owns (c : Thread nD τ) M.a13 fullShare S.x13
    ∗ owns (c : Thread nD τ) M.a14 fullShare S.x14
    ∗ owns (c : Thread nD τ) M.a15 fullShare S.x15
    ∗ owns (c : Thread nD τ) M.a16 fullShare S.x16
    ∗ owns (c : Thread nD τ) M.a17 fullShare S.x17
    ∗ owns (c : Thread nD τ) M.a18 fullShare S.x18
    ∗ owns (c : Thread nD τ) M.a19 fullShare S.x19
    ∗ owns (c : Thread nD τ) M.a20 fullShare S.x20
    ∗ owns (c : Thread nD τ) M.a21 fullShare S.x21
    ∗ owns (c : Thread nD τ) M.a22 fullShare S.x22
    ∗ owns (c : Thread nD τ) M.a23 fullShare S.x23
    ∗ owns (c : Thread nD τ) M.a24 fullShare S.x24
    ∗ owns (c : Thread nD τ) M.a25 fullShare S.x25
    ∗ owns (c : Thread nD τ) M.a26 fullShare S.x26)

/-- What `Gen.blkInit` makes of the contents. -/
def stInit (c : Dev nD) (i : grid0.Coords) (M : Mems)  (I : Ins F) (S : St F) : St F :=
  { S with
    x12 := M.a12.view.read (Elt F) (M.a12.view.writes (Elt F) (M.h12.unread S.x12) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).1)
    x14 := M.a14.view.read (Elt F) (M.a14.view.writes (Elt F) (M.h14.unread S.x14) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.1)
    x16 := M.a16.view.read (Elt F) (M.a16.view.writes (Elt F) (M.h16.unread S.x16) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.1)
    x22 := M.a22.view.read (Elt F) (M.a22.view.writes (Elt F) (M.h22.unread S.x22) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.2.1)
    x23 := M.a23.view.read (Elt F) (M.a23.view.writes (Elt F) (M.h23.unread S.x23) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.2.2.1)
    x24 := M.a24.view.read (Elt F) (M.a24.view.writes (Elt F) (M.h24.unread S.x24) (runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.2.2.2.1) }

set_option maxHeartbeats 2000000 in
theorem blkInit_run (c : Dev nD) (i : grid0.Coords) (M : Mems)  (I : Ins F) (S : St F) (E : Set ℕ) (K : PUnit → sProp 𝕄) :
    iprop(ownsAll c M I S ∗ (ownsAll c M I (stInit c i M  I S) -∗ K ⟨⟩))
      ⊢ wp frame (wpE (defs₀ (F := F)) Variants.none c none) E (blkInit i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 ) K := by
  unfold ownsAll
  iintro ⟨⟨H2, H3, H4, H5, H6, H7, H8, H9, H10, H11, H12, H13, H14, H15, H16, H17, H18, H19, H20, H21, H22, H23, H24, H25, H26⟩, Hk⟩
  iapply ((runInit c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  I.x4 I.x5 I.x6 S.x12 S.x14 S.x16 S.x22 S.x23 S.x24).2.2.2.2.2.2 E K)
  isplitl [H4]
  · iexact H4
  isplitl [H5]
  · iexact H5
  isplitl [H6]
  · iexact H6
  isplitl [H12]
  · iexact H12
  isplitl [H14]
  · iexact H14
  isplitl [H16]
  · iexact H16
  isplitl [H22]
  · iexact H22
  isplitl [H23]
  · iexact H23
  isplitl [H24]
  · iexact H24
  iintro ⟨G4, G5, G6, G12, G14, G16, G22, G23, G24⟩
  iapply Hk
  isplitl [H2]
  · iexact H2
  isplitl [H3]
  · iexact H3
  isplitl [G4]
  · iexact G4
  isplitl [G5]
  · iexact G5
  isplitl [G6]
  · iexact G6
  isplitl [H7]
  · iexact H7
  isplitl [H8]
  · iexact H8
  isplitl [H9]
  · iexact H9
  isplitl [H10]
  · iexact H10
  isplitl [H11]
  · iexact H11
  isplitl [G12]
  · unfold owns
    iexists _
    isplitr
    · ipureintro; exact rfl
    iexact G12
  isplitl [H13]
  · iexact H13
  isplitl [G14]
  · unfold owns
    iexists _
    isplitr
    · ipureintro; exact rfl
    iexact G14
  isplitl [H15]
  · iexact H15
  isplitl [G16]
  · unfold owns
    iexists _
    isplitr
    · ipureintro; exact rfl
    iexact G16
  isplitl [H17]
  · iexact H17
  isplitl [H18]
  · iexact H18
  isplitl [H19]
  · iexact H19
  isplitl [H20]
  · iexact H20
  isplitl [H21]
  · iexact H21
  isplitl [G22]
  · unfold owns
    iexists _
    isplitr
    · ipureintro; exact rfl
    iexact G22
  isplitl [G23]
  · unfold owns
    iexists _
    isplitr
    · ipureintro; exact rfl
    iexact G23
  isplitl [G24]
  · unfold owns
    iexists _
    isplitr
    · ipureintro; exact rfl
    iexact G24
  isplitl [H25]
  · iexact H25
  iexact H26

/-- What `Gen.blkFinish` makes of the contents. -/
def stFinish (c : Dev nD) (i : grid0.Coords) (M : Mems) (k0_h2 : k0_cond2 i = 1#1) (k0_h3 : k0_cond3 i = 1#1) (I : Ins F) (S : St F) : St F :=
  { S with
    x9 := M.a9.view.read (Elt F) (M.a9.view.writes (Elt F) (M.h9.unread S.x9) (runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).1)
    x16 := M.a16.view.read (Elt F) (M.a16.view.writes (Elt F) (M.h16.unread S.x16) (runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).2.1)
    x25 := M.a25.view.read (Elt F) (M.a25.view.writes (Elt F) (M.h25.unread S.x25) (runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).2.2.1)
    x26 := M.a26.view.read (Elt F) (M.a26.view.writes (Elt F) (M.h26.unread S.x26) (runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).2.2.2.1) }

set_option maxHeartbeats 2000000 in
theorem blkFinish_run (c : Dev nD) (i : grid0.Coords) (M : Mems) (k0_h2 : k0_cond2 i = 1#1) (k0_h3 : k0_cond3 i = 1#1) (I : Ins F) (S : St F) (E : Set ℕ) (K : PUnit → sProp 𝕄) :
    iprop(ownsAll c M I S ∗ (ownsAll c M I (stFinish c i M k0_h2 k0_h3 I S) -∗ K ⟨⟩))
      ⊢ wp frame (wpE (defs₀ (F := F)) Variants.none c none) E (blkFinish i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3) K := by
  unfold ownsAll
  iintro ⟨⟨H2, H3, H4, H5, H6, H7, H8, H9, H10, H11, H12, H13, H14, H15, H16, H17, H18, H19, H20, H21, H22, H23, H24, H25, H26⟩, Hk⟩
  iapply ((runFinish c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h2 k0_h3 I.x2 S.x9 S.x16 S.x20 S.x21 S.x25 S.x26).2.2.2.2 E K)
  isplitl [H2]
  · iexact H2
  isplitl [H9]
  · iexact H9
  isplitl [H16]
  · iexact H16
  isplitl [H20]
  · iexact H20
  isplitl [H21]
  · iexact H21
  isplitl [H25]
  · iexact H25
  isplitl [H26]
  · iexact H26
  iintro ⟨G2, G9, G16, G20, G21, G25, G26⟩
  iapply Hk
  isplitl [G2]
  · iexact G2
  isplitl [H3]
  · iexact H3
  isplitl [H4]
  · iexact H4
  isplitl [H5]
  · iexact H5
  isplitl [H6]
  · iexact H6
  isplitl [H7]
  · iexact H7
  isplitl [H8]
  · iexact H8
  isplitl [G9]
  · unfold owns
    iexists _
    isplitr
    · ipureintro; exact rfl
    iexact G9
  isplitl [H10]
  · iexact H10
  isplitl [H11]
  · iexact H11
  isplitl [H12]
  · iexact H12
  isplitl [H13]
  · iexact H13
  isplitl [H14]
  · iexact H14
  isplitl [H15]
  · iexact H15
  isplitl [G16]
  · unfold owns
    iexists _
    isplitr
    · ipureintro; exact rfl
    iexact G16
  isplitl [H17]
  · iexact H17
  isplitl [H18]
  · iexact H18
  isplitl [H19]
  · iexact H19
  isplitl [G20]
  · iexact G20
  isplitl [G21]
  · iexact G21
  isplitl [H22]
  · iexact H22
  isplitl [H23]
  · iexact H23
  isplitl [H24]
  · iexact H24
  isplitl [G25]
  · unfold owns
    iexists _
    isplitr
    · ipureintro; exact rfl
    iexact G25
  unfold owns
  iexists _
  isplitr
  · ipureintro; exact rfl
  iexact G26

/-- What `Gen.blkZero` makes of the contents. -/
def stZero (c : Dev nD) (i : grid0.Coords) (M : Mems)  (I : Ins F) (S : St F) : St F :=
  { S with
    x20 := M.a20.view.read (Elt F) (M.a20.view.writes (Elt F) (M.h20.unread S.x20) (runZero c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  S.x20 S.x21).1)
    x21 := M.a21.view.read (Elt F) (M.a21.view.writes (Elt F) (M.h21.unread S.x21) (runZero c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  S.x20 S.x21).2.1) }

set_option maxHeartbeats 2000000 in
theorem blkZero_run (c : Dev nD) (i : grid0.Coords) (M : Mems)  (I : Ins F) (S : St F) (E : Set ℕ) (K : PUnit → sProp 𝕄) :
    iprop(ownsAll c M I S ∗ (ownsAll c M I (stZero c i M  I S) -∗ K ⟨⟩))
      ⊢ wp frame (wpE (defs₀ (F := F)) Variants.none c none) E (blkZero i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 ) K := by
  unfold ownsAll
  iintro ⟨⟨H2, H3, H4, H5, H6, H7, H8, H9, H10, H11, H12, H13, H14, H15, H16, H17, H18, H19, H20, H21, H22, H23, H24, H25, H26⟩, Hk⟩
  iapply ((runZero c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26  S.x20 S.x21).2.2 E K)
  isplitl [H20]
  · iexact H20
  isplitl [H21]
  · iexact H21
  iintro ⟨G20, G21⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [G20]
  · unfold owns
    iexists _
    isplitr
    · ipureintro; exact rfl
    iexact G20
  isplitl [G21]
  · unfold owns
    iexists _
    isplitr
    · ipureintro; exact rfl
    iexact G21
  isplitl [H22]
  · iexact H22
  isplitl [H23]
  · iexact H23
  isplitl [H24]
  · iexact H24
  isplitl [H25]
  · iexact H25
  iexact H26

/-- What `Gen.blkBack` makes of the contents. -/
def stBack (c : Dev nD) (i : grid0.Coords) (M : Mems) (k0_h4 : k0_cond4 i = 1#1) (I : Ins F) (S : St F) : St F :=
  { S with
    x11 := M.a11.view.read (Elt F) (M.a11.view.writes (Elt F) (M.h11.unread S.x11) (runBack c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4 S.x11 S.x12 S.x15 S.x17 S.x18 S.x19 S.x24 S.x25 S.x26).1)
    x12 := M.a12.view.read (Elt F) (M.a12.view.writes (Elt F) (M.h12.unread S.x12) (runBack c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4 S.x11 S.x12 S.x15 S.x17 S.x18 S.x19 S.x24 S.x25 S.x26).2.1)
    x15 := M.a15.view.read (Elt F) (M.a15.view.writes (Elt F) (M.h15.unread S.x15) (runBack c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4 S.x11 S.x12 S.x15 S.x17 S.x18 S.x19 S.x24 S.x25 S.x26).2.2.1) }

set_option maxHeartbeats 2000000 in
theorem blkBack_run (c : Dev nD) (i : grid0.Coords) (M : Mems) (k0_h4 : k0_cond4 i = 1#1) (I : Ins F) (S : St F) (E : Set ℕ) (K : PUnit → sProp 𝕄) :
    iprop(ownsAll c M I S ∗ (ownsAll c M I (stBack c i M k0_h4 I S) -∗ K ⟨⟩))
      ⊢ wp frame (wpE (defs₀ (F := F)) Variants.none c none) E (blkBack i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4) K := by
  unfold ownsAll
  iintro ⟨⟨H2, H3, H4, H5, H6, H7, H8, H9, H10, H11, H12, H13, H14, H15, H16, H17, H18, H19, H20, H21, H22, H23, H24, H25, H26⟩, Hk⟩
  iapply ((runBack c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h4 S.x11 S.x12 S.x15 S.x17 S.x18 S.x19 S.x24 S.x25 S.x26).2.2.2 E K)
  isplitl [H11]
  · iexact H11
  isplitl [H12]
  · iexact H12
  isplitl [H15]
  · iexact H15
  isplitl [H17]
  · iexact H17
  isplitl [H18]
  · iexact H18
  isplitl [H19]
  · iexact H19
  isplitl [H24]
  · iexact H24
  isplitl [H25]
  · iexact H25
  isplitl [H26]
  · iexact H26
  iintro ⟨G11, G12, G15, G17, G18, G19, G24, G25, G26⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [G11]
  · unfold owns
    iexists _
    isplitr
    · ipureintro; exact rfl
    iexact G11
  isplitl [G12]
  · unfold owns
    iexists _
    isplitr
    · ipureintro; exact rfl
    iexact G12
  isplitl [H13]
  · iexact H13
  isplitl [H14]
  · iexact H14
  isplitl [G15]
  · unfold owns
    iexists _
    isplitr
    · ipureintro; exact rfl
    iexact G15
  isplitl [H16]
  · iexact H16
  isplitl [G17]
  · iexact G17
  isplitl [G18]
  · iexact G18
  isplitl [G19]
  · iexact G19
  isplitl [H20]
  · iexact H20
  isplitl [H21]
  · iexact H21
  isplitl [H22]
  · iexact H22
  isplitl [H23]
  · iexact H23
  isplitl [G24]
  · iexact G24
  isplitl [G25]
  · iexact G25
  iexact G26

/-- What `Gen.blkFwd` makes of the contents. -/
def stFwd (c : Dev nD) (i : grid0.Coords) (M : Mems) (k0_h5 : k0_cond5 i = 1#1) (I : Ins F) (S : St F) : St F :=
  { S with
    x10 := M.a10.view.read (Elt F) (M.a10.view.writes (Elt F) (M.h10.unread S.x10) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).1)
    x13 := M.a13.view.read (Elt F) (M.a13.view.writes (Elt F) (M.h13.unread S.x13) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.1)
    x14 := M.a14.view.read (Elt F) (M.a14.view.writes (Elt F) (M.h14.unread S.x14) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.1)
    x17 := M.a17.view.read (Elt F) (M.a17.view.writes (Elt F) (M.h17.unread S.x17) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.1)
    x18 := M.a18.view.read (Elt F) (M.a18.view.writes (Elt F) (M.h18.unread S.x18) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.1)
    x19 := M.a19.view.read (Elt F) (M.a19.view.writes (Elt F) (M.h19.unread S.x19) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.2.1)
    x20 := M.a20.view.read (Elt F) (M.a20.view.writes (Elt F) (M.h20.unread S.x20) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.2.2.1)
    x21 := M.a21.view.read (Elt F) (M.a21.view.writes (Elt F) (M.h21.unread S.x21) (runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.2.2.2.1) }

set_option maxHeartbeats 2000000 in
theorem blkFwd_run (c : Dev nD) (i : grid0.Coords) (M : Mems) (k0_h5 : k0_cond5 i = 1#1) (I : Ins F) (S : St F) (E : Set ℕ) (K : PUnit → sProp 𝕄) :
    iprop(ownsAll c M I S ∗ (ownsAll c M I (stFwd c i M k0_h5 I S) -∗ K ⟨⟩))
      ⊢ wp frame (wpE (defs₀ (F := F)) Variants.none c none) E (blkFwd i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5) K := by
  unfold ownsAll
  iintro ⟨⟨H2, H3, H4, H5, H6, H7, H8, H9, H10, H11, H12, H13, H14, H15, H16, H17, H18, H19, H20, H21, H22, H23, H24, H25, H26⟩, Hk⟩
  iapply ((runFwd c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 k0_h5 I.x2 I.x3 I.x4 I.x7 I.x8 S.x10 S.x13 S.x14 S.x17 S.x18 S.x19 S.x20 S.x21 S.x22 S.x23).2.2.2.2.2.2.2.2 E K)
  isplitl [H2]
  · iexact H2
  isplitl [H3]
  · iexact H3
  isplitl [H4]
  · iexact H4
  isplitl [H7]
  · iexact H7
  isplitl [H8]
  · iexact H8
  isplitl [H10]
  · iexact H10
  isplitl [H13]
  · iexact H13
  isplitl [H14]
  · iexact H14
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  iintro ⟨G2, G3, G4, G7, G8, G10, G13, G14, G17, G18, G19, G20, G21, G22, G23⟩
  iapply Hk
  isplitl [G2]
  · iexact G2
  isplitl [G3]
  · iexact G3
  isplitl [G4]
  · iexact G4
  isplitl [H5]
  · iexact H5
  isplitl [H6]
  · iexact H6
  isplitl [G7]
  · iexact G7
  isplitl [G8]
  · iexact G8
  isplitl [H9]
  · iexact H9
  isplitl [G10]
  · unfold owns
    iexists _
    isplitr
    · ipureintro; exact rfl
    iexact G10
  isplitl [H11]
  · iexact H11
  isplitl [H12]
  · iexact H12
  isplitl [G13]
  · unfold owns
    iexists _
    isplitr
    · ipureintro; exact rfl
    iexact G13
  isplitl [G14]
  · unfold owns
    iexists _
    isplitr
    · ipureintro; exact rfl
    iexact G14
  isplitl [H15]
  · iexact H15
  isplitl [H16]
  · iexact H16
  isplitl [G17]
  · unfold owns
    iexists _
    isplitr
    · ipureintro; exact rfl
    iexact G17
  isplitl [G18]
  · unfold owns
    iexists _
    isplitr
    · ipureintro; exact rfl
    iexact G18
  isplitl [G19]
  · unfold owns
    iexists _
    isplitr
    · ipureintro; exact rfl
    iexact G19
  isplitl [G20]
  · unfold owns
    iexists _
    isplitr
    · ipureintro; exact rfl
    iexact G20
  isplitl [G21]
  · unfold owns
    iexists _
    isplitr
    · ipureintro; exact rfl
    iexact G21
  isplitl [G22]
  · iexact G22
  isplitl [G23]
  · iexact G23
  isplitl [H24]
  · iexact H24
  isplitl [H25]
  · iexact H25
  iexact H26

/-- The contents after one step of the body at grid point `i`. -/
def stBody (c : Dev nD) (i : grid0.Coords) (M : Mems) (I : Ins F) (S : St F) : St F :=
  let S₁ := if _h : k0_cond1 i = 1#1 then stInit c i M I S else S
  let S₂ := if h2 : k0_cond2 i = 1#1 then
      stZero c i M I (if h3 : k0_cond3 i = 1#1 then stFinish c i M h2 h3 I S₁ else S₁)
    else S₁
  let S₃ := if h : k0_cond4 i = 1#1 then stBack c i M h I S₂ else S₂
  if h : k0_cond5 i = 1#1 then stFwd c i M h I S₃ else S₃

/-- From `A` the program runs to `B`. -/
def Runs (c : Dev nD) (A : sProp 𝕄) (p : Prog (TpuEff nD τ sig (Elt F) Λ₀ .tc) PUnit) (B : sProp 𝕄) : Prop :=
  ∀ (E : Set ℕ) (K : PUnit → sProp 𝕄), iprop(A ∗ (B -∗ K ⟨⟩)) ⊢ wp frame (wpE (defs₀ (F := F)) Variants.none c none) E p K

theorem Runs.nil (c : Dev nD) (A : sProp 𝕄) : Runs (F := F) c A (pure ⟨⟩) A := fun E K => by
  simp only [wp_pure]
  iintro ⟨H, Hk⟩
  ihave H2 := Hk $$ H
  imodintro
  iexact H2

theorem Runs.seq {c : Dev nD} {A B C : sProp 𝕄} {p q : Prog (TpuEff nD τ sig (Elt F) Λ₀ .tc) PUnit}
    (hp : Runs c A p B) (hq : Runs c B q C) : Runs c A (p >>= fun _ => q) C := fun E K => by
  rw [wp_bind]
  refine .trans ?_ (hp E _)
  iintro ⟨H, Hk⟩
  isplitl [H]
  · iexact H
  iintro H
  iapply (hq E K)
  isplitl [H]
  · iexact H
  iexact Hk

theorem Runs.dite {c : Dev nD} {M : Mems} {I : Ins F} {S : St F} {P : Prop} [Decidable P]
    {p : P → Prog (TpuEff nD τ sig (Elt F) Λ₀ .tc) PUnit} {f : P → St F}
    (h : ∀ hp, Runs c (ownsAll c M I S) (p hp) (ownsAll c M I (f hp))) :
    Runs c (ownsAll c M I S) (if hp : P then p hp else pure ⟨⟩) (ownsAll c M I (if hp : P then f hp else S)) := by
  by_cases hp : P
  · rw [dif_pos hp, dif_pos hp]; exact h hp
  · rw [dif_neg hp, dif_neg hp]; exact Runs.nil c _

/-- The body takes the buffers from `S` to `Gen.stBody` of it, the inputs as they were. -/
theorem body_run (c : Dev nD) (i : grid0.Coords) (M : Mems) (I : Ins F) (S : St F) :
    Runs c (ownsAll c M I S) (cc0_rectified_flow_final_linear i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26) (ownsAll c M I (stBody c i M I S)) := by
  rw [body_blocks]
  unfold stBody
  refine Runs.seq (Runs.dite fun _ => fun E K => blkInit_run c i M I _ E K) ?_
  refine Runs.seq (Runs.dite fun h2 => Runs.seq (Runs.dite fun h3 => fun E K => blkFinish_run c i M h2 h3 I _ E K)
    fun E K => blkZero_run c i M I _ E K) ?_
  refine Runs.seq (Runs.dite fun h4 => fun E K => blkBack_run c i M h4 I _ E K) ?_
  exact Runs.seq (Runs.dite fun h5 => fun E K => blkFwd_run c i M h5 I _ E K) (Runs.nil c _)

end Cert.KernelIdeal.Gen

end
-- ==== Proof.TrackI.lean ====
/- The frame of the kernel: the pipeline's relational proof data over a statement of what the scratch buffers hold before
   each grid point and what the body may leave in each output's staging buffer (`Gen.Track`), the body obligation from
   one fact about `Gen.stBody` (`Gen.Track.Ok`), and the run (`Gen.run_track`); then the frame claim itself (`Gen.frame`),
   from the statement that says nothing (`Gen.noTrack`). -/
module

public import proofs.«01_k».proof.Proof.StepsI
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of the body at grid point `t`: the windows' current staging buffers and the scratch buffers. -/
def memsAt (t : Fin cfg0.N) : Mems where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := win0_13.stage (cfg0.slots t 13)
  h15 := hstage0_13 ((cfg0.slots t 13).cast nbuf0_13)
  a16 := win0_14.stage (cfg0.slots t 14)
  h16 := hstage0_14 ((cfg0.slots t 14).cast nbuf0_14)
  a17 := Memref.whole cc0_scratch0
  h17 := Memref.isWhole_whole _
  a18 := Memref.whole cc0_scratch1
  h18 := Memref.isWhole_whole _
  a19 := Memref.whole cc0_scratch2
  h19 := Memref.isWhole_whole _
  a20 := Memref.whole cc0_scratch3
  h20 := Memref.isWhole_whole _
  a21 := Memref.whole cc0_scratch4
  h21 := Memref.isWhole_whole _
  a22 := Memref.whole cc0_scratch5
  h22 := Memref.isWhole_whole _
  a23 := Memref.whole cc0_scratch6
  h23 := Memref.isWhole_whole _
  a24 := Memref.whole cc0_scratch7
  h24 := Memref.isWhole_whole _
  a25 := Memref.whole cc0_scratch8
  h25 := Memref.isWhole_whole _
  a26 := Memref.whole cc0_scratch9
  h26 := Memref.isWhole_whole _

/-- The contents of the scratch buffers. -/
structure Scr (F : FTy → Type) where
  x17 : Vec F S2x1x4096 .f32
  x18 : Vec F S2x4096x1536 .fp8e4m3
  x19 : Vec F S2x64x4096 .f32
  x20 : Vec F S64x128 .f32
  x21 : Vec F S64x128 .f32
  x22 : Vec F S64x128 .f32
  x23 : Vec F S64x128 .f32
  x24 : Vec F S64x1536 .bf16
  x25 : Vec F S64x128 .f32
  x26 : Vec F S64x128 .f32

/-- The scratch part of the contents. -/
def St.scr (S : St F) : Scr F := ⟨S.x17, S.x18, S.x19, S.x20, S.x21, S.x22, S.x23, S.x24, S.x25, S.x26⟩

/-- Contents of every window's block. -/
abbrev Blocks (F : FTy → Type) : Type := (w : Fin cfg0.W) → (cfg0.win w).block.Idx → Elt F (cfg0.win w).elt

/-- The input blocks. -/
def insOf (Y : Blocks F) : Ins F := ⟨Y 0, Y 1, Y 2, Y 3, Y 4, Y 5, Y 6⟩

/-- The output blocks and the scratch contents. -/
def stOf (Y : Blocks F) (Z : Scr F) : St F := ⟨Y 7, Y 8, Y 9, Y 10, Y 11, Y 12, Y 13, Y 14, Z.x17, Z.x18, Z.x19, Z.x20, Z.x21, Z.x22, Z.x23, Z.x24, Z.x25, Z.x26⟩

/-- What is stated of the run point by point: of the scratch buffers before point `t` (`inv`), and of each output's staging
    buffer after it (`o7`..`o14`, by window). -/
structure Track (F : FTy → Type) where
  inv : Fin (cfg0.N + 1) → Scr F → Prop
  o7 : Fin cfg0.N → Vec F S6 .f32 → Prop
  o8 : Fin cfg0.N → Vec F S1x64x512 .f32 → Prop
  o9 : Fin cfg0.N → Vec F S1x512x1536 .bf16 → Prop
  o10 : Fin cfg0.N → Vec F S64x1536 .f32 → Prop
  o11 : Fin cfg0.N → Vec F S1x512x1536 .fp8e4m3 → Prop
  o12 : Fin cfg0.N → Vec F S6x4096 .f32 → Prop
  o13 : Fin cfg0.N → Vec F S1x64x512 .fp8e5m2 → Prop
  o14 : Fin cfg0.N → Vec F S6x64 .f32 → Prop

/-- The scratch buffers at `Z`. -/
def scrOwns (c : Dev nD) (Z : Scr F) : sProp 𝕄 :=
  iprop(owns (c : Thread nD τ) (Memref.whole cc0_scratch0) fullShare Z.x17
    ∗ owns (c : Thread nD τ) (Memref.whole cc0_scratch1) fullShare Z.x18
    ∗ owns (c : Thread nD τ) (Memref.whole cc0_scratch2) fullShare Z.x19
    ∗ owns (c : Thread nD τ) (Memref.whole cc0_scratch3) fullShare Z.x20
    ∗ owns (c : Thread nD τ) (Memref.whole cc0_scratch4) fullShare Z.x21
    ∗ owns (c : Thread nD τ) (Memref.whole cc0_scratch5) fullShare Z.x22
    ∗ owns (c : Thread nD τ) (Memref.whole cc0_scratch6) fullShare Z.x23
    ∗ owns (c : Thread nD τ) (Memref.whole cc0_scratch7) fullShare Z.x24
    ∗ owns (c : Thread nD τ) (Memref.whole cc0_scratch8) fullShare Z.x25
    ∗ owns (c : Thread nD τ) (Memref.whole cc0_scratch9) fullShare Z.x26)

/-- The pipeline's proof data: inputs are left as found, the rest is what `T` states. -/
def rdat (T : Dev nD → Track F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => (T c).o7 t X
    | ⟨8, _⟩ => fun _ X => (T c).o8 t X
    | ⟨9, _⟩ => fun _ X => (T c).o9 t X
    | ⟨10, _⟩ => fun _ X => (T c).o10 t X
    | ⟨11, _⟩ => fun _ X => (T c).o11 t X
    | ⟨12, _⟩ => fun _ X => (T c).o12 t X
    | ⟨13, _⟩ => fun _ X => (T c).o13 t X
    | ⟨14, _⟩ => fun _ X => (T c).o14 t X
  Φ t := iprop((∃ Z : Scr F, ⌜(T c).inv t Z⌝ ∗ scrOwns c Z) ∗ (∃ r, prngReg c r))
  q _ := fullShare
  owed _ := 0

theorem A_eq (T : Dev nD → Track F) (c : Dev nD) (w : Fin cfg0.W) : (rdat m T c).A w = V m c (Pipeline.arrRef spec0 w) := by
  dsimp only [rdat]

/-- The statement holds before the first point and each step of the body keeps it. -/
structure Track.Ok (T : Dev nD → Track F) : Prop where
  zero : ∀ c Z, (T c).inv 0 Z
  step : ∀ (c : Dev nD) (t : Fin cfg0.N) (Y : Blocks F) (Z : Scr F), (∀ w, (rdat m T c).Finds w t (Y w)) → (T c).inv t.castSucc Z →
    (T c).inv t.succ (stBody c (grid0.coords t) (memsAt t) (insOf Y) (stOf Y Z)).scr
      ∧ (T c).o7 t (stBody c (grid0.coords t) (memsAt t) (insOf Y) (stOf Y Z)).x9
      ∧ (T c).o8 t (stBody c (grid0.coords t) (memsAt t) (insOf Y) (stOf Y Z)).x10
      ∧ (T c).o9 t (stBody c (grid0.coords t) (memsAt t) (insOf Y) (stOf Y Z)).x11
      ∧ (T c).o10 t (stBody c (grid0.coords t) (memsAt t) (insOf Y) (stOf Y Z)).x12
      ∧ (T c).o11 t (stBody c (grid0.coords t) (memsAt t) (insOf Y) (stOf Y Z)).x13
      ∧ (T c).o12 t (stBody c (grid0.coords t) (memsAt t) (insOf Y) (stOf Y Z)).x14
      ∧ (T c).o13 t (stBody c (grid0.coords t) (memsAt t) (insOf Y) (stOf Y Z)).x15
      ∧ (T c).o14 t (stBody c (grid0.coords t) (memsAt t) (insOf Y) (stOf Y Z)).x16

/-- What the body is called with at point `t`, -/
def bodyPre (T : Dev nD → Track F) (c : Dev nD) (t : Fin cfg0.N) (Y : Blocks F) : sProp 𝕄 :=
  iprop((rdat m T c).Φ t.castSucc ∗ (rdat m T c).owesAt () t.castSucc
    ∗ owns (c : Thread nD τ) (memsAt t).a2 fullShare (Y 0)
    ∗ owns (c : Thread nD τ) (memsAt t).a3 fullShare (Y 1)
    ∗ owns (c : Thread nD τ) (memsAt t).a4 fullShare (Y 2)
    ∗ owns (c : Thread nD τ) (memsAt t).a5 fullShare (Y 3)
    ∗ owns (c : Thread nD τ) (memsAt t).a6 fullShare (Y 4)
    ∗ owns (c : Thread nD τ) (memsAt t).a7 fullShare (Y 5)
    ∗ owns (c : Thread nD τ) (memsAt t).a8 fullShare (Y 6)
    ∗ owns (c : Thread nD τ) (memsAt t).a9 fullShare (Y 7)
    ∗ owns (c : Thread nD τ) (memsAt t).a10 fullShare (Y 8)
    ∗ owns (c : Thread nD τ) (memsAt t).a11 fullShare (Y 9)
    ∗ owns (c : Thread nD τ) (memsAt t).a12 fullShare (Y 10)
    ∗ owns (c : Thread nD τ) (memsAt t).a13 fullShare (Y 11)
    ∗ owns (c : Thread nD τ) (memsAt t).a14 fullShare (Y 12)
    ∗ owns (c : Thread nD τ) (memsAt t).a15 fullShare (Y 13)
    ∗ owns (c : Thread nD τ) (memsAt t).a16 fullShare (Y 14))

/-- and what it returns. -/
def bodyPost (T : Dev nD → Track F) (c : Dev nD) (t : Fin cfg0.N) (Y : Blocks F) : sProp 𝕄 :=
  iprop((rdat m T c).Φ t.succ ∗ (rdat m T c).owesAt () t.succ
    ∗ (∃ X, ⌜(rdat m T c).after 0 t (Y 0) X⌝ ∗ owns (c : Thread nD τ) (memsAt t).a2 fullShare X)
    ∗ (∃ X, ⌜(rdat m T c).after 1 t (Y 1) X⌝ ∗ owns (c : Thread nD τ) (memsAt t).a3 fullShare X)
    ∗ (∃ X, ⌜(rdat m T c).after 2 t (Y 2) X⌝ ∗ owns (c : Thread nD τ) (memsAt t).a4 fullShare X)
    ∗ (∃ X, ⌜(rdat m T c).after 3 t (Y 3) X⌝ ∗ owns (c : Thread nD τ) (memsAt t).a5 fullShare X)
    ∗ (∃ X, ⌜(rdat m T c).after 4 t (Y 4) X⌝ ∗ owns (c : Thread nD τ) (memsAt t).a6 fullShare X)
    ∗ (∃ X, ⌜(rdat m T c).after 5 t (Y 5) X⌝ ∗ owns (c : Thread nD τ) (memsAt t).a7 fullShare X)
    ∗ (∃ X, ⌜(rdat m T c).after 6 t (Y 6) X⌝ ∗ owns (c : Thread nD τ) (memsAt t).a8 fullShare X)
    ∗ (∃ X, ⌜(rdat m T c).after 7 t (Y 7) X⌝ ∗ owns (c : Thread nD τ) (memsAt t).a9 fullShare X)
    ∗ (∃ X, ⌜(rdat m T c).after 8 t (Y 8) X⌝ ∗ owns (c : Thread nD τ) (memsAt t).a10 fullShare X)
    ∗ (∃ X, ⌜(rdat m T c).after 9 t (Y 9) X⌝ ∗ owns (c : Thread nD τ) (memsAt t).a11 fullShare X)
    ∗ (∃ X, ⌜(rdat m T c).after 10 t (Y 10) X⌝ ∗ owns (c : Thread nD τ) (memsAt t).a12 fullShare X)
    ∗ (∃ X, ⌜(rdat m T c).after 11 t (Y 11) X⌝ ∗ owns (c : Thread nD τ) (memsAt t).a13 fullShare X)
    ∗ (∃ X, ⌜(rdat m T c).after 12 t (Y 12) X⌝ ∗ owns (c : Thread nD τ) (memsAt t).a14 fullShare X)
    ∗ (∃ X, ⌜(rdat m T c).after 13 t (Y 13) X⌝ ∗ owns (c : Thread nD τ) (memsAt t).a15 fullShare X)
    ∗ (∃ X, ⌜(rdat m T c).after 14 t (Y 14) X⌝ ∗ owns (c : Thread nD τ) (memsAt t).a16 fullShare X))

set_option maxHeartbeats 2000000 in
/-- The body at any point. -/
theorem sound_body (T : Dev nD → Track F) (hT : Track.Ok m T) (c : Dev nD) (t : Fin cfg0.N) (Y : Blocks F) (hY : ∀ w, (rdat m T c).Finds w t (Y w)) :
    bodyPre m T c t Y ⊢ wp frame (wpE (defs₀ (F := F)) Variants.none c none) Set.univ (bodyAt0 t) (fun _ => bodyPost m T c t Y) := by
  unfold bodyPre bodyPost
  rw [show (rdat m T c).owesAt () t.succ = (rdat m T c).owesAt () t.castSucc from rfl]
  rw [show (rdat m T c).Φ t.succ = iprop((∃ Z : Scr F, ⌜(T c).inv t.succ Z⌝ ∗ scrOwns c Z) ∗ (∃ r, prngReg c r)) from rfl]
  rw [show (rdat m T c).Φ t.castSucc = iprop((∃ Z : Scr F, ⌜(T c).inv t.castSucc Z⌝ ∗ scrOwns c Z) ∗ (∃ r, prngReg c r)) from rfl]
  unfold scrOwns
  iintro ⟨⟨⟨%Z, %hZ, Z0, Z1, Z2, Z3, Z4, Z5, Z6, Z7, Z8, Z9⟩, Hg⟩, Ho, H0, H1, H2, H3, H4, H5, H6, H7, H8, H9, H10, H11, H12, H13, H14⟩
  have hrun := body_run c (grid0.coords t) (memsAt t) (insOf Y) (stOf Y Z)
  have hstep := hT.step c t Y Z hY hZ
  generalize hS : stBody c (grid0.coords t) (memsAt t) (insOf Y) (stOf Y Z) = S' at hrun hstep
  unfold Runs ownsAll at hrun
  obtain ⟨hi, q7, q8, q9, q10, q11, q12, q13, q14⟩ := hstep
  iapply (hrun Set.univ _)
  isplitl [H0 H1 H2 H3 H4 H5 H6 H7 H8 H9 H10 H11 H12 H13 H14 Z0 Z1 Z2 Z3 Z4 Z5 Z6 Z7 Z8 Z9]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [Z0]
    · iexact Z0
    isplitl [Z1]
    · iexact Z1
    isplitl [Z2]
    · iexact Z2
    isplitl [Z3]
    · iexact Z3
    isplitl [Z4]
    · iexact Z4
    isplitl [Z5]
    · iexact Z5
    isplitl [Z6]
    · iexact Z6
    isplitl [Z7]
    · iexact Z7
    isplitl [Z8]
    · iexact Z8
    iexact Z9
  iintro ⟨H0, H1, H2, H3, H4, H5, H6, H7, H8, H9, H10, H11, H12, H13, H14, Z0, Z1, Z2, Z3, Z4, Z5, Z6, Z7, Z8, Z9⟩
  isplitl [Z0 Z1 Z2 Z3 Z4 Z5 Z6 Z7 Z8 Z9 Hg]
  · isplitr [Hg]
    · iexists S'.scr
      isplitr
      · ipureintro; exact hi
      isplitl [Z0]
      · iexact Z0
      isplitl [Z1]
      · iexact Z1
      isplitl [Z2]
      · iexact Z2
      isplitl [Z3]
      · iexact Z3
      isplitl [Z4]
      · iexact Z4
      isplitl [Z5]
      · iexact Z5
      isplitl [Z6]
      · iexact Z6
      isplitl [Z7]
      · iexact Z7
      isplitl [Z8]
      · iexact Z8
      iexact Z9
    iexact Hg
  isplitl [Ho]
  · iexact Ho
  isplitl [H0]
  · iexists _
    isplitr
    · ipureintro; exact rfl
    iexact H0
  isplitl [H1]
  · iexists _
    isplitr
    · ipureintro; exact rfl
    iexact H1
  isplitl [H2]
  · iexists _
    isplitr
    · ipureintro; exact rfl
    iexact H2
  isplitl [H3]
  · iexists _
    isplitr
    · ipureintro; exact rfl
    iexact H3
  isplitl [H4]
  · iexists _
    isplitr
    · ipureintro; exact rfl
    iexact H4
  isplitl [H5]
  · iexists _
    isplitr
    · ipureintro; exact rfl
    iexact H5
  isplitl [H6]
  · iexists _
    isplitr
    · ipureintro; exact rfl
    iexact H6
  isplitl [H7]
  · iexists _
    isplitr
    · ipureintro; exact q7
    iexact H7
  isplitl [H8]
  · iexists _
    isplitr
    · ipureintro; exact q8
    iexact H8
  isplitl [H9]
  · iexists _
    isplitr
    · ipureintro; exact q9
    iexact H9
  isplitl [H10]
  · iexists _
    isplitr
    · ipureintro; exact q10
    iexact H10
  isplitl [H11]
  · iexists _
    isplitr
    · ipureintro; exact q11
    iexact H11
  isplitl [H12]
  · iexists _
    isplitr
    · ipureintro; exact q12
    iexact H12
  isplitl [H13]
  · iexists _
    isplitr
    · ipureintro; exact q13
    iexact H13
  iexists _
  isplitr
  · ipureintro; exact q14
  iexact H14

/-- What the pipeline calls the body with at point `t` is `Gen.bodyAt0`. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (T : Dev nD → Track F) (hT : Track.Ok m T) (c : Dev nD) :
    (rdat m T c).BodyObligation (defs₀ (F := F)) Variants.none () Set.univ := fun t Y hY => by
  rw [bigSep_W0, bigSep_W0, defs₀_row]
  exact sound_body m T hT c t Y hY

/-- The frame kit's invariant: the scratch buffers and the generator at anything. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

/-- What the launch hands the region gives the statement before the first point. -/
theorem hin (T : Dev nD → Track F) (hT : Track.Ok m T) (c : Dev nD) : Pipeline.ΦA spec0 c ⊢ (rdat m T c).Φ 0 := by
  rw [show (rdat m T c).Φ 0 = iprop((∃ Z : Scr F, ⌜(T c).inv 0 Z⌝ ∗ scrOwns c Z) ∗ (∃ r, prngReg c r)) from rfl, PhiA0_eq]
  unfold scrOwns
  iintro ⟨⟨⟨%d0, Z0⟩, ⟨%d1, Z1⟩, ⟨%d2, Z2⟩, ⟨%d3, Z3⟩, ⟨%d4, Z4⟩, ⟨%d5, Z5⟩, ⟨%d6, Z6⟩, ⟨%d7, Z7⟩, ⟨%d8, Z8⟩, ⟨%d9, Z9⟩⟩, Hg⟩
  isplitr [Hg]
  · iexists (⟨d0, d1, d2, d3, d4, d5, d6, d7, d8, d9⟩ : Scr F)
    isplitr
    · ipureintro; exact hT.zero c _
    isplitl [Z0]
    · iexact Z0
    isplitl [Z1]
    · iexact Z1
    isplitl [Z2]
    · iexact Z2
    isplitl [Z3]
    · iexact Z3
    isplitl [Z4]
    · iexact Z4
    isplitl [Z5]
    · iexact Z5
    isplitl [Z6]
    · iexact Z6
    isplitl [Z7]
    · iexact Z7
    isplitl [Z8]
    · iexact Z8
    iexact Z9
  iexact Hg

/-- After the last point the scratch contents are forgotten. -/
theorem hout (T : Dev nD → Track F) (c : Dev nD) : (rdat m T c).Φ (Fin.last cfg0.N) ⊢ Pipeline.ΦA spec0 c := by
  rw [show (rdat m T c).Φ (Fin.last cfg0.N) = iprop((∃ Z : Scr F, ⌜(T c).inv (Fin.last cfg0.N) Z⌝ ∗ scrOwns c Z) ∗ (∃ r, prngReg c r)) from rfl, PhiA0_eq]
  unfold scrOwns
  iintro ⟨⟨%Z, %hZ, Z0, Z1, Z2, Z3, Z4, Z5, Z6, Z7, Z8, Z9⟩, Hg⟩
  isplitr [Hg]
  · isplitl [Z0]
    · iexists _; iexact Z0
    isplitl [Z1]
    · iexists _; iexact Z1
    isplitl [Z2]
    · iexists _; iexact Z2
    isplitl [Z3]
    · iexists _; iexact Z3
    isplitl [Z4]
    · iexists _; iexact Z4
    isplitl [Z5]
    · iexists _; iexact Z5
    isplitl [Z6]
    · iexists _; iexact Z6
    isplitl [Z7]
    · iexists _; iexact Z7
    isplitl [Z8]
    · iexists _; iexact Z8
    iexists _; iexact Z9
  iexact Hg

set_option backward.isDefEq.respectTransparency.types false in
set_option maxHeartbeats 800000 in
/-- The launch: every run ends, with the arrays as the proof data say and every semaphore counter at zero. -/
theorem run_track (T : Dev nD → Track F) (hT : Track.Ok m T) :
    θ_run defs (onTc (τ := τ) (main (F := F))) (s₀ m ρ) (fun r => RDat.FramePost (cfgs 0) (rdat m T) (V m) r ∧ r.2.sem = fun _ => 0) :=
  Pipeline.RDat.θ_run_frame_track (Q' := _) cfgs (0 : Fin 1) launch0 defs₀ Variants.none (rdat m T) m ρ main
    (hbody := body_obligation m T hT) (hshare := fun c w => by unfold RDat.share; split <;> rfl)
    (howed := fun _ _ => rfl) (V := V m)
    (hmain := hmain m Variants.none) (hA := A_eq m T) (hin := hin m T hT) (hout := hout m T)

/-- Nothing stated. -/
def noTrack (_ : Dev nD) : Track F := ⟨fun _ _ => True, fun _ _ => True, fun _ _ => True, fun _ _ => True, fun _ _ => True, fun _ _ => True, fun _ _ => True, fun _ _ => True, fun _ _ => True⟩

theorem noTrack_ok : Track.Ok m (noTrack (F := F)) where
  zero _ _ := trivial
  step _ _ _ _ _ _ := ⟨trivial, trivial, trivial, trivial, trivial, trivial, trivial, trivial, trivial⟩

/-- The argument arrays at the end of a run are what they were at its start. -/
theorem args_of (T : Dev nD → Track F) (r : PUnit × MemSt nD τ sig (Elt F)) (h : RDat.FramePost (cfgs 0) (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine ⟨?_, ?_, ?_, ?_, ?_, ?_, ?_⟩
  · exact ((h.arr_in c 1 rfl).trans (A_eq m T c 1)).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h.arr_in c 0 rfl).trans (A_eq m T c 0)).trans (V_main_arg6 m c)

/-- The frame claim, at any reading of the floats: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_of m noTrack r h.1, h.2⟩) (run_track m ρ noTrack (noTrack_ok m))

end Cert.KernelIdeal.Gen

end
-- ==== Proof.Spec.lean ====
module
public import Idealize.ShloMosaic.Lib.Pointwise

@[expose] public section

/-!
# The mathematics

The layer and its gradient written over the extended reals, one definition a quantity, indexed by natural numbers:
`b` a sample, `s` a token of it, `d` a coordinate of the hidden row, `p` an output channel.
Both the kernel and the reference are proved to compute these.
-/

namespace Cert.Spec
open Idealize.ShloMosaic

/-- The absolute value as both programs take it. -/
noncomputable def ab (x : EReal) : EReal := max x (-x)

/-- The word of the largest power of two not above `y`, among 0 and the powers `2^(k-127)`, `1 ≤ k ≤ 252`:
    a word whose exponent field is `k` and whose other bits are 0. -/
noncomputable def expBits (y : EReal) : BitVec 32 :=
  Finset.fold IntOp.maxsi 2147483648#32
    (fun k : Fin 253 =>
      if Ideal.ofBits .f32 (IntOp.shli ArithUnit.vector (BitVec.ofNat 32 k.val) 23#32) ≤ y then
        IntOp.shli ArithUnit.vector (BitVec.ofNat 32 k.val) 23#32
      else 0#32) Finset.univ

/-- The scale: twice that power, and 1 where it is 0. -/
noncomputable def scaleOf (y : EReal) : EReal :=
  Scalar.select (IntOp.cmpi .eq (expBits y) 0#32) (1 : EReal) (Ideal.ofBits .f32 (IntOp.addi (expBits y) 8388608#32))

/-- The reciprocal of the scale. -/
noncomputable def invOf (y : EReal) : EReal :=
  Scalar.select (IntOp.cmpi .eq (expBits y) 0#32) (1 : EReal) (Ideal.ofBits .f32 (IntOp.subi 2122317824#32 (expBits y)))

/-- The largest entry of a finite family. -/
noncomputable def top {n : ℕ} (f : Fin n → EReal) : EReal :=
  Finset.fold max (Ideal.ofBits .f32 0xFF800000#32) f Finset.univ

/-- What the layer is given. -/
structure Args where
  /-- the loss weight of a sample -/
  lw : ℕ → EReal
  /-- the hidden rows: sample, token, coordinate -/
  x : ℕ → ℕ → ℕ → EReal
  /-- the weight codes: channel, coordinate -/
  w : ℕ → ℕ → EReal
  /-- the weight scales -/
  ws : ℕ → EReal
  /-- the bias -/
  bias : ℕ → EReal
  /-- the clean sample: sample, channel, token -/
  x0 : ℕ → ℕ → ℕ → EReal
  /-- the noise: sample, channel, token -/
  nz : ℕ → ℕ → ℕ → EReal

variable (A : Args)

/-- The quotient whose power of two scales a row. -/
noncomputable def rowY (b s : ℕ) : EReal := top (fun d : Fin 1536 => ab (A.x b s d)) * Ideal.ofBits .f32 991054117#32
/-- The scale of a row. -/
noncomputable def hs (b s : ℕ) : EReal := scaleOf (rowY A b s)
/-- The codes of a row. -/
noncomputable def code (b s d : ℕ) : EReal :=
  min (max (A.x b s d * invOf (rowY A b s)) (Ideal.ofBits .bf16 50144#16)) (Ideal.ofBits .bf16 17376#16)
/-- The product of the codes. -/
noncomputable def acc (b p s : ℕ) : EReal := ∑ d : Fin 1536, A.w p d * code A b s d
/-- The prediction. -/
noncomputable def pred (b p s : ℕ) : EReal := acc A b p s * hs A b s * A.ws p + A.bias p
/-- The prediction less the target. -/
noncomputable def diff (b p s : ℕ) : EReal := pred A b p s - (A.nz b p s - A.x0 b p s)
/-- The gradient of the prediction. -/
noncomputable def grad (b p s : ℕ) : EReal := diff A b p s * (A.lw b * Ideal.ofBits .f32 900377259#32)
/-- The quotient whose power of two scales the gradient of a sample and channel. -/
noncomputable def gradY (b p : ℕ) : EReal := top (fun s : Fin 4096 => ab (grad A b p s)) * Ideal.ofBits .f32 932333861#32
/-- The scale of the gradient. -/
noncomputable def gs (b p : ℕ) : EReal := scaleOf (gradY A b p)
/-- The codes of the gradient. -/
noncomputable def gcode (b p s : ℕ) : EReal :=
  min (Ideal.ofBits .f32 1197473792#32) (max (Ideal.ofBits .f32 3344957440#32) (grad A b p s * invOf (gradY A b p)))
/-- The gradient as its codes give it back. -/
noncomputable def gdq (b p s : ℕ) : EReal := gcode A b p s * gs A b p
/-- The weights as their codes give them back. -/
noncomputable def wdq (p d : ℕ) : EReal := A.w p d * A.ws p
/-- The gradient of the hidden rows. -/
noncomputable def dH (b s d : ℕ) : EReal := ∑ p : Fin 64, gdq A b p s * wdq A p d
/-- One token's share in the gradient of the weights. -/
noncomputable def dWterm (b s p d : ℕ) : EReal := gdq A b p s * hs A b s * code A b s d
/-- The gradient of the weights. -/
noncomputable def dW (p d : ℕ) : EReal := ∑ b : Fin 6, ∑ s : Fin 4096, dWterm A b s p d
/-- The sum of a sample's squares. -/
noncomputable def sse (b : ℕ) : EReal := ∑ p : Fin 64, ∑ s : Fin 4096, diff A b p s * diff A b p s
/-- The loss of a sample. -/
noncomputable def loss (b : ℕ) : EReal := A.lw b * (sse A b * Ideal.ofBits .f32 914358272#32)

end Cert.Spec
-- ==== Proof.Words.lean ====
module
public import proofs.«01_k».proof.Proof.Spec

@[expose] public section

/-!
# Comparisons of small indices, sums along a diagonal, maxima in pieces
-/

namespace Cert.Spec
open Idealize.ShloMosaic

/-- Two small numbers compared as words choose as the numbers compared do. -/
theorem select_eq {α : Type} (a b : ℕ) (ha : a < 4096) (hb : b < 4096) (x y : α) :
    Scalar.select (IntOp.cmpi .eq (BitVec.ofNat 32 a) (BitVec.ofNat 32 b)) x y = if a = b then x else y := by
  have h : (BitVec.ofNat 32 a = BitVec.ofNat 32 b) ↔ a = b := by
    rw [← BitVec.toNat_inj, BitVec.toNat_ofNat, BitVec.toNat_ofNat]
    omega
  unfold Scalar.select
  by_cases e : a = b
  · simp [IntOp.cmpi, e]
  · have h' : (BitVec.ofNat 32 a == BitVec.ofNat 32 b) = false := beq_eq_false_iff_ne.mpr fun q => e (h.mp q)
    simp [IntOp.cmpi, h', e]

/-- The sum of a family kept at one index and 0 elsewhere, the index on the left. -/
theorem sum_diag_left {n : ℕ} (hn : n ≤ 4096) (i : Fin n) (f : Fin n → EReal) :
    ∑ x : Fin n, Scalar.select (IntOp.cmpi .eq (BitVec.ofNat 32 i.val) (BitVec.ofNat 32 x.val)) (f x) 0 = f i := by
  have h : ∀ x : Fin n, Scalar.select (IntOp.cmpi .eq (BitVec.ofNat 32 i.val) (BitVec.ofNat 32 x.val)) (f x) 0
      = if i = x then f x else 0 := fun x => by
    rw [select_eq _ _ (by omega) (by omega)]
    simp only [Fin.ext_iff]
  rw [Finset.sum_congr rfl fun x _ => h x]
  simp

/-- The same, the index on the right. -/
theorem sum_diag_right {n : ℕ} (hn : n ≤ 4096) (i : Fin n) (f : Fin n → EReal) :
    ∑ x : Fin n, Scalar.select (IntOp.cmpi .eq (BitVec.ofNat 32 x.val) (BitVec.ofNat 32 i.val)) (f x) 0 = f i := by
  have h : ∀ x : Fin n, Scalar.select (IntOp.cmpi .eq (BitVec.ofNat 32 x.val) (BitVec.ofNat 32 i.val)) (f x) 0
      = if x = i then f x else 0 := fun x => by
    rw [select_eq _ _ (by omega) (by omega)]
    simp only [Fin.ext_iff]
  rw [Finset.sum_congr rfl fun x _ => h x]
  simp

theorem ofBits_neg_inf : Ideal.ofBits .f32 0xFF800000#32 = ⊥ := by
  simp [Ideal.ofBits, Ideal.ieee]

/-- The largest entry is the supremum. -/
theorem top_eq_sup {n : ℕ} (f : Fin n → EReal) : top f = Finset.univ.sup f := by
  unfold top
  rw [ofBits_neg_inf]
  rfl

theorem le_top {n : ℕ} (f : Fin n → EReal) (i : Fin n) : f i ≤ top f := by
  rw [top_eq_sup]
  exact Finset.le_sup (Finset.mem_univ i)

theorem top_le {n : ℕ} (f : Fin n → EReal) (a : EReal) (h : ∀ i, f i ≤ a) : top f ≤ a := by
  rw [top_eq_sup]
  exact Finset.sup_le fun i _ => h i

/-- The largest of 1536 entries, taken lane by lane over 12 groups of 128 first. -/
theorem top_lanes (f : ℕ → EReal) :
    top (fun l : Fin 128 => max (max (max (max (max (max (max (max (max (max (max (f l) (f (128 + l))) (f (256 + l)))
      (f (384 + l))) (f (512 + l))) (f (640 + l))) (f (768 + l))) (f (896 + l))) (f (1024 + l))) (f (1152 + l)))
      (f (1280 + l))) (f (1408 + l)))
      = top (fun d : Fin 1536 => f d) := by
  apply le_antisymm
  · refine top_le _ _ fun l => ?_
    have h : ∀ k, k < 1536 → f k ≤ top (fun d : Fin 1536 => f d) := fun k hk => le_top (fun d : Fin 1536 => f d) ⟨k, hk⟩
    have hl := l.isLt
    simp only [max_le_iff]
    refine ⟨⟨⟨⟨⟨⟨⟨⟨⟨⟨⟨?_, ?_⟩, ?_⟩, ?_⟩, ?_⟩, ?_⟩, ?_⟩, ?_⟩, ?_⟩, ?_⟩, ?_⟩, ?_⟩ <;> exact h _ (by omega)
  · refine top_le _ _ fun d => ?_
    refine le_trans ?_ (le_top _ (⟨d.val % 128, by omega⟩ : Fin 128))
    simp only [le_max_iff]
    have hd := d.isLt
    have e : d.val = 128 * (d.val / 128) + d.val % 128 := by omega
    have hq : d.val / 128 < 12 := by omega
    generalize d.val / 128 = q at *
    generalize d.val % 128 = r at *
    rw [e]
    interval_cases q <;> simp

/-- The same of a family on the 1536 places. -/
theorem top_lanes_fin (g : Fin 1536 → EReal) :
    top (fun l : Fin 128 => max (max (max (max (max (max (max (max (max (max (max (g ⟨l.val, by omega⟩) (g ⟨128 + l.val, by omega⟩))
      (g ⟨256 + l.val, by omega⟩)) (g ⟨384 + l.val, by omega⟩)) (g ⟨512 + l.val, by omega⟩)) (g ⟨640 + l.val, by omega⟩))
      (g ⟨768 + l.val, by omega⟩)) (g ⟨896 + l.val, by omega⟩)) (g ⟨1024 + l.val, by omega⟩)) (g ⟨1152 + l.val, by omega⟩))
      (g ⟨1280 + l.val, by omega⟩)) (g ⟨1408 + l.val, by omega⟩))
      = top g := by
  have h := top_lanes (fun k => if h : k < 1536 then g ⟨k, h⟩ else 0)
  have e : (fun d : Fin 1536 => if h : d.val < 1536 then g ⟨d.val, h⟩ else 0) = g := funext fun d => dif_pos d.isLt
  rw [e] at h
  rw [← h]
  refine congrArg top (funext fun l => ?_)
  have hl := l.isLt
  rw [dif_pos (by omega), dif_pos (by omega), dif_pos (by omega), dif_pos (by omega), dif_pos (by omega), dif_pos (by omega),
    dif_pos (by omega), dif_pos (by omega), dif_pos (by omega), dif_pos (by omega), dif_pos (by omega), dif_pos (by omega)]

end Cert.Spec
-- ==== Proof.Hits.lean ====
module
public import Idealize.ShloMosaic.Lib.Pointwise
public import Idealize.ShloMosaic.Lib.VecWindow
public import Idealize.ShloMosaic.Lib.WritesUnit

@[expose] public section

/-!
# Reading back a stored block by its coordinates
-/

namespace Idealize.ShloMosaic.View
open Idealize.ShloMosaic

variable {sig : RefSig} {κ : Kind} {sp : Space} {e : EltTy} {Val : EltTy → Type}

/-- An entry inside the newest stored block of a rank-3 buffer is that block's entry. -/
theorem hit3 {n₀ n₁ n₂ m₀ m₁ m₂ : ℕ} (v : View sig κ sp (⟨3, ![n₀, n₁, n₂]⟩ : Shape) e) (f : v.ty.Contents Val)
    {off : Fin 3 → ℕ} (inb : ∀ a, off a + (![m₀, m₁, m₂] : Fin 3 → ℕ) a ≤ (⟨3, ![n₀, n₁, n₂]⟩ : Shape).size a)
    (w : (⟨3, ![m₀, m₁, m₂]⟩ : Shape).Idx → Val e) (L : List (Piece Val (⟨3, ![n₀, n₁, n₂]⟩ : Shape) e))
    {o₀ o₁ o₂ : ℕ} (ho : off = ![o₀, o₁, o₂]) (x₀ : Fin n₀) (x₁ : Fin n₁) (x₂ : Fin n₂) (y₀ : Fin m₀) (y₁ : Fin m₁) (y₂ : Fin m₂)
    (h₀ : x₀.val = o₀ + y₀.val) (h₁ : x₁.val = o₁ + y₁.val) (h₂ : x₂.val = o₂ + y₂.val) :
    v.read Val (v.writes Val f ((⟨Rect.unit off ![m₀, m₁, m₂] inb, w⟩ : Piece Val (⟨3, ![n₀, n₁, n₂]⟩ : Shape) e) :: L)) (ix3 x₀ x₁ x₂)
      = w (ix3 y₀ y₁ y₂) :=
  read_writes_cons_unit_of_mem v f inb w L (ix3 x₀ x₁ x₂) (ix3 y₀ y₁ y₂ : (⟨3, ![m₀, m₁, m₂]⟩ : Shape).Idx) ho fun a =>
    match a with
    | ⟨0, _⟩ => h₀
    | ⟨1, _⟩ => h₁
    | ⟨2, _⟩ => h₂

/-- An entry inside the newest stored block of a rank-2 buffer is that block's entry. -/
theorem hit2 {n₀ n₁ m₀ m₁ : ℕ} (v : View sig κ sp (⟨2, ![n₀, n₁]⟩ : Shape) e) (f : v.ty.Contents Val)
    {off : Fin 2 → ℕ} (inb : ∀ a, off a + (![m₀, m₁] : Fin 2 → ℕ) a ≤ (⟨2, ![n₀, n₁]⟩ : Shape).size a)
    (w : (⟨2, ![m₀, m₁]⟩ : Shape).Idx → Val e) (L : List (Piece Val (⟨2, ![n₀, n₁]⟩ : Shape) e))
    {o₀ o₁ : ℕ} (ho : off = ![o₀, o₁]) (x₀ : Fin n₀) (x₁ : Fin n₁) (y₀ : Fin m₀) (y₁ : Fin m₁)
    (h₀ : x₀.val = o₀ + y₀.val) (h₁ : x₁.val = o₁ + y₁.val) :
    v.read Val (v.writes Val f ((⟨Rect.unit off ![m₀, m₁] inb, w⟩ : Piece Val (⟨2, ![n₀, n₁]⟩ : Shape) e) :: L)) (ix2 x₀ x₁)
      = w (ix2 y₀ y₁) :=
  read_writes_cons_unit_of_mem v f inb w L (ix2 x₀ x₁) (ix2 y₀ y₁ : (⟨2, ![m₀, m₁]⟩ : Shape).Idx) ho fun a =>
    match a with
    | ⟨0, _⟩ => h₀
    | ⟨1, _⟩ => h₁

end Idealize.ShloMosaic.View
-- ==== Proof.ValueRows.lean ====
module
public import proofs.«01_k».proof.Proof.StepsI
public import proofs.«01_k».proof.Proof.Words
public import proofs.«01_k».proof.Proof.Hits
public import Idealize.ShloMosaic.Lib.Pointwise
public import Idealize.ShloMosaic.Lib.VecWindow
public import Idealize.ShloMosaic.Lib.WritesUnit

@[expose] public section

/-!
# The rows of a chunk: their scales and their codes

The body takes the 512 rows of a chunk in 16 groups of 32, the same operations on each.
-/

set_option maxRecDepth 16384

namespace Cert.KernelIdeal.Gen
open Idealize.ShloMosaic Cert.KernelIdeal

/-- The codes of a group of rows, as the body computes them. -/
noncomputable def rowCodes {F : FTy → Type} [FloatOps F] (v : Vec F S1x32x1536 .bf16) : Vec F S1x32x1536 .fp8e4m3 :=
  k0_pay33 (k0_pay28 v) (k0_pay29 v) k0_pay30

/-- The scales of a group of rows, as the body computes them. -/
noncomputable def rowScales {F : FTy → Type} [FloatOps F] (v : Vec F S1x32x1536 .bf16) : FVec F S32x1 .f32 :=
  k0_pay32 (k0_pay29 v) k0_pay30

/-- The quotient of a row of a group. -/
noncomputable def vY (v : Vec Ideal S1x32x1536 .bf16) (r : Fin 32) : EReal :=
  Spec.top (fun d : Fin 1536 => Spec.ab (v (ix3 0 r d))) * Ideal.ofBits .f32 991054117#32

theorem pay29_apply (v : Vec Ideal S1x32x1536 .bf16) (r : Fin 32) : k0_pay29 v (ix2 r 0) = Spec.expBits (vY v r) := by
  pointwise [k0_pay29, k0_pay28]
  exact congrArg (fun y : EReal => Spec.expBits (y * Ideal.ofBits .f32 991054117#32))
    (Spec.top_lanes_fin (fun d => Spec.ab (v (ix3 0 r d))))

theorem rowScales_apply (v : Vec Ideal S1x32x1536 .bf16) (r : Fin 32) :
    rowScales v (ix2 r 0) = Spec.scaleOf (vY v r) := by
  unfold rowScales
  pointwise [k0_pay32, k0_pay31, k0_pay30]
  rw [pay29_apply]
  rfl

theorem rowCodes_apply (v : Vec Ideal S1x32x1536 .bf16) (r : Fin 32) (d : Fin 1536) :
    rowCodes v (ix3 0 r d)
      = min (max ((v (ix3 0 r d) : EReal) * Spec.invOf (vY v r)) (Ideal.ofBits .bf16 50144#16)) (Ideal.ofBits .bf16 17376#16) := by
  unfold rowCodes
  pointwise [k0_pay33, k0_pay31, k0_pay30, k0_pay28]
  rw [pay29_apply]
  rfl

/-! ### The chunk -/

/-- The quotient of a row of a chunk. -/
noncomputable def chunkY (x : Vec Ideal S1x512x1536 .bf16) (r : Fin 512) : EReal :=
  Spec.top (fun d : Fin 1536 => Spec.ab (x (ix3 0 r d))) * Ideal.ofBits .f32 991054117#32

/-- The scale of a row of a chunk. -/
noncomputable def chunkScale (x : Vec Ideal S1x512x1536 .bf16) (r : Fin 512) : EReal := Spec.scaleOf (chunkY x r)

/-- The code of an entry of a chunk. -/
noncomputable def chunkCode (x : Vec Ideal S1x512x1536 .bf16) (r : Fin 512) (d : Fin 1536) : EReal :=
  min (max ((x (ix3 0 r d) : EReal) * Spec.invOf (chunkY x r)) (Ideal.ofBits .bf16 50144#16)) (Ideal.ofBits .bf16 17376#16)

/-- The 32 rows of a chunk from row `o` on. -/
def rowsAt {F : FTy → Type} (x : Vec F S1x512x1536 .bf16) (o : ℕ) (ho : o + 32 ≤ 512) : Vec F S1x32x1536 .bf16 :=
  fun y => x (ix3 0 ⟨o + (y 1).val, by have h : (y 1).val < 32 := (y 1).isLt; omega⟩ (y 2))

theorem vY_rowsAt (x : Vec Ideal S1x512x1536 .bf16) (o : ℕ) (ho : o + 32 ≤ 512) (r : Fin 32) :
    vY (rowsAt x o ho) r = chunkY x ⟨o + r.val, by omega⟩ := rfl

/-- A load of 32 rows of the chunk. -/
theorem read_rows {F : FTy → Type} [FloatOps F] (arg3 : Memref sig .tc .vmem S1x512x1536 .bf16) (harg3 : arg3.IsWhole)
    (x : Vec F S1x512x1536 .bf16) (o : ℕ) (ho : o + 32 ≤ 512)
    (inb : ∀ a, (![0, o, 0] : Fin 3 → ℕ) a + S1x32x1536.size a ≤ S1x512x1536.size a) :
    View.readAt (Elt F) arg3.view (Rect.unit (s := S1x512x1536) ![0, o, 0] S1x32x1536.size inb).toLoadRect (harg3.unread x) = rowsAt x o ho := by
  funext y
  rw [View.readAt_eq_ld, harg3.read_unread]
  unfold rowsAt
  pointwise

/-- The codes of the rows before row `n` are in place after the stores `L`. -/
def CodesTo (x : Vec Ideal S1x512x1536 .bf16) (L : List (View.Piece (Elt Ideal) S1x512x1536 .fp8e4m3)) (n : ℕ) : Prop :=
  ∀ {κ : Kind} {sp : Space} (v : View sig κ sp S1x512x1536 .fp8e4m3) (f : v.ty.Contents (Elt Ideal)) (r : Fin 512) (d : Fin 1536), r.val < n →
    v.read (Elt Ideal) (v.writes (Elt Ideal) f L) (ix3 0 r d) = chunkCode x r d

/-- One group's store. -/
theorem CodesTo.cons {x : Vec Ideal S1x512x1536 .bf16} {L : List (View.Piece (Elt Ideal) S1x512x1536 .fp8e4m3)} (o : ℕ)
    (ho : o + 32 ≤ 512) (h : CodesTo x L o)
    (inb : ∀ a, (![0, o, 0] : Fin 3 → ℕ) a + S1x32x1536.size a ≤ S1x512x1536.size a)
    (w : Vec Ideal S1x32x1536 .fp8e4m3) (hw : w = rowCodes (rowsAt x o ho)) :
    CodesTo x (⟨Rect.unit ![0, o, 0] S1x32x1536.size inb, w⟩ :: L) (o + 32) := by
  intro κ sp v f r d hr
  subst hw
  by_cases q : r.val < o
  · rw [View.read_writes_cons_unit_of_not_mem v f inb _ L (ix3 0 r d) rfl 1 (.inl q)]
    exact h v f r d q
  · refine (View.hit3 v f inb _ L rfl 0 r d 0 ⟨r.val - o, by omega⟩ d rfl (show r.val = o + (r.val - o) by omega)
      (Nat.zero_add _).symm).trans ?_
    have e : (⟨o + (r.val - o), by omega⟩ : Fin 512) = r := Fin.ext (show o + (r.val - o) = r.val by omega)
    rw [rowCodes_apply, vY_rowsAt]
    show min (max ((x (ix3 0 ⟨o + (r.val - o), _⟩ d) : EReal) * Spec.invOf (chunkY x ⟨o + (r.val - o), _⟩)) _) _ = _
    rw [e]
    rfl

/-! ### The 16 groups -/

variable (c : Dev nD) (arg3 : Memref sig .tc .vmem S1x512x1536 .bf16) (harg3 : arg3.IsWhole)

section Groups
variable {F : FTy → Type} [FloatOps F] (x : Vec F S1x512x1536 .bf16)

theorem scales_0 : runFwd.sl.r_4 c arg3 harg3 x = rowScales (rowsAt x 0 (by omega)) := by
  rw [← read_rows arg3 harg3 x 0 (by omega) inb_S1x512x1536_S1x32x1536_0_0_0]
  rfl
theorem scales_1 : runFwd.sl.r_8 c arg3 harg3 x = rowScales (rowsAt x 32 (by omega)) := by
  rw [← read_rows arg3 harg3 x 32 (by omega) inb_S1x512x1536_S1x32x1536_0_32_0]
  rfl
theorem scales_2 : runFwd.sl.r_13 c arg3 harg3 x = rowScales (rowsAt x 64 (by omega)) := by
  rw [← read_rows arg3 harg3 x 64 (by omega) inb_S1x512x1536_S1x32x1536_0_64_0]
  rfl
theorem scales_3 : runFwd.sl.r_16 c arg3 harg3 x = rowScales (rowsAt x 96 (by omega)) := by
  rw [← read_rows arg3 harg3 x 96 (by omega) inb_S1x512x1536_S1x32x1536_0_96_0]
  rfl
theorem scales_4 : runFwd.sl.r_20 c arg3 harg3 x = rowScales (rowsAt x 128 (by omega)) := by
  rw [← read_rows arg3 harg3 x 128 (by omega) inb_S1x512x1536_S1x32x1536_0_128_0]
  rfl
theorem scales_5 : runFwd.sl.r_24 c arg3 harg3 x = rowScales (rowsAt x 160 (by omega)) := by
  rw [← read_rows arg3 harg3 x 160 (by omega) inb_S1x512x1536_S1x32x1536_0_160_0]
  rfl
theorem scales_6 : runFwd.sl.r_28 c arg3 harg3 x = rowScales (rowsAt x 192 (by omega)) := by
  rw [← read_rows arg3 harg3 x 192 (by omega) inb_S1x512x1536_S1x32x1536_0_192_0]
  rfl
theorem scales_7 : runFwd.sl.r_32 c arg3 harg3 x = rowScales (rowsAt x 224 (by omega)) := by
  rw [← read_rows arg3 harg3 x 224 (by omega) inb_S1x512x1536_S1x32x1536_0_224_0]
  rfl
theorem scales_8 : runFwd.sl.r_36 c arg3 harg3 x = rowScales (rowsAt x 256 (by omega)) := by
  rw [← read_rows arg3 harg3 x 256 (by omega) inb_S1x512x1536_S1x32x1536_0_256_0]
  rfl
theorem scales_9 : runFwd.sl.r_42 c arg3 harg3 x = rowScales (rowsAt x 288 (by omega)) := by
  rw [← read_rows arg3 harg3 x 288 (by omega) inb_S1x512x1536_S1x32x1536_0_288_0]
  rfl
theorem scales_10 : runFwd.sl.r_45 c arg3 harg3 x = rowScales (rowsAt x 320 (by omega)) := by
  rw [← read_rows arg3 harg3 x 320 (by omega) inb_S1x512x1536_S1x32x1536_0_320_0]
  rfl
theorem scales_11 : runFwd.sl.r_48 c arg3 harg3 x = rowScales (rowsAt x 352 (by omega)) := by
  rw [← read_rows arg3 harg3 x 352 (by omega) inb_S1x512x1536_S1x32x1536_0_352_0]
  rfl
theorem scales_12 : runFwd.sl.r_52 c arg3 harg3 x = rowScales (rowsAt x 384 (by omega)) := by
  rw [← read_rows arg3 harg3 x 384 (by omega) inb_S1x512x1536_S1x32x1536_0_384_0]
  rfl
theorem scales_13 : runFwd.sl.r_56 c arg3 harg3 x = rowScales (rowsAt x 416 (by omega)) := by
  rw [← read_rows arg3 harg3 x 416 (by omega) inb_S1x512x1536_S1x32x1536_0_416_0]
  rfl
theorem scales_14 : runFwd.sl.r_60 c arg3 harg3 x = rowScales (rowsAt x 448 (by omega)) := by
  rw [← read_rows arg3 harg3 x 448 (by omega) inb_S1x512x1536_S1x32x1536_0_448_0]
  rfl
theorem scales_15 : runFwd.sl.r_64 c arg3 harg3 x = rowScales (rowsAt x 480 (by omega)) := by
  rw [← read_rows arg3 harg3 x 480 (by omega) inb_S1x512x1536_S1x32x1536_0_480_0]
  rfl

end Groups

variable (x : Vec Ideal S1x512x1536 .bf16)

theorem codesTo_1 : CodesTo x (runFwd.sl.H13_1 c arg3 harg3 x) 32 :=
  CodesTo.cons 0 (by omega) (fun _ _ _ _ h => absurd h (Nat.not_lt_zero _)) inb_S1x512x1536_S1x32x1536_0_0_0 _
    (by rw [← read_rows arg3 harg3 x 0 (by omega) inb_S1x512x1536_S1x32x1536_0_0_0]; rfl)
theorem codesTo_2 : CodesTo x (runFwd.sl.H13_2 c arg3 harg3 x) 64 :=
  CodesTo.cons 32 (by omega) (codesTo_1 c arg3 harg3 x) inb_S1x512x1536_S1x32x1536_0_32_0 _
    (by rw [← read_rows arg3 harg3 x 32 (by omega) inb_S1x512x1536_S1x32x1536_0_32_0]; rfl)
theorem codesTo_3 : CodesTo x (runFwd.sl.H13_3 c arg3 harg3 x) 96 :=
  CodesTo.cons 64 (by omega) (codesTo_2 c arg3 harg3 x) inb_S1x512x1536_S1x32x1536_0_64_0 _
    (by rw [← read_rows arg3 harg3 x 64 (by omega) inb_S1x512x1536_S1x32x1536_0_64_0]; rfl)
theorem codesTo_4 : CodesTo x (runFwd.sl.H13_4 c arg3 harg3 x) 128 :=
  CodesTo.cons 96 (by omega) (codesTo_3 c arg3 harg3 x) inb_S1x512x1536_S1x32x1536_0_96_0 _
    (by rw [← read_rows arg3 harg3 x 96 (by omega) inb_S1x512x1536_S1x32x1536_0_96_0]; rfl)
theorem codesTo_5 : CodesTo x (runFwd.sl.H13_5 c arg3 harg3 x) 160 :=
  CodesTo.cons 128 (by omega) (codesTo_4 c arg3 harg3 x) inb_S1x512x1536_S1x32x1536_0_128_0 _
    (by rw [← read_rows arg3 harg3 x 128 (by omega) inb_S1x512x1536_S1x32x1536_0_128_0]; rfl)
theorem codesTo_6 : CodesTo x (runFwd.sl.H13_6 c arg3 harg3 x) 192 :=
  CodesTo.cons 160 (by omega) (codesTo_5 c arg3 harg3 x) inb_S1x512x1536_S1x32x1536_0_160_0 _
    (by rw [← read_rows arg3 harg3 x 160 (by omega) inb_S1x512x1536_S1x32x1536_0_160_0]; rfl)
theorem codesTo_7 : CodesTo x (runFwd.sl.H13_7 c arg3 harg3 x) 224 :=
  CodesTo.cons 192 (by omega) (codesTo_6 c arg3 harg3 x) inb_S1x512x1536_S1x32x1536_0_192_0 _
    (by rw [← read_rows arg3 harg3 x 192 (by omega) inb_S1x512x1536_S1x32x1536_0_192_0]; rfl)
theorem codesTo_8 : CodesTo x (runFwd.sl.H13_8 c arg3 harg3 x) 256 :=
  CodesTo.cons 224 (by omega) (codesTo_7 c arg3 harg3 x) inb_S1x512x1536_S1x32x1536_0_224_0 _
    (by rw [← read_rows arg3 harg3 x 224 (by omega) inb_S1x512x1536_S1x32x1536_0_224_0]; rfl)
theorem codesTo_9 : CodesTo x (runFwd.sl.H13_9 c arg3 harg3 x) 288 :=
  CodesTo.cons 256 (by omega) (codesTo_8 c arg3 harg3 x) inb_S1x512x1536_S1x32x1536_0_256_0 _
    (by rw [← read_rows arg3 harg3 x 256 (by omega) inb_S1x512x1536_S1x32x1536_0_256_0]; rfl)
theorem codesTo_10 : CodesTo x (runFwd.sl.H13_10 c arg3 harg3 x) 320 :=
  CodesTo.cons 288 (by omega) (codesTo_9 c arg3 harg3 x) inb_S1x512x1536_S1x32x1536_0_288_0 _
    (by rw [← read_rows arg3 harg3 x 288 (by omega) inb_S1x512x1536_S1x32x1536_0_288_0]; rfl)
theorem codesTo_11 : CodesTo x (runFwd.sl.H13_11 c arg3 harg3 x) 352 :=
  CodesTo.cons 320 (by omega) (codesTo_10 c arg3 harg3 x) inb_S1x512x1536_S1x32x1536_0_320_0 _
    (by rw [← read_rows arg3 harg3 x 320 (by omega) inb_S1x512x1536_S1x32x1536_0_320_0]; rfl)
theorem codesTo_12 : CodesTo x (runFwd.sl.H13_12 c arg3 harg3 x) 384 :=
  CodesTo.cons 352 (by omega) (codesTo_11 c arg3 harg3 x) inb_S1x512x1536_S1x32x1536_0_352_0 _
    (by rw [← read_rows arg3 harg3 x 352 (by omega) inb_S1x512x1536_S1x32x1536_0_352_0]; rfl)
theorem codesTo_13 : CodesTo x (runFwd.sl.H13_13 c arg3 harg3 x) 416 :=
  CodesTo.cons 384 (by omega) (codesTo_12 c arg3 harg3 x) inb_S1x512x1536_S1x32x1536_0_384_0 _
    (by rw [← read_rows arg3 harg3 x 384 (by omega) inb_S1x512x1536_S1x32x1536_0_384_0]; rfl)
theorem codesTo_14 : CodesTo x (runFwd.sl.H13_14 c arg3 harg3 x) 448 :=
  CodesTo.cons 416 (by omega) (codesTo_13 c arg3 harg3 x) inb_S1x512x1536_S1x32x1536_0_416_0 _
    (by rw [← read_rows arg3 harg3 x 416 (by omega) inb_S1x512x1536_S1x32x1536_0_416_0]; rfl)
theorem codesTo_15 : CodesTo x (runFwd.sl.H13_15 c arg3 harg3 x) 480 :=
  CodesTo.cons 448 (by omega) (codesTo_14 c arg3 harg3 x) inb_S1x512x1536_S1x32x1536_0_448_0 _
    (by rw [← read_rows arg3 harg3 x 448 (by omega) inb_S1x512x1536_S1x32x1536_0_448_0]; rfl)
theorem codesTo_16 : CodesTo x (runFwd.sl.H13_16 c arg3 harg3 x) 512 :=
  CodesTo.cons 480 (by omega) (codesTo_15 c arg3 harg3 x) inb_S1x512x1536_S1x32x1536_0_480_0 _
    (by rw [← read_rows arg3 harg3 x 480 (by omega) inb_S1x512x1536_S1x32x1536_0_480_0]; rfl)

end Cert.KernelIdeal.Gen
-- ==== Proof.ValueHalf.lean ====
module
public import proofs.«01_k».proof.Proof.ValueRows

@[expose] public section

/-!
# The prediction, the difference and the gradient of half a chunk, and the scales of a chunk as a row

The body takes a chunk in two halves of 256 tokens, the same operations on each. The scales of a group
of rows are a column; they become a row by masking a square with its diagonal and summing the columns.
-/

set_option maxRecDepth 16384

namespace Cert.KernelIdeal.Gen
open Idealize.ShloMosaic Cert.KernelIdeal

/-! ### One half -/

section Half
variable (a : EReal) (ws bi : Vec Ideal S64x1 .f32) (w : Vec Ideal S64x1536 .fp8e4m3) (co : Vec Ideal S1x256x1536 .fp8e4m3)
  (hs : Vec Ideal S1x1x256 .f32) (nz x0 : Vec Ideal S1x64x256 .bf16) (p : Fin 64) (r : Fin 256)

theorem pay153_apply : k0_pay153 ws bi w co hs (ix2 p r)
    = (∑ d : Fin 1536, (w (ix2 p d) : EReal) * (co (ix3 0 r d) : EReal)) * (hs (ix3 0 0 r) : EReal) * (ws (ix2 p 0) : EReal)
      + (bi (ix2 p 0) : EReal) := by
  pointwise [k0_pay153]

theorem pay154_apply : k0_pay154 ws bi w co hs (ix3 0 p r) = k0_pay153 ws bi w co hs (ix2 p r) := by
  pointwise [k0_pay154]

theorem pay155_apply : k0_pay155 ws bi w co hs nz x0 (ix2 p r)
    = (k0_pay153 ws bi w co hs (ix2 p r) : EReal) - ((nz (ix3 0 p r) : EReal) - (x0 (ix3 0 p r) : EReal)) := by
  pointwise [k0_pay155]

theorem pay156_apply : k0_pay156 (F := Ideal) a ws bi w co hs nz x0 (ix2 p r)
    = (k0_pay155 ws bi w co hs nz x0 (ix2 p r) : EReal) * a := by
  pointwise [k0_pay156]

theorem pay157_apply : k0_pay157 (F := Ideal) a ws bi w co hs nz x0 (ix3 0 p r) = k0_pay156 (F := Ideal) a ws bi w co hs nz x0 (ix2 p r) := by
  pointwise [k0_pay157]

end Half

/-! ### A chunk's scales as a row -/

/-- Four groups of 32 rows. -/
theorem groups_apply (x : Vec Ideal S1x512x1536 .bf16) (o : ℕ) (ho : o + 128 ≤ 512) (l : Fin 128) :
    (if h : l.val < 32 then rowScales (rowsAt x o (by omega)) (ix2 ⟨l.val, h⟩ 0)
      else if h : l.val - 32 < 32 then rowScales (rowsAt x (o + 32) (by omega)) (ix2 ⟨l.val - 32, h⟩ 0)
      else if h : l.val - 32 - 32 < 32 then rowScales (rowsAt x (o + 64) (by omega)) (ix2 ⟨l.val - 32 - 32, h⟩ 0)
      else rowScales (rowsAt x (o + 96) (by omega)) (ix2 ⟨l.val - 32 - 32 - 32, by omega⟩ 0) : EReal)
      = chunkScale x ⟨o + l.val, by omega⟩ := by
  have key : ∀ (q : ℕ) (hq : q + 32 ≤ 512) (m : ℕ) (hm : m < 32) (e : q + m = o + l.val),
      rowScales (rowsAt x q hq) (ix2 ⟨m, hm⟩ 0) = chunkScale x ⟨o + l.val, by omega⟩ := fun q hq m hm e => by
    rw [rowScales_apply, vY_rowsAt]
    exact congrArg (chunkScale x) (Fin.ext e)
  split
  · exact key _ _ _ _ rfl
  split
  · exact key _ _ _ _ (by omega)
  split
  · exact key _ _ _ _ (by omega)
  · exact key _ _ _ _ (by omega)

theorem pay137_apply (x : Vec Ideal S1x512x1536 .bf16) (o : ℕ) (ho : o + 128 ≤ 512) (l : Fin 128) :
    k0_pay137 (rowScales (rowsAt x o (by omega))) (rowScales (rowsAt x (o + 32) (by omega)))
      (rowScales (rowsAt x (o + 64) (by omega))) (rowScales (rowsAt x (o + 96) (by omega))) (ix2 0 l) = chunkScale x ⟨o + l.val, by omega⟩ := by
  pointwise [k0_pay137]
  refine Eq.trans (Finset.sum_congr rfl fun z _ => congrArg (fun y : EReal => Scalar.select _ y 0) (groups_apply x o ho z)) ?_
  exact Spec.sum_diag_right (by omega) l fun z => chunkScale x ⟨o + z.val, by omega⟩

/-- The row the body writes into the kept scales. -/
theorem pay139_apply (x : Vec Ideal S1x512x1536 .bf16) (o : ℕ) (ho : o + 128 ≤ 512) (l : Fin 128) :
    k0_pay139 (rowScales (rowsAt x o (by omega))) (rowScales (rowsAt x (o + 32) (by omega)))
      (rowScales (rowsAt x (o + 64) (by omega))) (rowScales (rowsAt x (o + 96) (by omega))) (ix3 0 0 l) = chunkScale x ⟨o + l.val, by omega⟩ := by
  rw [← pay137_apply x o ho l]
  pointwise [k0_pay139]

/-- The row the body writes into the scales of the sample, the others staying. -/
theorem pay138_apply (b : ℕ) (hb : b < 4096) (x : Vec Ideal S1x512x1536 .bf16) (o : ℕ) (ho : o + 128 ≤ 512) (v : Vec Ideal S6x128 .f32)
    (k : Fin 6) (l : Fin 128) :
    k0_pay138 (BitVec.ofNat 32 b) (rowScales (rowsAt x o (by omega))) (rowScales (rowsAt x (o + 32) (by omega)))
      (rowScales (rowsAt x (o + 64) (by omega))) (rowScales (rowsAt x (o + 96) (by omega))) v (ix2 k l)
      = if k.val = b then chunkScale x ⟨o + l.val, by omega⟩ else v (ix2 k l) := by
  have h := pay137_apply x o ho l
  have e : k0_pay138 (BitVec.ofNat 32 b) (rowScales (rowsAt x o (by omega))) (rowScales (rowsAt x (o + 32) (by omega)))
      (rowScales (rowsAt x (o + 64) (by omega))) (rowScales (rowsAt x (o + 96) (by omega))) v (ix2 k l)
      = Scalar.select (IntOp.cmpi .eq (BitVec.ofNat 32 k.val) (BitVec.ofNat 32 b))
        (k0_pay137 (rowScales (rowsAt x o (by omega))) (rowScales (rowsAt x (o + 32) (by omega)))
          (rowScales (rowsAt x (o + 64) (by omega))) (rowScales (rowsAt x (o + 96) (by omega))) (ix2 0 l)) (v (ix2 k l)) := by
    pointwise [k0_pay138]
  rw [e, h, Spec.select_eq _ _ (by omega) hb]

/-! ### Rows of kept scales, stored 128 at a time -/

/-- After the stores `L` the kept scales hold those of the chunk at places `o … o + n` of half `sl`. -/
def KeptTo (x : Vec Ideal S1x512x1536 .bf16) (sl : Fin 2) (o : ℕ) (L : List (View.Piece (Elt Ideal) S2x1x4096 .f32)) (n : ℕ) (hn : n ≤ 512) : Prop :=
  ∀ {κ : Kind} {sp : Space} (v : View sig κ sp S2x1x4096 .f32) (f : v.ty.Contents (Elt Ideal)) (a : Fin 2) (s : Fin 4096),
    v.read (Elt Ideal) (v.writes (Elt Ideal) f L) (ix3 a 0 s)
      = if h : a = sl ∧ o ≤ s.val ∧ s.val < o + n then chunkScale x ⟨s.val - o, by omega⟩ else v.read (Elt Ideal) f (ix3 a 0 s)

theorem KeptTo.nil (x : Vec Ideal S1x512x1536 .bf16) (sl : Fin 2) (o : ℕ) : KeptTo x sl o [] 0 (by omega) := by
  intro κ sp v f a s
  rw [dif_neg (by omega)]
  rfl

theorem KeptTo.cons {x : Vec Ideal S1x512x1536 .bf16} {sl : Fin 2} {o : ℕ} {L : List (View.Piece (Elt Ideal) S2x1x4096 .f32)}
    (n : ℕ) (hn : n + 128 ≤ 512) (h : KeptTo x sl o L n (by omega)) {off : Fin 3 → ℕ} (e : off = ![sl.val, 0, o + n])
    (inb : ∀ a, off a + S1x1x128.size a ≤ S2x1x4096.size a) (w : Vec Ideal S1x1x128 .f32)
    (hw : w = k0_pay139 (rowScales (rowsAt x n (by omega))) (rowScales (rowsAt x (n + 32) (by omega)))
      (rowScales (rowsAt x (n + 64) (by omega))) (rowScales (rowsAt x (n + 96) (by omega)))) :
    KeptTo x sl o (⟨Rect.unit off S1x1x128.size inb, w⟩ :: L) (n + 128) hn := by
  intro κ sp v f a s
  subst hw
  by_cases q : a = sl ∧ o + n ≤ s.val ∧ s.val < o + n + 128
  · obtain ⟨rfl, q₁, q₂⟩ := q
    refine (View.hit3 v f inb _ L e a 0 s 0 0 ⟨s.val - (o + n), by omega⟩ rfl rfl
      (show s.val = o + n + (s.val - (o + n)) by omega)).trans ?_
    rw [pay139_apply x n (by omega), dif_pos (by omega)]
    exact congrArg (chunkScale x) (Fin.ext (show n + (s.val - (o + n)) = s.val - o by omega))
  · have miss : v.read (Elt Ideal) (v.writes (Elt Ideal) f (⟨Rect.unit off S1x1x128.size inb,
        k0_pay139 (rowScales (rowsAt x n (by omega))) (rowScales (rowsAt x (n + 32) (by omega)))
          (rowScales (rowsAt x (n + 64) (by omega))) (rowScales (rowsAt x (n + 96) (by omega)))⟩ :: L)) (ix3 a 0 s)
        = v.read (Elt Ideal) (v.writes (Elt Ideal) f L) (ix3 a 0 s) := by
      by_cases q₀ : a = sl
      · by_cases q₁ : s.val < o + n
        · rw [View.read_writes_cons_unit_of_not_mem v f inb _ L (ix3 a 0 s) e 2 (.inl q₁)]
        · rw [View.read_writes_cons_unit_of_not_mem v f inb _ L (ix3 a 0 s) e 2
            (.inr (show o + n + 128 ≤ s.val by have := fun z => q ⟨q₀, z⟩; omega))]
      · rcases lt_or_gt_of_ne (fun z => q₀ (Fin.ext z) : a.val ≠ sl.val) with q₁ | q₁
        · rw [View.read_writes_cons_unit_of_not_mem v f inb _ L (ix3 a 0 s) e 0 (.inl q₁)]
        · rw [View.read_writes_cons_unit_of_not_mem v f inb _ L (ix3 a 0 s) e 0 (.inr (show sl.val + 1 ≤ a.val by omega))]
    rw [miss, h v f a s]
    by_cases q₁ : a = sl ∧ o ≤ s.val ∧ s.val < o + n
    · rw [dif_pos q₁, dif_pos (by omega)]
    · rw [dif_neg q₁, dif_neg (by omega)]

/-- The same of the sample's own scales, the rows of the other samples staying. -/
theorem sampleRows_cons {x : Vec Ideal S1x512x1536 .bf16} {b : Fin 6} {o : ℕ} (ho : o + 512 ≤ 4096) (X : Vec Ideal S6x4096 .f32)
    {κ : Kind} {sp : Space} (v : View sig κ sp S6x4096 .f32) (f : v.ty.Contents (Elt Ideal)) {L : List (View.Piece (Elt Ideal) S6x4096 .f32)}
    (n : ℕ) (hn : n + 128 ≤ 512)
    (h : ∀ (k : Fin 6) (s : Fin 4096), v.read (Elt Ideal) (v.writes (Elt Ideal) f L) (ix2 k s)
      = if h : k = b ∧ o ≤ s.val ∧ s.val < o + n then chunkScale x ⟨s.val - o, by omega⟩ else X (ix2 k s))
    {off : Fin 2 → ℕ} (e : off = ![0, o + n]) (inb : ∀ a, off a + S6x128.size a ≤ S6x4096.size a) (w y : Vec Ideal S6x128 .f32)
    (hw : w = k0_pay138 (BitVec.ofNat 32 b.val) (rowScales (rowsAt x n (by omega))) (rowScales (rowsAt x (n + 32) (by omega)))
      (rowScales (rowsAt x (n + 64) (by omega))) (rowScales (rowsAt x (n + 96) (by omega))) y)
    (hy : ∀ (k : Fin 6) (l : Fin 128), y (ix2 k l) = X (ix2 k ⟨o + n + l.val, by omega⟩)) (k : Fin 6) (s : Fin 4096) :
    v.read (Elt Ideal) (v.writes (Elt Ideal) f (⟨Rect.unit off S6x128.size inb, w⟩ :: L)) (ix2 k s)
      = if h : k = b ∧ o ≤ s.val ∧ s.val < o + (n + 128) then chunkScale x ⟨s.val - o, by omega⟩ else X (ix2 k s) := by
  subst hw
  by_cases q : o + n ≤ s.val ∧ s.val < o + n + 128
  · obtain ⟨q₁, q₂⟩ := q
    refine (View.hit2 v f inb _ L e k s k ⟨s.val - (o + n), by omega⟩ (Nat.zero_add _).symm
      (show s.val = o + n + (s.val - (o + n)) by omega)).trans ?_
    rw [pay138_apply b.val (by omega) x n (by omega)]
    by_cases hk : k = b
    · rw [if_pos (congrArg Fin.val hk), dif_pos (by omega)]
      exact congrArg (chunkScale x) (Fin.ext (show n + (s.val - (o + n)) = s.val - o by omega))
    · rw [if_neg (fun z => hk (Fin.ext z)), dif_neg (fun z => hk z.1), hy]
      exact congrArg (fun z => X (ix2 k z)) (Fin.ext (show o + n + (s.val - (o + n)) = s.val by omega))
  · have miss : v.read (Elt Ideal) (v.writes (Elt Ideal) f (⟨Rect.unit off S6x128.size inb,
        k0_pay138 (BitVec.ofNat 32 b.val) (rowScales (rowsAt x n (by omega))) (rowScales (rowsAt x (n + 32) (by omega)))
          (rowScales (rowsAt x (n + 64) (by omega))) (rowScales (rowsAt x (n + 96) (by omega))) y⟩ :: L)) (ix2 k s)
        = v.read (Elt Ideal) (v.writes (Elt Ideal) f L) (ix2 k s) := by
      by_cases q₁ : s.val < o + n
      · rw [View.read_writes_cons_unit_of_not_mem v f inb _ L (ix2 k s) e 1 (.inl q₁)]
      · rw [View.read_writes_cons_unit_of_not_mem v f inb _ L (ix2 k s) e 1 (.inr (show o + n + 128 ≤ s.val by omega))]
    rw [miss, h k s]
    by_cases q₁ : k = b ∧ o ≤ s.val ∧ s.val < o + n
    · rw [dif_pos q₁, dif_pos (by omega)]
    · rw [dif_neg q₁, dif_neg (by omega)]

end Cert.KernelIdeal.Gen
-- ==== Proof.ValueFwd.lean ====
module
public import proofs.«01_k».proof.Proof.ValueHalf

@[expose] public section

/-!
# What the forward pass of one chunk leaves in the buffers

`sl` is the half of the kept buffers the sample lies in, `b` the sample, `o` the chunk's first token.
-/

set_option maxRecDepth 16384

namespace Cert.KernelIdeal.Gen
open Idealize.ShloMosaic Cert.KernelIdeal

/-- Where the forward pass of a chunk loads and stores. -/
structure FwdAt (i : grid0.Coords) (sl : Fin 2) (b : Fin 6) (o : ℕ) : Prop where
  ho : o + 512 ≤ 4096
  hi : (i 0).val = b.val
  o5 : k0_off5 i = ![b.val]
  o6 : ∀ k : Fin 4, k0_off6 i (BitVec.ofNat 32 (128 * k.val)) = ![0, o + 128 * k.val]
  o7 : ∀ k : Fin 4, k0_off7 i (BitVec.ofNat 32 (128 * k.val)) = ![sl.val, 0, o + 128 * k.val]
  o8 : k0_off8 i = ![sl.val, o, 0]
  o9 : ∀ k : Fin 2, k0_off9 i (BitVec.ofNat 32 (256 * k.val)) = ![sl.val, 0, o + 256 * k.val]
  o10 : ∀ k : Fin 2, k0_off10 i (BitVec.ofNat 32 (256 * k.val)) = ![sl.val, 0, o + 256 * k.val]

/-- The prediction of a chunk. -/
noncomputable def fwPred (I : Ins Ideal) (S : St Ideal) (p : Fin 64) (r : Fin 512) : EReal :=
  (∑ d : Fin 1536, (I.x4 (ix2 p d) : EReal) * chunkCode I.x3 r d) * chunkScale I.x3 r * (S.x22 (ix2 p 0) : EReal)
    + (S.x23 (ix2 p 0) : EReal)
/-- The prediction less the target. -/
noncomputable def fwDiff (I : Ins Ideal) (S : St Ideal) (p : Fin 64) (r : Fin 512) : EReal :=
  fwPred I S p r - ((I.x8 (ix3 0 p r) : EReal) - (I.x7 (ix3 0 p r) : EReal))
/-- The gradient of the prediction. -/
noncomputable def fwGrad (b : Fin 6) (I : Ins Ideal) (S : St Ideal) (p : Fin 64) (r : Fin 512) : EReal :=
  fwDiff I S p r * ((I.x2 (ix1 b) : EReal) * Ideal.ofBits .f32 900377259#32)

variable (c : Dev nD) (i : grid0.Coords) (M : Mems) (I : Ins Ideal) (S : St Ideal)
variable (h5 : k0_cond5 i = 1#1) {sl : Fin 2} {b : Fin 6} {o : ℕ} (H : FwdAt i sl b o)

/-! ### Codes and scales -/

theorem stFwd_x13 (r : Fin 512) (d : Fin 1536) : (stFwd c i M h5 I S).x13 (ix3 0 r d) = chunkCode I.x3 r d := by
  dsimp only [stFwd, runFwd]
  exact codesTo_16 c M.a3 M.h3 I.x3 _ _ r d (show r.val < 512 from r.isLt)

/-- The codes of the first half, as loaded. -/
theorem codes_lo (r : Fin 256) (d : Fin 1536) :
    runFwd.sl.v1169 c M.a3 M.h3 M.a13 I.x3 (ix3 0 r d) = chunkCode I.x3 ⟨r.val, by omega⟩ d := by
  refine Eq.trans ?_ (codesTo_16 c M.a3 M.h3 I.x3 M.a13.view M.a13.view.junk ⟨r.val, by omega⟩ d (by show r.val < 512; omega))
  unfold runFwd.sl.v1169
  show View.ld _ _ _ = _
  pointwise

/-- The codes of the second half, as loaded. -/
theorem codes_hi (r : Fin 256) (d : Fin 1536) :
    runFwd.sl.v1216 c M.a3 M.h3 M.a13 I.x3 (ix3 0 r d) = chunkCode I.x3 ⟨256 + r.val, by omega⟩ d := by
  refine Eq.trans ?_ (codesTo_16 c M.a3 M.h3 I.x3 M.a13.view M.a13.view.junk ⟨256 + r.val, by omega⟩ d (by show 256 + r.val < 512; omega))
  unfold runFwd.sl.v1216
  show View.ld _ _ _ = _
  pointwise

theorem codes_all (r : Fin 512) (d : Fin 1536) :
    runFwd.sl.v1156 c M.a3 M.h3 M.a13 I.x3 (ix3 0 r d) = chunkCode I.x3 r d := by
  refine Eq.trans ?_ (codesTo_16 c M.a3 M.h3 I.x3 M.a13.view M.a13.view.junk r d (show r.val < 512 from r.isLt))
  unfold runFwd.sl.v1156
  show View.ld _ _ _ = _
  pointwise

include H in
theorem stFwd_x18 (a : Fin 2) (s : Fin 4096) (d : Fin 1536) : (stFwd c i M h5 I S).x18 (ix3 a s d)
    = if h : a = sl ∧ o ≤ s.val ∧ s.val < o + 512 then chunkCode I.x3 ⟨s.val - o, by omega⟩ d else S.x18 (ix3 a s d) := by
  dsimp only [stFwd, runFwd]
  by_cases q : a = sl ∧ o ≤ s.val ∧ s.val < o + 512
  · rw [dif_pos q]
    obtain ⟨rfl, q₁, q₂⟩ := q
    refine (View.hit3 _ _ _ _ _ H.o8 a s d 0 ⟨s.val - o, by omega⟩ d rfl
      (show s.val = o + (s.val - o) by omega) (Nat.zero_add _).symm).trans ?_
    refine Eq.trans ?_ (codes_all c M I ⟨s.val - o, by omega⟩ d)
    pointwise [k0_pay152]
  · rw [dif_neg q]
    have e := M.h18.read_unread S.x18
    refine Eq.trans ?_ (congrFun e (ix3 a s d))
    by_cases q₀ : a = sl
    · by_cases q₁ : s.val < o
      · rw [View.read_writes_cons_unit_of_not_mem _ _ _ _ _ (ix3 a s d) H.o8 1 (.inl q₁)]
        rfl
      · rw [View.read_writes_cons_unit_of_not_mem _ _ _ _ _ (ix3 a s d) H.o8 1
          (.inr (show o + 512 ≤ s.val by have := fun z => q ⟨q₀, z⟩; omega))]
        rfl
    · rcases lt_or_gt_of_ne (fun z => q₀ (Fin.ext z) : a.val ≠ sl.val) with q₁ | q₁
      · rw [View.read_writes_cons_unit_of_not_mem _ _ _ _ _ (ix3 a s d) H.o8 0 (.inl q₁)]
        rfl
      · rw [View.read_writes_cons_unit_of_not_mem _ _ _ _ _ (ix3 a s d) H.o8 0 (.inr (show sl.val + 1 ≤ a.val by omega))]
        rfl

/-- The row of scales of a group of 128 rows, as the body computes it. -/
theorem keptRow_0 : k0_pay139 (runFwd.sl.r_4 c M.a3 M.h3 I.x3) (runFwd.sl.r_8 c M.a3 M.h3 I.x3) (runFwd.sl.r_13 c M.a3 M.h3 I.x3)
    (runFwd.sl.r_16 c M.a3 M.h3 I.x3) = k0_pay139 (rowScales (rowsAt I.x3 0 (by omega))) (rowScales (rowsAt I.x3 32 (by omega)))
    (rowScales (rowsAt I.x3 64 (by omega))) (rowScales (rowsAt I.x3 96 (by omega))) := by
  rw [scales_0, scales_1, scales_2, scales_3]
theorem keptRow_1 : k0_pay139 (runFwd.sl.r_20 c M.a3 M.h3 I.x3) (runFwd.sl.r_24 c M.a3 M.h3 I.x3) (runFwd.sl.r_28 c M.a3 M.h3 I.x3)
    (runFwd.sl.r_32 c M.a3 M.h3 I.x3) = k0_pay139 (rowScales (rowsAt I.x3 128 (by omega))) (rowScales (rowsAt I.x3 160 (by omega)))
    (rowScales (rowsAt I.x3 192 (by omega))) (rowScales (rowsAt I.x3 224 (by omega))) := by
  rw [scales_4, scales_5, scales_6, scales_7]
theorem keptRow_2 : k0_pay139 (runFwd.sl.r_36 c M.a3 M.h3 I.x3) (runFwd.sl.r_42 c M.a3 M.h3 I.x3) (runFwd.sl.r_45 c M.a3 M.h3 I.x3)
    (runFwd.sl.r_48 c M.a3 M.h3 I.x3) = k0_pay139 (rowScales (rowsAt I.x3 256 (by omega))) (rowScales (rowsAt I.x3 288 (by omega)))
    (rowScales (rowsAt I.x3 320 (by omega))) (rowScales (rowsAt I.x3 352 (by omega))) := by
  rw [scales_8, scales_9, scales_10, scales_11]
theorem keptRow_3 : k0_pay139 (runFwd.sl.r_52 c M.a3 M.h3 I.x3) (runFwd.sl.r_56 c M.a3 M.h3 I.x3) (runFwd.sl.r_60 c M.a3 M.h3 I.x3)
    (runFwd.sl.r_64 c M.a3 M.h3 I.x3) = k0_pay139 (rowScales (rowsAt I.x3 384 (by omega))) (rowScales (rowsAt I.x3 416 (by omega)))
    (rowScales (rowsAt I.x3 448 (by omega))) (rowScales (rowsAt I.x3 480 (by omega))) := by
  rw [scales_12, scales_13, scales_14, scales_15]

include H in
theorem kept (hr : 512 ≤ 512) : KeptTo I.x3 sl o (runFwd.sl.H17_4 c i M.a3 M.h3 h5 I.x3) 512 hr := by
  unfold runFwd.sl.H17_4
  refine KeptTo.cons 384 (by omega) ?_ (H.o7 3) _ _ (keptRow_3 c M I)
  refine KeptTo.cons 256 (by omega) ?_ (H.o7 2) _ _ (keptRow_2 c M I)
  refine KeptTo.cons 128 (by omega) ?_ (H.o7 1) _ _ (keptRow_1 c M I)
  exact KeptTo.cons 0 (by omega) (KeptTo.nil I.x3 sl o) (H.o7 0) _ _ (keptRow_0 c M I)

include H in
theorem stFwd_x17 (a : Fin 2) (s : Fin 4096) : (stFwd c i M h5 I S).x17 (ix3 a 0 s)
    = if h : a = sl ∧ o ≤ s.val ∧ s.val < o + 512 then chunkScale I.x3 ⟨s.val - o, by omega⟩ else S.x17 (ix3 a 0 s) := by
  dsimp only [stFwd, runFwd]
  rw [kept c i M I h5 H le_rfl, M.h17.read_unread]

/-- The row of scales in the sample's own scales, as the body computes it. -/
theorem sampleRow_0 (B : BitVec 32) (y : Vec Ideal S6x128 .f32) : k0_pay138 B (runFwd.sl.r_4 c M.a3 M.h3 I.x3) (runFwd.sl.r_8 c M.a3 M.h3 I.x3) (runFwd.sl.r_13 c M.a3 M.h3 I.x3) (runFwd.sl.r_16 c M.a3 M.h3 I.x3) y
    = k0_pay138 B (rowScales (rowsAt I.x3 0 (by omega))) (rowScales (rowsAt I.x3 32 (by omega))) (rowScales (rowsAt I.x3 64 (by omega))) (rowScales (rowsAt I.x3 96 (by omega))) y := by
  rw [← scales_0 c M.a3 M.h3 I.x3, ← scales_1 c M.a3 M.h3 I.x3, ← scales_2 c M.a3 M.h3 I.x3, ← scales_3 c M.a3 M.h3 I.x3]
theorem sampleRow_1 (B : BitVec 32) (y : Vec Ideal S6x128 .f32) : k0_pay142 B (runFwd.sl.r_66 c M.a3 M.h3 I.x3) (k0_pay141 y)
    = k0_pay138 B (rowScales (rowsAt I.x3 128 (by omega))) (rowScales (rowsAt I.x3 160 (by omega))) (rowScales (rowsAt I.x3 192 (by omega))) (rowScales (rowsAt I.x3 224 (by omega))) y := by
  rw [← scales_4 c M.a3 M.h3 I.x3, ← scales_5 c M.a3 M.h3 I.x3, ← scales_6 c M.a3 M.h3 I.x3, ← scales_7 c M.a3 M.h3 I.x3]
  rfl
theorem sampleRow_2 (B : BitVec 32) (y : Vec Ideal S6x128 .f32) : k0_pay145 B (runFwd.sl.r_36 c M.a3 M.h3 I.x3) (runFwd.sl.r_42 c M.a3 M.h3 I.x3) (runFwd.sl.r_45 c M.a3 M.h3 I.x3) (runFwd.sl.r_48 c M.a3 M.h3 I.x3) y
    = k0_pay138 B (rowScales (rowsAt I.x3 256 (by omega))) (rowScales (rowsAt I.x3 288 (by omega))) (rowScales (rowsAt I.x3 320 (by omega))) (rowScales (rowsAt I.x3 352 (by omega))) y := by
  rw [← scales_8 c M.a3 M.h3 I.x3, ← scales_9 c M.a3 M.h3 I.x3, ← scales_10 c M.a3 M.h3 I.x3, ← scales_11 c M.a3 M.h3 I.x3]
  rfl
theorem sampleRow_3 (B : BitVec 32) (y : Vec Ideal S6x128 .f32) : k0_pay150 B (runFwd.sl.r_68 c M.a3 M.h3 I.x3) k0_pay148 y
    = k0_pay138 B (rowScales (rowsAt I.x3 384 (by omega))) (rowScales (rowsAt I.x3 416 (by omega))) (rowScales (rowsAt I.x3 448 (by omega))) (rowScales (rowsAt I.x3 480 (by omega))) y := by
  rw [← scales_12 c M.a3 M.h3 I.x3, ← scales_13 c M.a3 M.h3 I.x3, ← scales_14 c M.a3 M.h3 I.x3, ← scales_15 c M.a3 M.h3 I.x3]
  rfl

include H in
theorem stFwd_x14 (k : Fin 6) (s : Fin 4096) : (stFwd c i M h5 I S).x14 (ix2 k s)
    = if h : k = b ∧ o ≤ s.val ∧ s.val < o + 512 then chunkScale I.x3 ⟨s.val - o, by omega⟩ else S.x14 (ix2 k s) := by
  have hi : BitVec.ofNat 32 (i 0).val = BitVec.ofNat 32 b.val := congrArg _ H.hi
  have ho := H.ho
  have load : ∀ (n : ℕ) (hn : n + 128 ≤ 512) {off : Fin 2 → ℕ} (e : off = ![0, o + n])
      (inb : ∀ a, off a + S6x128.size a ≤ S6x4096.size a) (k : Fin 6) (l : Fin 128),
      View.readAt (Elt Ideal) M.a14.view (Rect.unit (s := S6x4096) off S6x128.size inb).toLoadRect (M.h14.unread S.x14) (ix2 k l)
        = S.x14 (ix2 k ⟨o + n + l.val, by omega⟩) := fun n hn off e inb k l => by
    subst e
    rw [View.readAt_eq_ld, M.h14.read_unread]
    pointwise
  dsimp only [stFwd, runFwd]
  rw [hi]
  refine sampleRows_cons ho S.x14 _ _ 384 (by omega) ?_ (H.o6 3) _ _ _ (sampleRow_3 c M I _ _) (load 384 (by omega) (H.o6 3) _) k s
  refine sampleRows_cons ho S.x14 _ _ 256 (by omega) ?_ (H.o6 2) _ _ _ (sampleRow_2 c M I _ _) (load 256 (by omega) (H.o6 2) _)
  refine sampleRows_cons ho S.x14 _ _ 128 (by omega) ?_ (H.o6 1) _ _ _ (sampleRow_1 c M I _ _) (load 128 (by omega) (H.o6 1) _)
  refine sampleRows_cons ho S.x14 _ _ 0 (by omega) ?_ (H.o6 0) _ _ _ (sampleRow_0 c M I _ _) (load 0 (by omega) (H.o6 0) _)
  intro k s
  rw [dif_neg (by omega)]
  exact congrFun (M.h14.read_unread S.x14) (ix2 k s)

end Cert.KernelIdeal.Gen
-- ==== Proof.ValueFwd2.lean ====
module
public import proofs.«01_k».proof.Proof.ValueFwd

@[expose] public section

/-!
# The prediction, the gradient and the running sums the forward pass of one chunk leaves
-/

set_option maxRecDepth 16384

namespace Cert.KernelIdeal.Gen
open Idealize.ShloMosaic Cert.KernelIdeal

variable (c : Dev nD) (i : grid0.Coords) (M : Mems) (I : Ins Ideal) (S : St Ideal)
variable (h5 : k0_cond5 i = 1#1) {sl : Fin 2} {b : Fin 6} {o : ℕ} (H : FwdAt i sl b o)

/-! ### What is loaded -/

include H in
theorem hs_lo (r : Fin 256) : runFwd.sl.v1175 c i M.a3 M.h3 M.a17 h5 I.x3 (ix3 0 0 r) = chunkScale I.x3 ⟨r.val, by omega⟩ := by
  have ho := H.ho
  have e0 : k0_off9 i 0#32 0 = sl.val := congrFun (H.o9 0) 0
  have e1 : k0_off9 i 0#32 1 = 0 := congrFun (H.o9 0) 1
  have e2 : k0_off9 i 0#32 2 = o := congrFun (H.o9 0) 2
  have k := kept c i M I h5 H le_rfl M.a17.view M.a17.view.junk sl ⟨o + r.val, by omega⟩
  rw [dif_pos ⟨rfl, by show o ≤ o + r.val; omega, by show o + r.val < o + 512; omega⟩] at k
  refine Eq.trans ?_ (k.trans (congrArg (chunkScale I.x3) (Fin.ext (show o + r.val - o = r.val by omega))))
  unfold runFwd.sl.v1175
  show View.ld _ _ _ = _
  pointwise
  simp only [e0, e1, e2]
  rfl

include H in
theorem hs_hi (r : Fin 256) : runFwd.sl.v1222 c i M.a3 M.h3 M.a17 h5 I.x3 (ix3 0 0 r) = chunkScale I.x3 ⟨256 + r.val, by omega⟩ := by
  have ho := H.ho
  have e0 : k0_off9 i 256#32 0 = sl.val := congrFun (H.o9 1) 0
  have e1 : k0_off9 i 256#32 1 = 0 := congrFun (H.o9 1) 1
  have e2 : k0_off9 i 256#32 2 = o + 256 := congrFun (H.o9 1) 2
  have k := kept c i M I h5 H le_rfl M.a17.view M.a17.view.junk sl ⟨o + 256 + r.val, by omega⟩
  rw [dif_pos ⟨rfl, by show o ≤ o + 256 + r.val; omega, by show o + 256 + r.val < o + 512; omega⟩] at k
  refine Eq.trans ?_ (k.trans (congrArg (chunkScale I.x3) (Fin.ext (show o + 256 + r.val - o = 256 + r.val by omega))))
  unfold runFwd.sl.v1222
  show View.ld _ _ _ = _
  pointwise
  simp only [e0, e1, e2]
  rfl

theorem ws_load (p : Fin 64) : runFwd.sl.r_69 c M.a22 M.h22 S.x22 (ix2 p 0) = S.x22 (ix2 p 0) := by
  unfold runFwd.sl.r_69
  rw [View.readAt_eq_ld, M.h22.read_unread]
  pointwise

theorem bias_load (p : Fin 64) : runFwd.sl.r_70 c M.a23 M.h23 S.x23 (ix2 p 0) = S.x23 (ix2 p 0) := by
  unfold runFwd.sl.r_70
  rw [View.readAt_eq_ld, M.h23.read_unread]
  pointwise

theorem w_load : runFwd.sl.r_73 c M.a4 M.h4 I.x4 = I.x4 := by
  unfold runFwd.sl.r_73
  rw [View.readAt_eq_ld, M.h4.read_unread]
  funext y
  rw [eq_ix2 y]
  pointwise

include H in
theorem lw_load : runFwd.sl.r_1 c i M.a2 M.h2 h5 I.x2 = ((I.x2 (ix1 b) : EReal) * Ideal.ofBits .f32 900377259#32 : EReal) := by
  have e0 : k0_off5 i 0 = b.val := congrFun H.o5 0
  unfold runFwd.sl.r_1 runFwd.sl.r
  rw [View.readAt_eq_ld, M.h2.read_unread]
  pointwise [k0_pay27]
  simp only [e0]

/-! ### The two halves -/

include H in
theorem pred_lo (p : Fin 64) (r : Fin 256) :
    k0_pay153 (runFwd.sl.r_69 c M.a22 M.h22 S.x22) (runFwd.sl.r_70 c M.a23 M.h23 S.x23) (runFwd.sl.r_73 c M.a4 M.h4 I.x4)
      (runFwd.sl.v1169 c M.a3 M.h3 M.a13 I.x3) (runFwd.sl.v1175 c i M.a3 M.h3 M.a17 h5 I.x3) (ix2 p r) = fwPred I S p ⟨r.val, by omega⟩ := by
  rw [pay153_apply, hs_lo c i M I h5 H, ws_load, bias_load, w_load]
  simp only [codes_lo]
  rfl

include H in
theorem pred_hi (p : Fin 64) (r : Fin 256) :
    k0_pay153 (runFwd.sl.r_69 c M.a22 M.h22 S.x22) (runFwd.sl.r_70 c M.a23 M.h23 S.x23) (runFwd.sl.r_73 c M.a4 M.h4 I.x4)
      (runFwd.sl.v1216 c M.a3 M.h3 M.a13 I.x3) (runFwd.sl.v1222 c i M.a3 M.h3 M.a17 h5 I.x3) (ix2 p r) = fwPred I S p ⟨256 + r.val, by omega⟩ := by
  rw [pay153_apply, hs_hi c i M I h5 H, ws_load, bias_load, w_load]
  simp only [codes_hi]
  rfl

/-- The noise of the first half. -/
noncomputable abbrev nzLo : Vec Ideal S1x64x256 .bf16 :=
  View.readAt (Elt Ideal) M.a8.view (Rect.unit (s := S1x64x512) ![0, 0, 0] S1x64x256.size inb_S1x64x512_S1x64x256_0_0_0).toLoadRect (M.h8.unread I.x8)
/-- The clean sample of the first half. -/
noncomputable abbrev x0Lo : Vec Ideal S1x64x256 .bf16 :=
  View.readAt (Elt Ideal) M.a7.view (Rect.unit (s := S1x64x512) ![0, 0, 0] S1x64x256.size inb_S1x64x512_S1x64x256_0_0_0).toLoadRect (M.h7.unread I.x7)
/-- The noise of the second half. -/
noncomputable abbrev nzHi : Vec Ideal S1x64x256 .bf16 :=
  View.readAt (Elt Ideal) M.a8.view (Rect.unit (s := S1x64x512) ![0, 0, 256] S1x64x256.size inb_S1x64x512_S1x64x256_0_0_256).toLoadRect (M.h8.unread I.x8)
/-- The clean sample of the second half. -/
noncomputable abbrev x0Hi : Vec Ideal S1x64x256 .bf16 :=
  View.readAt (Elt Ideal) M.a7.view (Rect.unit (s := S1x64x512) ![0, 0, 256] S1x64x256.size inb_S1x64x512_S1x64x256_0_0_256).toLoadRect (M.h7.unread I.x7)

theorem nzLo_apply (p : Fin 64) (r : Fin 256) : nzLo M I (ix3 0 p r) = I.x8 (ix3 0 p ⟨r.val, by omega⟩) := by
  unfold nzLo
  rw [View.readAt_eq_ld, M.h8.read_unread]
  pointwise
theorem x0Lo_apply (p : Fin 64) (r : Fin 256) : x0Lo M I (ix3 0 p r) = I.x7 (ix3 0 p ⟨r.val, by omega⟩) := by
  unfold x0Lo
  rw [View.readAt_eq_ld, M.h7.read_unread]
  pointwise
theorem nzHi_apply (p : Fin 64) (r : Fin 256) : nzHi M I (ix3 0 p r) = I.x8 (ix3 0 p ⟨256 + r.val, by omega⟩) := by
  unfold nzHi
  rw [View.readAt_eq_ld, M.h8.read_unread]
  pointwise
theorem x0Hi_apply (p : Fin 64) (r : Fin 256) : x0Hi M I (ix3 0 p r) = I.x7 (ix3 0 p ⟨256 + r.val, by omega⟩) := by
  unfold x0Hi
  rw [View.readAt_eq_ld, M.h7.read_unread]
  pointwise

/-- The difference of the first half, as the body computes it. -/
noncomputable abbrev dLo : FVec Ideal S64x256 .f32 :=
  k0_pay155 (runFwd.sl.r_69 c M.a22 M.h22 S.x22) (runFwd.sl.r_70 c M.a23 M.h23 S.x23) (runFwd.sl.r_73 c M.a4 M.h4 I.x4)
      (runFwd.sl.v1169 c M.a3 M.h3 M.a13 I.x3) (runFwd.sl.v1175 c i M.a3 M.h3 M.a17 h5 I.x3) (nzLo M I) (x0Lo M I)
/-- The difference of the second half, as the body computes it. -/
noncomputable abbrev dHi : FVec Ideal S64x256 .f32 :=
  k0_pay155 (runFwd.sl.r_69 c M.a22 M.h22 S.x22) (runFwd.sl.r_70 c M.a23 M.h23 S.x23) (runFwd.sl.r_73 c M.a4 M.h4 I.x4)
      (runFwd.sl.v1216 c M.a3 M.h3 M.a13 I.x3) (runFwd.sl.v1222 c i M.a3 M.h3 M.a17 h5 I.x3) (nzHi M I) (x0Hi M I)
/-- The gradient of the first half, as the body computes it. -/
noncomputable abbrev gLo : FVec Ideal S64x256 .f32 :=
  k0_pay156 (runFwd.sl.r_1 c i M.a2 M.h2 h5 I.x2) (runFwd.sl.r_69 c M.a22 M.h22 S.x22) (runFwd.sl.r_70 c M.a23 M.h23 S.x23) (runFwd.sl.r_73 c M.a4 M.h4 I.x4)
      (runFwd.sl.v1169 c M.a3 M.h3 M.a13 I.x3) (runFwd.sl.v1175 c i M.a3 M.h3 M.a17 h5 I.x3) (nzLo M I) (x0Lo M I)
/-- The gradient of the second half, as the body computes it. -/
noncomputable abbrev gHi : FVec Ideal S64x256 .f32 :=
  k0_pay156 (runFwd.sl.r_1 c i M.a2 M.h2 h5 I.x2) (runFwd.sl.r_69 c M.a22 M.h22 S.x22) (runFwd.sl.r_70 c M.a23 M.h23 S.x23) (runFwd.sl.r_73 c M.a4 M.h4 I.x4)
      (runFwd.sl.v1216 c M.a3 M.h3 M.a13 I.x3) (runFwd.sl.v1222 c i M.a3 M.h3 M.a17 h5 I.x3) (nzHi M I) (x0Hi M I)

include H in
theorem dLo_apply (p : Fin 64) (r : Fin 256) : dLo c i M I S h5 (ix2 p r) = fwDiff I S p ⟨r.val, by omega⟩ := by
  unfold dLo
  rw [pay155_apply, pred_lo c i M I S h5 H, nzLo_apply, x0Lo_apply]
  rfl
include H in
theorem dHi_apply (p : Fin 64) (r : Fin 256) : dHi c i M I S h5 (ix2 p r) = fwDiff I S p ⟨256 + r.val, by omega⟩ := by
  unfold dHi
  rw [pay155_apply, pred_hi c i M I S h5 H, nzHi_apply, x0Hi_apply]
  rfl
include H in
theorem gLo_apply (p : Fin 64) (r : Fin 256) : gLo c i M I S h5 (ix2 p r) = fwGrad b I S p ⟨r.val, by omega⟩ := by
  have h := dLo_apply c i M I S h5 H p r
  unfold dLo at h
  unfold gLo
  rw [pay156_apply, h, lw_load c i M I h5 H]
  rfl
include H in
theorem gHi_apply (p : Fin 64) (r : Fin 256) : gHi c i M I S h5 (ix2 p r) = fwGrad b I S p ⟨256 + r.val, by omega⟩ := by
  have h := dHi_apply c i M I S h5 H p r
  unfold dHi at h
  unfold gHi
  rw [pay156_apply, h, lw_load c i M I h5 H]
  rfl

/-! ### The buffers -/

include H in
theorem stFwd_x10 (p : Fin 64) (r : Fin 512) : (stFwd c i M h5 I S).x10 (ix3 0 p r) = fwPred I S p r := by
  dsimp only [stFwd, runFwd]
  by_cases hr : r.val < 256
  · rw [View.read_writes_cons_unit_of_not_mem _ _ _ _ _ (ix3 0 p r) rfl 2 (.inl hr)]
    refine (View.hit3 _ _ _ _ _ rfl 0 p r 0 p ⟨r.val, hr⟩ rfl (Nat.zero_add _).symm (Nat.zero_add _).symm).trans ?_
    exact (pay154_apply _ _ _ _ _ p ⟨r.val, hr⟩).trans (pred_lo c i M I S h5 H p ⟨r.val, hr⟩)
  · refine (View.hit3 _ _ _ _ _ rfl 0 p r 0 p ⟨r.val - 256, by omega⟩ rfl (Nat.zero_add _).symm
      (show r.val = 256 + (r.val - 256) by omega)).trans ?_
    refine (pay154_apply _ _ _ _ _ p ⟨r.val - 256, by omega⟩).trans ((pred_hi c i M I S h5 H p ⟨r.val - 256, by omega⟩).trans ?_)
    exact congrArg (fwPred I S p) (Fin.ext (show 256 + (r.val - 256) = r.val by omega))

include H in
theorem stFwd_x19 (a : Fin 2) (p : Fin 64) (s : Fin 4096) : (stFwd c i M h5 I S).x19 (ix3 a p s)
    = if h : a = sl ∧ o ≤ s.val ∧ s.val < o + 512 then fwGrad b I S p ⟨s.val - o, by omega⟩ else S.x19 (ix3 a p s) := by
  have ho := H.ho
  have a0 : k0_off10 i 0#32 = ![sl.val, 0, o + 0] := H.o10 0
  have a1 : k0_off10 i 256#32 = ![sl.val, 0, o + 256] := H.o10 1
  dsimp only [stFwd, runFwd]
  by_cases q : a = sl ∧ o ≤ s.val ∧ s.val < o + 512
  · rw [dif_pos q]
    obtain ⟨rfl, q₁, q₂⟩ := q
    by_cases hr : s.val < o + 256
    · rw [View.read_writes_cons_unit_of_not_mem _ _ _ _ _ (ix3 a p s) a1 2 (.inl (show s.val < o + 256 from hr))]
      refine (View.hit3 _ _ _ _ _ a0 a p s 0 p ⟨s.val - o, by omega⟩ rfl (Nat.zero_add _).symm
        (show s.val = o + 0 + (s.val - o) by omega)).trans ?_
      exact (pay157_apply _ _ _ _ _ _ _ _ p ⟨s.val - o, by omega⟩).trans (gLo_apply c i M I S h5 H p ⟨s.val - o, by omega⟩)
    · refine (View.hit3 _ _ _ _ _ a1 a p s 0 p ⟨s.val - o - 256, by omega⟩ rfl (Nat.zero_add _).symm
        (show s.val = o + 256 + (s.val - o - 256) by omega)).trans ?_
      refine (pay157_apply _ _ _ _ _ _ _ _ p ⟨s.val - o - 256, by omega⟩).trans
        ((gHi_apply c i M I S h5 H p ⟨s.val - o - 256, by omega⟩).trans ?_)
      exact congrArg (fwGrad b I S p) (Fin.ext (show 256 + (s.val - o - 256) = s.val - o by omega))
  · rw [dif_neg q]
    refine Eq.trans ?_ (congrFun (M.h19.read_unread S.x19) (ix3 a p s))
    by_cases q₀ : a = sl
    · by_cases q₁ : s.val < o
      · rw [View.read_writes_cons_unit_of_not_mem _ _ _ _ _ (ix3 a p s) a1 2 (.inl (show s.val < o + 256 by omega)),
          View.read_writes_cons_unit_of_not_mem _ _ _ _ _ (ix3 a p s) a0 2 (.inl (show s.val < o + 0 by omega))]
        rfl
      · have q₂ : o + 512 ≤ s.val := by have := fun z => q ⟨q₀, z⟩; omega
        rw [View.read_writes_cons_unit_of_not_mem _ _ _ _ _ (ix3 a p s) a1 2 (.inr (show o + 256 + 256 ≤ s.val by omega)),
          View.read_writes_cons_unit_of_not_mem _ _ _ _ _ (ix3 a p s) a0 2 (.inr (show o + 0 + 256 ≤ s.val by omega))]
        rfl
    · rcases lt_or_gt_of_ne (fun z => q₀ (Fin.ext z) : a.val ≠ sl.val) with q₁ | q₁
      · rw [View.read_writes_cons_unit_of_not_mem _ _ _ _ _ (ix3 a p s) a1 0 (.inl q₁),
          View.read_writes_cons_unit_of_not_mem _ _ _ _ _ (ix3 a p s) a0 0 (.inl q₁)]
        rfl
      · rw [View.read_writes_cons_unit_of_not_mem _ _ _ _ _ (ix3 a p s) a1 0 (.inr (show sl.val + 1 ≤ a.val by omega)),
          View.read_writes_cons_unit_of_not_mem _ _ _ _ _ (ix3 a p s) a0 0 (.inr (show sl.val + 1 ≤ a.val by omega))]
        rfl

/-- The running maximum. -/
theorem max_apply (m : Vec Ideal S64x128 .f32) (lo hi : FVec Ideal S64x256 .f32) (p : Fin 64) (l : Fin 128) :
    k0_pay10 (k0_pay162 lo (maximumf m (absf (extractStridedSlice S64x128 ![0, 0] lo slices_S64x256_o0_0_S64x128)))) hi (ix2 p l)
      = max (max (max (max (m (ix2 p l) : EReal) (Spec.ab (lo (ix2 p ⟨l.val, by omega⟩)))) (Spec.ab (lo (ix2 p ⟨128 + l.val, by omega⟩))))
          (Spec.ab (hi (ix2 p ⟨l.val, by omega⟩)))) (Spec.ab (hi (ix2 p ⟨128 + l.val, by omega⟩))) := by
  pointwise [k0_pay10, k0_pay162]
  rfl

/-- The running sum of squares. -/
theorem sum_apply (m : Vec Ideal S64x128 .f32) (lo hi : FVec Ideal S64x256 .f32) (p : Fin 64) (l : Fin 128) :
    k0_pay11 (k0_pay161 (addf m (mulf (extractStridedSlice S64x128 ![0, 0] lo slices_S64x256_o0_0_S64x128)
        (extractStridedSlice S64x128 ![0, 0] lo slices_S64x256_o0_0_S64x128))) (extractStridedSlice S64x128 ![0, 128] lo slices_S64x256_o0_128_S64x128)) hi (ix2 p l)
      = ((((m (ix2 p l) : EReal) + (lo (ix2 p ⟨l.val, by omega⟩) : EReal) * (lo (ix2 p ⟨l.val, by omega⟩) : EReal))
          + (lo (ix2 p ⟨128 + l.val, by omega⟩) : EReal) * (lo (ix2 p ⟨128 + l.val, by omega⟩) : EReal))
          + (hi (ix2 p ⟨l.val, by omega⟩) : EReal) * (hi (ix2 p ⟨l.val, by omega⟩) : EReal))
          + (hi (ix2 p ⟨128 + l.val, by omega⟩) : EReal) * (hi (ix2 p ⟨128 + l.val, by omega⟩) : EReal) := by
  pointwise [k0_pay11, k0_pay161]

theorem amax_load : runFwd.sl.r_71 c M.a20 M.h20 S.x20 = S.x20 := by
  unfold runFwd.sl.r_71
  rw [View.readAt_eq_ld, M.h20.read_unread]
  funext y
  rw [eq_ix2 y]
  pointwise
theorem ssq_load : runFwd.sl.r_72 c M.a21 M.h21 S.x21 = S.x21 := by
  unfold runFwd.sl.r_72
  rw [View.readAt_eq_ld, M.h21.read_unread]
  funext y
  rw [eq_ix2 y]
  pointwise

include H in
theorem stFwd_x20 (p : Fin 64) (l : Fin 128) : (stFwd c i M h5 I S).x20 (ix2 p l)
    = max (max (max (max (S.x20 (ix2 p l) : EReal) (Spec.ab (fwGrad b I S p ⟨l.val, by omega⟩))) (Spec.ab (fwGrad b I S p ⟨128 + l.val, by omega⟩)))
          (Spec.ab (fwGrad b I S p ⟨256 + l.val, by omega⟩))) (Spec.ab (fwGrad b I S p ⟨384 + l.val, by omega⟩)) := by
  have h := max_apply (runFwd.sl.r_71 c M.a20 M.h20 S.x20) (gLo c i M I S h5) (gHi c i M I S h5) p l
  rw [gLo_apply c i M I S h5 H, gLo_apply c i M I S h5 H, gHi_apply c i M I S h5 H, gHi_apply c i M I S h5 H, congrFun (amax_load c M S) (ix2 p l)] at h
  dsimp only [stFwd, runFwd]
  rw [View.read_writes_full]
  refine Eq.trans ?_ (h.trans ?_)
  · rfl
  · have e : (⟨256 + (128 + l.val), by omega⟩ : Fin 512) = ⟨384 + l.val, by omega⟩ := Fin.ext (by show 256 + (128 + l.val) = 384 + l.val; omega)
    exact congrArg₂ max rfl (congrArg (fun z => Spec.ab (fwGrad b I S p z)) e)

include H in
theorem stFwd_x21 (p : Fin 64) (l : Fin 128) : (stFwd c i M h5 I S).x21 (ix2 p l)
    = ((((S.x21 (ix2 p l) : EReal) + fwDiff I S p ⟨l.val, by omega⟩ * fwDiff I S p ⟨l.val, by omega⟩)
        + fwDiff I S p ⟨128 + l.val, by omega⟩ * fwDiff I S p ⟨128 + l.val, by omega⟩)
        + fwDiff I S p ⟨256 + l.val, by omega⟩ * fwDiff I S p ⟨256 + l.val, by omega⟩)
        + fwDiff I S p ⟨384 + l.val, by omega⟩ * fwDiff I S p ⟨384 + l.val, by omega⟩ := by
  have h := sum_apply (runFwd.sl.r_72 c M.a21 M.h21 S.x21) (dLo c i M I S h5) (dHi c i M I S h5) p l
  rw [dLo_apply c i M I S h5 H, dLo_apply c i M I S h5 H, dHi_apply c i M I S h5 H, dHi_apply c i M I S h5 H, congrFun (ssq_load c M S) (ix2 p l)] at h
  dsimp only [stFwd, runFwd]
  rw [View.read_writes_full]
  refine Eq.trans ?_ (h.trans ?_)
  · rfl
  · have e : (⟨256 + (128 + l.val), by omega⟩ : Fin 512) = ⟨384 + l.val, by omega⟩ := Fin.ext (by show 256 + (128 + l.val) = 384 + l.val; omega)
    exact congrArg₂ (· + ·) rfl (congrArg (fun z => fwDiff I S p z * fwDiff I S p z) e)

end Cert.KernelIdeal.Gen
-- ==== Proof.ValueBack.lean ====
module
public import proofs.«01_k».proof.Proof.StepsI
public import proofs.«01_k».proof.Proof.Words
public import proofs.«01_k».proof.Proof.Hits
public import Idealize.ShloMosaic.Lib.Pointwise
public import Idealize.ShloMosaic.Lib.VecWindow
public import Idealize.ShloMosaic.Lib.WritesUnit

@[expose] public section

/-!
# What the backward pass of one chunk leaves in the buffers

`sl` is the half of the kept buffers the sample lies in, `o` the chunk's first token.
-/

set_option maxRecDepth 16384

namespace Cert.KernelIdeal.Gen
open Idealize.ShloMosaic Cert.KernelIdeal

/-- The code of one entry of the gradient, from the kept gradient and the reciprocal of the channel's scale. -/
noncomputable def bcode (S : St Ideal) (sl : Fin 2) (p : Fin 64) (s : Fin 4096) : EReal :=
  min (Ideal.ofBits .f32 1197473792#32) (max (Ideal.ofBits .f32 3344957440#32)
    ((S.x19 (ix3 sl p s) : EReal) * (S.x26 (ix2 p 0) : EReal)))

/-- The entry as its code gives it back. -/
noncomputable def bgdq (S : St Ideal) (sl : Fin 2) (p : Fin 64) (s : Fin 4096) : EReal :=
  bcode S sl p s * (S.x25 (ix2 p 0) : EReal)

variable (c : Dev nD) (i : grid0.Coords) (M : Mems) (I : Ins Ideal) (S : St Ideal)
variable (h4 : k0_cond4 i = 1#1) (sl : Fin 2) (o : ℕ) (ho : o + 512 ≤ 4096)

theorem stBack_x15 (h2 : k0_off2 i = ![sl.val, 0, o]) (p : Fin 64) (r : Fin 512) :
    (stBack c i M h4 I S).x15 (ix3 0 p r) = bcode S sl p ⟨o + r.val, by omega⟩ := by
  have e0 : k0_off2 i 0 = sl.val := by rw [h2]; rfl
  have e1 : k0_off2 i 1 = 0 := by rw [h2]; rfl
  have e2 : k0_off2 i 2 = o := by rw [h2]; rfl
  dsimp only [stBack, runBack]
  rw [View.read_writes_full, View.readAt_eq_ld, M.h26.read_unread, View.readAt_eq_ld, M.h19.read_unread]
  pointwise [k0_pay23, k0_pay22]
  simp only [e0, e1, e2]
  pointwise
  rfl

theorem stBack_x11 (h2 : k0_off2 i = ![sl.val, 0, o]) (r : Fin 512) (d : Fin 1536) :
    (stBack c i M h4 I S).x11 (ix3 0 r d)
      = ∑ p : Fin 64, bgdq S sl p ⟨o + r.val, by omega⟩ * (S.x24 (ix2 p d) : EReal) := by
  have e0 : k0_off2 i 0 = sl.val := by rw [h2]; rfl
  have e1 : k0_off2 i 1 = 0 := by rw [h2]; rfl
  have e2 : k0_off2 i 2 = o := by rw [h2]; rfl
  dsimp only [stBack, runBack]
  by_cases hr : r.val < 256
  · rw [View.read_writes_cons_unit_of_not_mem _ _ _ _ _ (ix3 0 r d) rfl 1 (.inl hr)]
    refine (View.hit3 _ _ _ _ _ rfl 0 r d 0 ⟨r.val, hr⟩ d rfl (Nat.zero_add _).symm (Nat.zero_add _).symm).trans ?_
    rw [View.readAt_eq_ld, View.readAt_eq_ld, View.readAt_eq_ld, View.readAt_eq_ld, M.h26.read_unread, M.h25.read_unread,
      M.h24.read_unread, M.h19.read_unread]
    pointwise [k0_pay25, k0_pay24, k0_pay22]
    simp only [e0, e1, e2]
    pointwise
    rfl
  · refine (View.hit3 _ _ _ _ _ rfl 0 r d 0 ⟨r.val - 256, by omega⟩ d rfl (show r.val = 256 + (r.val - 256) by omega)
      (Nat.zero_add _).symm).trans ?_
    unfold runBack.sl.r_1
    rw [View.readAt_eq_ld, View.readAt_eq_ld, View.readAt_eq_ld, View.readAt_eq_ld, M.h26.read_unread, M.h25.read_unread,
      M.h24.read_unread, M.h19.read_unread]
    pointwise [k0_pay8, k0_pay26, k0_pay24, k0_pay22]
    simp only [e0, e1, e2]
    have q : 256 + (r.val - 256) = r.val := by omega
    pointwise [q]
    rfl

theorem stBack_x12 (h2 : k0_off2 i = ![sl.val, 0, o]) (h3 : k0_off3 i = ![sl.val, 0, o]) (h4' : k0_off4 i = ![sl.val, o, 0])
    (p : Fin 64) (d : Fin 1536) :
    (stBack c i M h4 I S).x12 (ix2 p d)
      = ((S.x12 (ix2 p d) : EReal) + ∑ r : Fin 512, bgdq S sl p ⟨o + r.val, by omega⟩
          * (S.x17 (ix3 sl 0 ⟨o + r.val, by omega⟩) : EReal) * (S.x18 (ix3 sl ⟨o + r.val, by omega⟩ d) : EReal) : EReal) := by
  have e0 : k0_off2 i 0 = sl.val := by rw [h2]; rfl
  have e1 : k0_off2 i 1 = 0 := by rw [h2]; rfl
  have e2 : k0_off2 i 2 = o := by rw [h2]; rfl
  have f0 : k0_off3 i 0 = sl.val := by rw [h3]; rfl
  have f1 : k0_off3 i 1 = 0 := by rw [h3]; rfl
  have f2 : k0_off3 i 2 = o := by rw [h3]; rfl
  have g0 : k0_off4 i 0 = sl.val := by rw [h4']; rfl
  have g1 : k0_off4 i 1 = o := by rw [h4']; rfl
  have g2 : k0_off4 i 2 = 0 := by rw [h4']; rfl
  dsimp only [stBack, runBack]
  rw [View.read_writes_full]
  unfold runBack.sl.r
  rw [View.readAt_eq_ld, View.readAt_eq_ld, View.readAt_eq_ld, View.readAt_eq_ld, View.readAt_eq_ld, View.readAt_eq_ld,
    M.h26.read_unread, M.h25.read_unread, M.h19.read_unread, M.h17.read_unread, M.h18.read_unread, M.h12.read_unread]
  pointwise [k0_pay9, k0_pay24, k0_pay22]
  simp only [e0, e1, e2, f0, f1, f2, g0, g1, g2]
  pointwise
  rfl

end Cert.KernelIdeal.Gen
-- ==== Proof.ValueSmall.lean ====
module
public import proofs.«01_k».proof.Proof.StepsI
public import proofs.«01_k».proof.Proof.Words
public import Idealize.ShloMosaic.Lib.Pointwise
public import Idealize.ShloMosaic.Lib.VecWindow
public import Idealize.ShloMosaic.Lib.WritesUnit

@[expose] public section

/-!
# What the first point, the start of a sample and the end of a sample leave in the buffers
-/

set_option maxRecDepth 16384

namespace Cert.KernelIdeal.Gen
open Idealize.ShloMosaic Cert.KernelIdeal

variable (c : Dev nD) (i : grid0.Coords) (M : Mems) (I : Ins Ideal) (S : St Ideal)

/-! ### The first point -/

theorem stInit_x12 (y) : (stInit c i M I S).x12 y = (0 : EReal) := by
  dsimp only [stInit, runInit]
  rw [View.read_writes_full]
  pointwise [k0_pay1]

theorem stInit_x14 (y) : (stInit c i M I S).x14 y = (0 : EReal) := by
  dsimp only [stInit, runInit]
  rw [View.read_writes_full]
  pointwise [k0_pay2]

theorem stInit_x16 (y) : (stInit c i M I S).x16 y = (0 : EReal) := by
  dsimp only [stInit, runInit]
  rw [View.read_writes_full]
  pointwise [k0_pay3]

theorem stInit_x22 (y : S64x128.Idx) : (stInit c i M I S).x22 y = I.x5 (ix2 0 (y 0)) := by
  dsimp only [stInit, runInit]
  rw [View.read_writes_full, View.readAt_full, M.h5.read_unread]
  pointwise [k0_pay13, k0_pay12]
  exact Spec.sum_diag_left (by decide) (y 0) (fun x => I.x5 (ix2 0 x))

theorem stInit_x23 (y : S64x128.Idx) : (stInit c i M I S).x23 y = I.x6 (ix2 0 (y 0)) := by
  dsimp only [stInit, runInit]
  rw [View.read_writes_full, View.readAt_full, M.h6.read_unread]
  pointwise [k0_pay14]
  exact Spec.sum_diag_left (by decide) (y 0) (fun x => I.x6 (ix2 0 x))

theorem stInit_x24 (y : S64x1536.Idx) :
    (stInit c i M I S).x24 y = ((I.x4 y : EReal) * (I.x5 (ix2 0 (y 0)) : EReal) : EReal) := by
  dsimp only [stInit, runInit]
  rw [View.read_writes_full, View.readAt_full, View.readAt_full, M.h4.read_unread, M.h5.read_unread]
  pointwise [k0_pay15, k0_pay12]
  exact congrArg (fun z : EReal => (I.x4 y : EReal) * z) (Spec.sum_diag_left (n := 64) (by decide) (y 0) (fun x => I.x5 (ix2 0 x)))

/-! ### The start of a sample -/

theorem stZero_x20 (y) : (stZero c i M I S).x20 y = (0 : EReal) := by
  dsimp only [stZero, runZero]
  rw [View.read_writes_full]
  pointwise [k0_pay6]

theorem stZero_x21 (y) : (stZero c i M I S).x21 y = (0 : EReal) := by
  dsimp only [stZero, runZero]
  rw [View.read_writes_full]
  pointwise [k0_pay7]

/-! ### The end of a sample -/

/-- The quotient of a channel's largest entry. -/
noncomputable def chanY (x20 : Vec Ideal S64x128 .f32) (p : Fin 64) : EReal :=
  Spec.top (fun l : Fin 128 => (x20 (ix2 p l) : EReal)) * Ideal.ofBits .f32 932333861#32

theorem stFinish_x25 (h2 : k0_cond2 i = 1#1) (h3 : k0_cond3 i = 1#1) (y : S64x128.Idx) :
    (stFinish c i M h2 h3 I S).x25 y = Spec.scaleOf (chanY S.x20 (y 0)) := by
  dsimp only [stFinish, runFinish]
  rw [View.read_writes_full, View.readAt_full, M.h20.read_unread]
  pointwise [k0_pay19, k0_pay18, k0_pay17, k0_pay16]
  rfl

theorem stFinish_x26 (h2 : k0_cond2 i = 1#1) (h3 : k0_cond3 i = 1#1) (y : S64x128.Idx) :
    (stFinish c i M h2 h3 I S).x26 y = Spec.invOf (chanY S.x20 (y 0)) := by
  dsimp only [stFinish, runFinish]
  rw [View.read_writes_full, View.readAt_full, M.h20.read_unread]
  pointwise [k0_pay20, k0_pay17, k0_pay16]
  rfl

theorem stFinish_x16 (h2 : k0_cond2 i = 1#1) (h3 : k0_cond3 i = 1#1) (hi : 0 < (i 0).val) (y : S6x64.Idx) :
    (stFinish c i M h2 h3 I S).x16 y
      = if (y 0).val = (i 0).val - 1 then Spec.scaleOf (chanY S.x20 (y 1)) else (S.x16 y : EReal) := by
  have hi7 : (i 0).val < 7 := (i 0).isLt
  have e : runFinish.sl.v62 i = BitVec.ofNat 32 ((i 0).val - 1) := by
    unfold runFinish.sl.v62
    generalize (i 0).val = k at *
    interval_cases k <;> rfl
  have hy : (y 0).val < 6 := (y 0).isLt
  dsimp only [stFinish, runFinish]
  rw [View.read_writes_full, View.readAt_full, M.h16.read_unread, e]
  unfold runFinish.sl.r
  rw [View.readAt_full, M.h20.read_unread]
  pointwise [k0_pay4, k0_pay21, k0_pay18, k0_pay17, k0_pay16]
  rw [Spec.select_eq _ _ (by omega) (by omega)]
  exact if_congr Iff.rfl (Spec.sum_diag_right (n := 64) (by decide) (y 1) (fun x => Spec.scaleOf (chanY S.x20 x))) rfl

theorem stFinish_x9 (h2 : k0_cond2 i = 1#1) (h3 : k0_cond3 i = 1#1) (k : ℕ) (hk : k0_off1 i = ![k]) (hk6 : k < 6) (y : S6.Idx) :
    (stFinish c i M h2 h3 I S).x9 y
      = if (y 0).val = k then
          ((I.x2 (ix1 ⟨k, hk6⟩) : EReal) * ((∑ p : Fin 64, ∑ l : Fin 128, (S.x21 (ix2 p l) : EReal)) * Ideal.ofBits .f32 914358272#32) : EReal)
        else (S.x9 y : EReal) := by
  dsimp only [stFinish, runFinish]
  have e' : k0_off1 i 0 = k := by rw [hk]; rfl
  by_cases e : (y 0).val = k
  · rw [if_pos e, View.read_writes_cons_unit_of_mem _ _ _ _ _ y (fun a => ⟨0, match a with | ⟨0, _⟩ => Nat.one_pos⟩) hk (fun a => by
      match a with
      | ⟨0, _⟩ => simpa using e)]
    unfold runFinish.sl.r_1
    rw [View.readAt_full, M.h21.read_unread, View.readAt_eq_ld, M.h2.read_unread]
    pointwise [k0_pay5]
    simp only [e']
  · rw [if_neg e, View.read_writes_cons_unit_of_not_mem _ _ _ _ _ y hk 0 (by
      show (y 0).val < k ∨ k + 1 ≤ (y 0).val
      omega)]
    show M.a9.view.read (Elt Ideal) (M.h9.unread S.x9) y = S.x9 y
    rw [M.h9.read_unread]

end Cert.KernelIdeal.Gen
-- ==== Proof.Offsets.lean ====
module
public import proofs.«01_k».proof.Proof.TrackI

@[expose] public section

/-!
# Where the points of the grid look

Point `t` has coordinates `t / 8` and `t % 8`. The conditions of the body and the offsets of its loads and stores,
in these two numbers, checked at the 56 points.
-/

set_option maxRecDepth 16384

namespace Cert.KernelIdeal.Gen
open Idealize.ShloMosaic Cert.KernelIdeal

theorem N_eq : cfg0.N = 56 := by decide +kernel

theorem coords_zero : ∀ t : Fin cfg0.N, ((grid0.coords t) 0).val = t.val / 8 := by decide +kernel
theorem coords_one : ∀ t : Fin cfg0.N, ((grid0.coords t) 1).val = t.val % 8 := by decide +kernel
theorem cond1_iff : ∀ t : Fin cfg0.N, k0_cond1 (grid0.coords t) = 1#1 ↔ t.val = 0 := by decide +kernel
theorem cond2_iff : ∀ t : Fin cfg0.N, k0_cond2 (grid0.coords t) = 1#1 ↔ t.val % 8 = 0 := by decide +kernel
theorem cond3_iff : ∀ t : Fin cfg0.N, k0_cond3 (grid0.coords t) = 1#1 ↔ 8 ≤ t.val := by decide +kernel
theorem cond4_iff : ∀ t : Fin cfg0.N, k0_cond4 (grid0.coords t) = 1#1 ↔ 8 ≤ t.val := by decide +kernel
theorem cond5_iff : ∀ t : Fin cfg0.N, k0_cond5 (grid0.coords t) = 1#1 ↔ t.val < 48 := by decide +kernel

theorem off1_eq : ∀ t : Fin cfg0.N, 8 ≤ t.val → k0_off1 (grid0.coords t) = ![t.val / 8 - 1] := by decide +kernel
theorem off2_eq : ∀ t : Fin cfg0.N, 8 ≤ t.val → k0_off2 (grid0.coords t) = ![(t.val / 8 - 1) % 2, 0, 512 * (t.val % 8)] := by
  decide +kernel
theorem off3_eq : ∀ t : Fin cfg0.N, 8 ≤ t.val → k0_off3 (grid0.coords t) = ![(t.val / 8 - 1) % 2, 0, 512 * (t.val % 8)] := by
  decide +kernel
theorem off4_eq : ∀ t : Fin cfg0.N, 8 ≤ t.val → k0_off4 (grid0.coords t) = ![(t.val / 8 - 1) % 2, 512 * (t.val % 8), 0] := by
  decide +kernel
theorem off5_eq : ∀ t : Fin cfg0.N, t.val < 48 → k0_off5 (grid0.coords t) = ![t.val / 8] := by decide +kernel
theorem off6_eq : ∀ t : Fin cfg0.N, ∀ k : Fin 4, t.val < 48 →
    k0_off6 (grid0.coords t) (BitVec.ofNat 32 (128 * k.val)) = ![0, 512 * (t.val % 8) + 128 * k.val] := by decide +kernel
theorem off7_eq : ∀ t : Fin cfg0.N, ∀ k : Fin 4, t.val < 48 →
    k0_off7 (grid0.coords t) (BitVec.ofNat 32 (128 * k.val)) = ![t.val / 8 % 2, 0, 512 * (t.val % 8) + 128 * k.val] := by decide +kernel
theorem off8_eq : ∀ t : Fin cfg0.N, t.val < 48 → k0_off8 (grid0.coords t) = ![t.val / 8 % 2, 512 * (t.val % 8), 0] := by decide +kernel
theorem off9_eq : ∀ t : Fin cfg0.N, ∀ k : Fin 2, t.val < 48 →
    k0_off9 (grid0.coords t) (BitVec.ofNat 32 (256 * k.val)) = ![t.val / 8 % 2, 0, 512 * (t.val % 8) + 256 * k.val] := by decide +kernel
theorem off10_eq : ∀ t : Fin cfg0.N, ∀ k : Fin 2, t.val < 48 →
    k0_off10 (grid0.coords t) (BitVec.ofNat 32 (256 * k.val)) = ![t.val / 8 % 2, 0, 512 * (t.val % 8) + 256 * k.val] := by decide +kernel

end Cert.KernelIdeal.Gen
-- ==== Proof.Running.lean ====
module
public import proofs.«01_k».proof.Proof.Spec
public import proofs.«01_k».proof.Proof.Words

@[expose] public section

/-!
# The sums and maxima taken chunk by chunk are those over all tokens

A sample's 4096 tokens come in 8 chunks of 512, a chunk in 4 groups of 128 places.
-/

namespace Cert.Spec
open Idealize.ShloMosaic

/-- The running maximum of place `l` after `m` chunks. -/
noncomputable def runMax (g : ℕ → EReal) (l : ℕ) : ℕ → EReal
  | 0 => 0
  | m + 1 => max (max (max (max (runMax g l m) (ab (g (512 * m + l)))) (ab (g (512 * m + (128 + l))))) (ab (g (512 * m + (256 + l)))))
      (ab (g (512 * m + (384 + l))))

/-- The running sum of place `l` after `m` chunks. -/
noncomputable def runSum (g : ℕ → EReal) (l : ℕ) : ℕ → EReal
  | 0 => 0
  | m + 1 => (((runSum g l m + g (512 * m + l)) + g (512 * m + (128 + l))) + g (512 * m + (256 + l))) + g (512 * m + (384 + l))

theorem ab_nonneg (x : EReal) : 0 ≤ ab x := by
  unfold ab
  rcases le_total 0 x with h | h
  · exact le_max_of_le_left h
  · exact le_max_of_le_right (EReal.neg_nonneg.mpr h)

theorem runMax_le (g : ℕ → EReal) (l : ℕ) (hl : l < 128) (a : EReal) (m : ℕ) (h0 : 0 ≤ a) (h : ∀ s, s < 512 * m → ab (g s) ≤ a) : runMax g l m ≤ a := by
  induction m with
  | zero => exact h0
  | succ m ih =>
    refine max_le (max_le (max_le (max_le (ih fun s hs => h s (by omega)) ?_) ?_) ?_) ?_ <;> exact h _ (by omega)

theorem le_runMax (g : ℕ → EReal) (l : ℕ) (m : ℕ) (j k : ℕ) (hj : j < m) (hk : k < 4) : ab (g (512 * j + (128 * k + l))) ≤ runMax g l m := by
  induction m with
  | zero => omega
  | succ m ih =>
    by_cases e : j = m
    · subst e
      unfold runMax
      interval_cases k
      · rw [show 128 * 0 + l = l by omega]
        exact le_max_of_le_left (le_max_of_le_left (le_max_of_le_left (le_max_right _ _)))
      · exact le_max_of_le_left (le_max_of_le_left (le_max_right _ _))
      · exact le_max_of_le_left (le_max_right _ _)
      · exact le_max_right _ _
    · exact le_max_of_le_left (le_max_of_le_left (le_max_of_le_left (le_max_of_le_left (ih (by omega)))))

/-- The largest of the running maxima is the largest over the tokens. -/
theorem top_runMax (g : ℕ → EReal) : top (fun l : Fin 128 => runMax g l.val 8) = top (fun s : Fin 4096 => ab (g s.val)) := by
  refine le_antisymm (top_le _ _ fun l => ?_) (top_le _ _ fun s => ?_)
  · refine runMax_le g l.val l.isLt _ 8 ?_ fun s hs => le_top (fun s : Fin 4096 => ab (g s.val)) ⟨s, by omega⟩
    exact le_trans (ab_nonneg _) (le_top (fun s : Fin 4096 => ab (g s.val)) 0)
  · refine le_trans ?_ (le_top (fun l : Fin 128 => runMax g l.val 8) ⟨s.val % 128, by omega⟩)
    have h := le_runMax g (s.val % 128) 8 (s.val / 512) (s.val % 512 / 128) (by omega) (by omega)
    rwa [show 512 * (s.val / 512) + (128 * (s.val % 512 / 128) + s.val % 128) = s.val by omega] at h

/-- A sum over `128 m` places taken in groups of 128. -/
theorem sum_groups (f : ℕ → EReal) (m : ℕ) :
    ∑ s ∈ Finset.range (128 * m), f s = ∑ j ∈ Finset.range m, ∑ l : Fin 128, f (128 * j + l.val) := by
  induction m with
  | zero => simp
  | succ m ih =>
    rw [show 128 * (m + 1) = 128 * m + 128 by omega, Finset.sum_range_add, ih, Finset.sum_range_succ _ m,
      Finset.sum_range (fun x => f (128 * m + x))]

theorem runSum_eq (g : ℕ → EReal) (l : ℕ) (m : ℕ) : runSum g l m = ∑ j ∈ Finset.range (4 * m), g (128 * j + l) := by
  induction m with
  | zero => simp [runSum]
  | succ m ih =>
    rw [show 4 * (m + 1) = 4 * m + 1 + 1 + 1 + 1 by omega, Finset.sum_range_succ, Finset.sum_range_succ, Finset.sum_range_succ,
      Finset.sum_range_succ, ← ih]
    rw [show 128 * (4 * m) + l = 512 * m + l by omega, show 128 * (4 * m + 1) + l = 512 * m + (128 + l) by omega,
      show 128 * (4 * m + 1 + 1) + l = 512 * m + (256 + l) by omega, show 128 * (4 * m + 1 + 1 + 1) + l = 512 * m + (384 + l) by omega]
    rfl

/-- The running sums add up to the sum over the tokens. -/
theorem sum_runSum (g : ℕ → EReal) : ∑ l : Fin 128, runSum g l.val 8 = ∑ s : Fin 4096, g s.val := by
  simp only [runSum_eq]
  rw [Finset.sum_comm, ← sum_groups g 32, Finset.sum_range]

/-- A running sum over chunks. -/
noncomputable def runChunks (f : ℕ → EReal) : ℕ → EReal
  | 0 => 0
  | k + 1 => runChunks f k + ∑ r : Fin 512, f (512 * k + r.val)

theorem runChunks_eq (f : ℕ → EReal) (k : ℕ) : runChunks f k = ∑ s ∈ Finset.range (512 * k), f s := by
  induction k with
  | zero => simp [runChunks]
  | succ k ih =>
    rw [show 512 * (k + 1) = 512 * k + 512 by omega, Finset.sum_range_add, ← ih, Finset.sum_range (fun x => f (512 * k + x))]
    rfl

variable (A : Args)

/-- The gradient of the weights after `k` chunks. -/
noncomputable def dWAcc (p d : ℕ) (k : ℕ) : EReal := runChunks (fun n => dWterm A (n / 4096) (n % 4096) p d) k

theorem dWAcc_succ (p d k : ℕ) :
    dWAcc A p d (k + 1) = dWAcc A p d k + ∑ r : Fin 512, dWterm A (k / 8) (512 * (k % 8) + r.val) p d := by
  unfold dWAcc
  rw [runChunks]
  refine congrArg₂ (· + ·) rfl (Finset.sum_congr rfl fun r _ => ?_)
  have := r.isLt
  rw [show (512 * k + r.val) / 4096 = k / 8 by omega, show (512 * k + r.val) % 4096 = 512 * (k % 8) + r.val by omega]

theorem sum_samples (f : ℕ → EReal) (m : ℕ) :
    ∑ s ∈ Finset.range (4096 * m), f s = ∑ b ∈ Finset.range m, ∑ s : Fin 4096, f (4096 * b + s.val) := by
  induction m with
  | zero => simp
  | succ m ih =>
    rw [show 4096 * (m + 1) = 4096 * m + 4096 by omega, Finset.sum_range_add, ih, Finset.sum_range_succ _ m,
      Finset.sum_range (fun x => f (4096 * m + x))]

/-- After the 48 chunks it is the gradient of the weights. -/
theorem dWAcc_all (p d : ℕ) : dWAcc A p d 48 = dW A p d := by
  unfold dWAcc dW
  rw [runChunks_eq, show 512 * 48 = 4096 * 6 by norm_num, sum_samples, Finset.sum_range]
  refine Finset.sum_congr rfl fun b _ => Finset.sum_congr rfl fun s _ => ?_
  have := s.isLt
  rw [show (4096 * b.val + s.val) / 4096 = b.val by omega, show (4096 * b.val + s.val) % 4096 = s.val by omega]

/-- The scale of a sample and channel, from the running maxima. -/
theorem gradY_runMax (b p : ℕ) :
    top (fun l : Fin 128 => runMax (grad A b p) l.val 8) * Ideal.ofBits .f32 932333861#32 = gradY A b p := by
  rw [top_runMax]
  rfl

/-- The sum of squares, from the running sums. -/
theorem sse_runSum (b : ℕ) : ∑ p : Fin 64, ∑ l : Fin 128, runSum (fun s => diff A b p.val s * diff A b p.val s) l.val 8 = sse A b := by
  unfold sse
  exact Finset.sum_congr rfl fun p _ => sum_runSum fun s => diff A b p.val s * diff A b p.val s

end Cert.Spec
-- ==== Proof.StepValue.lean ====
module
public import proofs.«01_k».proof.Proof.ValueFwd2
public import proofs.«01_k».proof.Proof.ValueBack
public import proofs.«01_k».proof.Proof.ValueSmall
public import proofs.«01_k».proof.Proof.Offsets
public import proofs.«01_k».proof.Proof.Running
public import proofs.«01_k».proof.Proof.TrackI

@[expose] public section

/-!
# One grid point, against the mathematics

Point `t` handles chunk `t` forward (`t < 48`: sample `t / 8`, tokens `512 (t % 8) …`) and chunk `t - 8`
backward (`8 ≤ t`). `Inv A n` is what the scratch buffers hold before point `n`; `Prev A t` is what the
output blocks hold before point `t`.
-/

set_option maxRecDepth 16384

namespace Cert.KernelIdeal.Gen
open Idealize.ShloMosaic Cert.KernelIdeal

variable (A : Spec.Args)

/-- The input blocks of point `t`. -/
structure InsOk (t : ℕ) (I : Ins Ideal) : Prop where
  x2 : ∀ b : Fin 6, (I.x2 (ix1 b) : EReal) = A.lw b.val
  x3 : t < 48 → ∀ (r : Fin 512) (d : Fin 1536), (I.x3 (ix3 0 r d) : EReal) = A.x (t / 8) (512 * (t % 8) + r.val) d.val
  x4 : ∀ (p : Fin 64) (d : Fin 1536), (I.x4 (ix2 p d) : EReal) = A.w p.val d.val
  x5 : ∀ p : Fin 64, (I.x5 (ix2 0 p) : EReal) = A.ws p.val
  x6 : ∀ p : Fin 64, (I.x6 (ix2 0 p) : EReal) = A.bias p.val
  x7 : t < 48 → ∀ (p : Fin 64) (r : Fin 512), (I.x7 (ix3 0 p r) : EReal) = A.x0 (t / 8) p.val (512 * (t % 8) + r.val)
  x8 : t < 48 → ∀ (p : Fin 64) (r : Fin 512), (I.x8 (ix3 0 p r) : EReal) = A.nz (t / 8) p.val (512 * (t % 8) + r.val)

/-- The kept buffers: of the chunks before point `n`, those not yet overwritten. -/
structure Kept (n : ℕ) (Z : Scr Ideal) : Prop where
  hs : ∀ (b : ℕ) (s : Fin 4096) (a : Fin 2), b < 6 → 8 * b + s.val / 512 < n → n ≤ 8 * b + s.val / 512 + 16 → a.val = b % 2 →
    (Z.x17 (ix3 a 0 s) : EReal) = Spec.hs A b s.val
  code : ∀ (b : ℕ) (s : Fin 4096) (a : Fin 2) (d : Fin 1536), b < 6 → 8 * b + s.val / 512 < n → n ≤ 8 * b + s.val / 512 + 16 → a.val = b % 2 →
    (Z.x18 (ix3 a s d) : EReal) = Spec.code A b s.val d.val
  grad : ∀ (b : ℕ) (s : Fin 4096) (a : Fin 2) (p : Fin 64), b < 6 → 8 * b + s.val / 512 < n → n ≤ 8 * b + s.val / 512 + 16 → a.val = b % 2 →
    (Z.x19 (ix3 a p s) : EReal) = Spec.grad A b p.val s.val

/-- The running maxima and sums of sample `b` after `m` of its chunks. -/
structure Runs8 (b m : ℕ) (Z : Scr Ideal) : Prop where
  mx : ∀ (p : Fin 64) (l : Fin 128), (Z.x20 (ix2 p l) : EReal) = Spec.runMax (Spec.grad A b p.val) l.val m
  sq : ∀ (p : Fin 64) (l : Fin 128),
    (Z.x21 (ix2 p l) : EReal) = Spec.runSum (fun s => Spec.diff A b p.val s * Spec.diff A b p.val s) l.val m

/-- The weights' scales, the bias and the weights, laid out once. -/
structure Consts (Z : Scr Ideal) : Prop where
  ws : ∀ p : Fin 64, (Z.x22 (ix2 p 0) : EReal) = A.ws p.val
  bias : ∀ p : Fin 64, (Z.x23 (ix2 p 0) : EReal) = A.bias p.val
  wdq : ∀ (p : Fin 64) (d : Fin 1536), (Z.x24 (ix2 p d) : EReal) = Spec.wdq A p.val d.val

/-- The scales of sample `b`'s gradient and their reciprocals. -/
structure Scales (b : ℕ) (Z : Scr Ideal) : Prop where
  sc : ∀ p : Fin 64, (Z.x25 (ix2 p 0) : EReal) = Spec.gs A b p.val
  inv : ∀ p : Fin 64, (Z.x26 (ix2 p 0) : EReal) = Spec.invOf (Spec.gradY A b p.val)

/-- The scratch buffers before point `n`. -/
structure Inv (n : ℕ) (Z : Scr Ideal) : Prop where
  kept : Kept A n Z
  runs : 1 ≤ n → n ≤ 48 → Runs8 A ((n - 1) / 8) ((n - 1) % 8 + 1) Z
  consts : 1 ≤ n → Consts A Z
  scales : 9 ≤ n → Scales A ((n - 1) / 8 - 1) Z

/-- The loss of the samples before sample `n`. -/
def LossOk (n : ℕ) (X : Vec Ideal S6 .f32) : Prop := ∀ b : Fin 6, b.val < n → (X (ix1 b) : EReal) = Spec.loss A b.val
/-- The scales of the gradients of the samples before sample `n`. -/
def GsOk (n : ℕ) (X : Vec Ideal S6x64 .f32) : Prop := ∀ (b : Fin 6) (p : Fin 64), b.val < n → (X (ix2 b p) : EReal) = Spec.gs A b.val p.val
/-- The row scales of the chunks before chunk `n`. -/
def HsOk (n : ℕ) (X : Vec Ideal S6x4096 .f32) : Prop :=
  ∀ (b : Fin 6) (s : Fin 4096), 8 * b.val + s.val / 512 < n → (X (ix2 b s) : EReal) = Spec.hs A b.val s.val
/-- The gradient of the weights over the chunks before chunk `n`. -/
def DWOk (n : ℕ) (X : Vec Ideal S64x1536 .f32) : Prop :=
  ∀ (p : Fin 64) (d : Fin 1536), (X (ix2 p d) : EReal) = Spec.dWAcc A p.val d.val n
/-- The predictions of chunk `q`. -/
def PredOk (q : ℕ) (X : Vec Ideal S1x64x512 .f32) : Prop :=
  ∀ (p : Fin 64) (r : Fin 512), (X (ix3 0 p r) : EReal) = Spec.pred A (q / 8) p.val (512 * (q % 8) + r.val)
/-- The codes of chunk `q`. -/
def CodeOk (q : ℕ) (X : Vec Ideal S1x512x1536 .fp8e4m3) : Prop :=
  ∀ (r : Fin 512) (d : Fin 1536), (X (ix3 0 r d) : EReal) = Spec.code A (q / 8) (512 * (q % 8) + r.val) d.val
/-- The gradient of the hidden rows of chunk `q`. -/
def DHOk (q : ℕ) (X : Vec Ideal S1x512x1536 .bf16) : Prop :=
  ∀ (r : Fin 512) (d : Fin 1536), (X (ix3 0 r d) : EReal) = Spec.dH A (q / 8) (512 * (q % 8) + r.val) d.val
/-- The codes of the gradient of chunk `q`. -/
def GcodeOk (q : ℕ) (X : Vec Ideal S1x64x512 .fp8e5m2) : Prop :=
  ∀ (p : Fin 64) (r : Fin 512), (X (ix3 0 p r) : EReal) = Spec.gcode A (q / 8) p.val (512 * (q % 8) + r.val)

/-- The output blocks before point `t`. -/
structure Prev (t : ℕ) (S : St Ideal) : Prop where
  loss : LossOk A ((t - 1) / 8) S.x9
  pred : 48 ≤ t → PredOk A 47 S.x10
  dw : 1 ≤ t → DWOk A (t - 8) S.x12
  code : 48 ≤ t → CodeOk A 47 S.x13
  hs : HsOk A t S.x14
  gs : GsOk A ((t - 1) / 8) S.x16

variable (c : Dev nD) (t : Fin cfg0.N) (M : Mems) (I : Ins Ideal) (S : St Ideal)

/-! ### The first point -/

/-- The contents after the first point's own work. -/
noncomputable def st1 : St Ideal := if _h : k0_cond1 (grid0.coords t) = 1#1 then stInit c (grid0.coords t) M I S else S

theorem st1_same : (st1 c t M I S).x9 = S.x9 ∧ (st1 c t M I S).x10 = S.x10 ∧ (st1 c t M I S).x13 = S.x13
    ∧ (st1 c t M I S).x17 = S.x17 ∧ (st1 c t M I S).x18 = S.x18 ∧ (st1 c t M I S).x19 = S.x19 ∧ (st1 c t M I S).x20 = S.x20
    ∧ (st1 c t M I S).x21 = S.x21 ∧ (st1 c t M I S).x25 = S.x25 ∧ (st1 c t M I S).x26 = S.x26 := by
  unfold st1
  split <;> exact ⟨rfl, rfl, rfl, rfl, rfl, rfl, rfl, rfl, rfl, rfl⟩

variable {A} {t} {I} {S}

theorem st1_consts (hI : InsOk A t.val I) (h : Inv A t.val S.scr) : Consts A (st1 c t M I S).scr := by
  unfold st1
  split
  · refine ⟨fun p => ?_, fun p => ?_, fun p d => ?_⟩
    · exact (stInit_x22 c _ M I S (ix2 p 0)).trans (hI.x5 p)
    · exact (stInit_x23 c _ M I S (ix2 p 0)).trans (hI.x6 p)
    · refine (stInit_x24 c _ M I S (ix2 p d)).trans ?_
      rw [hI.x4 p d]
      exact congrArg (fun z : EReal => A.w p.val d.val * z) (hI.x5 p)
  · rename_i q
    rw [cond1_iff] at q
    exact h.consts (by omega)

theorem st1_dw (h : Prev A t.val S) : DWOk A (t.val - 8) (st1 c t M I S).x12 := by
  unfold st1
  split
  · rename_i q
    rw [cond1_iff] at q
    intro p d
    rw [stInit_x12, q]
    rfl
  · rename_i q
    rw [cond1_iff] at q
    exact h.dw (by omega)

theorem st1_hs (h : Prev A t.val S) : HsOk A t.val (st1 c t M I S).x14 := by
  unfold st1
  split
  · rename_i q
    rw [cond1_iff] at q
    intro b s hb
    omega
  · exact h.hs

theorem st1_gs (h : Prev A t.val S) : GsOk A ((t.val - 1) / 8) (st1 c t M I S).x16 := by
  unfold st1
  split
  · rename_i q
    rw [cond1_iff] at q
    intro b s hb
    omega
  · exact h.gs

/-! ### Between two samples -/

variable (t I)

/-- The contents after closing a sample and clearing the running values. -/
noncomputable def st2 (S : St Ideal) : St Ideal :=
  if h2 : k0_cond2 (grid0.coords t) = 1#1 then
      stZero c (grid0.coords t) M I (if h3 : k0_cond3 (grid0.coords t) = 1#1 then stFinish c (grid0.coords t) M h2 h3 I S else S)
    else S

theorem st2_same : (st2 c t M I S).x10 = S.x10 ∧ (st2 c t M I S).x12 = S.x12 ∧ (st2 c t M I S).x13 = S.x13 ∧ (st2 c t M I S).x14 = S.x14
    ∧ (st2 c t M I S).x17 = S.x17 ∧ (st2 c t M I S).x18 = S.x18 ∧ (st2 c t M I S).x19 = S.x19 ∧ (st2 c t M I S).x22 = S.x22
    ∧ (st2 c t M I S).x23 = S.x23 ∧ (st2 c t M I S).x24 = S.x24 := by
  unfold st2
  split
  · split <;> exact ⟨rfl, rfl, rfl, rfl, rfl, rfl, rfl, rfl, rfl, rfl⟩
  · exact ⟨rfl, rfl, rfl, rfl, rfl, rfl, rfl, rfl, rfl, rfl⟩

variable {t I}

/-- The running values before point `t` as they are found. -/
def RunsBefore (A : Spec.Args) (t : ℕ) (Z : Scr Ideal) : Prop := 1 ≤ t → t ≤ 48 → Runs8 A ((t - 1) / 8) ((t - 1) % 8 + 1) Z

theorem st2_runs (ht : t.val < 48) (h : RunsBefore A t.val S.scr) : Runs8 A (t.val / 8) (t.val % 8) (st2 c t M I S).scr := by
  unfold st2
  split
  · rename_i q
    rw [cond2_iff] at q
    rw [q]
    exact ⟨fun p l => stZero_x20 c _ M I _ (ix2 p l), fun p l => stZero_x21 c _ M I _ (ix2 p l)⟩
  · rename_i q
    rw [cond2_iff] at q
    have k := h (by omega) (by omega)
    rwa [show (t.val - 1) / 8 = t.val / 8 by omega, show (t.val - 1) % 8 + 1 = t.val % 8 by omega] at k

theorem chanY_runs {b : ℕ} (h : Runs8 A b 8 S.scr) (p : Fin 64) : chanY S.x20 p = Spec.gradY A b p.val := by
  rw [← Spec.gradY_runMax]
  exact congrArg (fun f => Spec.top f * Ideal.ofBits .f32 932333861#32) (funext fun l => h.mx p l)

theorem sse_runs {b : ℕ} (h : Runs8 A b 8 S.scr) : (∑ p : Fin 64, ∑ l : Fin 128, (S.x21 (ix2 p l) : EReal)) = Spec.sse A b := by
  rw [← Spec.sse_runSum]
  exact Finset.sum_congr rfl fun p _ => Finset.sum_congr rfl fun l _ => h.sq p l

/-- At the end of a sample the running values are those of all its chunks. -/
theorem runs_end (q : t.val % 8 = 0) (q8 : 8 ≤ t.val) (h : RunsBefore A t.val S.scr) : Runs8 A (t.val / 8 - 1) 8 S.scr := by
  have hN := N_eq
  have ht := t.isLt
  have k := h (by omega) (by omega)
  rwa [show (t.val - 1) / 8 = t.val / 8 - 1 by omega, show (t.val - 1) % 8 + 1 = 8 by omega] at k

theorem st2_scales (q8 : 8 ≤ t.val) (h : RunsBefore A t.val S.scr) (hs : 9 ≤ t.val → Scales A ((t.val - 1) / 8 - 1) S.scr) :
    Scales A (t.val / 8 - 1) (st2 c t M I S).scr := by
  unfold st2
  split
  · rename_i h2
    have q := (cond2_iff t).mp h2
    rw [dif_pos ((cond3_iff t).mpr q8)]
    have k := runs_end q q8 h
    refine ⟨fun p => ?_, fun p => ?_⟩
    · refine (stFinish_x25 c _ M I S h2 ((cond3_iff t).mpr q8) (ix2 p 0)).trans ?_
      exact congrArg Spec.scaleOf (chanY_runs k p)
    · refine (stFinish_x26 c _ M I S h2 ((cond3_iff t).mpr q8) (ix2 p 0)).trans ?_
      exact congrArg Spec.invOf (chanY_runs k p)
  · rename_i q
    rw [cond2_iff] at q
    have k := hs (by omega)
    rwa [show (t.val - 1) / 8 - 1 = t.val / 8 - 1 by omega] at k

theorem st2_gs (h : RunsBefore A t.val S.scr) (hg : GsOk A ((t.val - 1) / 8) S.x16) : GsOk A (t.val / 8) (st2 c t M I S).x16 := by
  have hN := N_eq
  have ht := t.isLt
  unfold st2
  split
  · rename_i h2
    have q := (cond2_iff t).mp h2
    split
    · rename_i h3
      have q8 := (cond3_iff t).mp h3
      have k := runs_end q q8 h
      have c0 := coords_zero t
      intro b p hb
      refine (stFinish_x16 c _ M I S h2 h3 (by omega) (ix2 b p)).trans ?_
      by_cases e : b.val = t.val / 8 - 1
      · refine Eq.trans (if_pos (show b.val = ((grid0.coords t) 0).val - 1 by omega)) ?_
        rw [e]
        exact congrArg Spec.scaleOf (chanY_runs k p)
      · refine Eq.trans (if_neg (show ¬ b.val = ((grid0.coords t) 0).val - 1 by omega)) ?_
        exact hg b p (by omega)
    · rename_i h3
      rw [cond3_iff] at h3
      intro b p hb
      omega
  · rename_i q
    rw [cond2_iff] at q
    rwa [show (t.val - 1) / 8 = t.val / 8 by omega] at hg

theorem st2_loss (hI : InsOk A t.val I) (h : RunsBefore A t.val S.scr) (hg : LossOk A ((t.val - 1) / 8) S.x9) :
    LossOk A (t.val / 8) (st2 c t M I S).x9 := by
  have hN := N_eq
  have ht := t.isLt
  unfold st2
  split
  · rename_i h2
    have q := (cond2_iff t).mp h2
    split
    · rename_i h3
      have q8 := (cond3_iff t).mp h3
      have k := runs_end q q8 h
      intro b hb
      refine (stFinish_x9 c _ M I S h2 h3 _ (off1_eq t q8) (by omega) (ix1 b)).trans ?_
      by_cases e : b.val = t.val / 8 - 1
      · refine Eq.trans (if_pos e) ?_
        rw [sse_runs k, hI.x2, e]
        rfl
      · refine Eq.trans (if_neg e) ?_
        exact hg b (by omega)
    · rename_i h3
      rw [cond3_iff] at h3
      intro b hb
      omega
  · rename_i q
    rw [cond2_iff] at q
    rwa [show (t.val - 1) / 8 = t.val / 8 by omega] at hg

/-! ### The backward pass -/

variable (t I)

/-- The contents after the backward pass. -/
noncomputable def st3 (S : St Ideal) : St Ideal :=
  if h : k0_cond4 (grid0.coords t) = 1#1 then stBack c (grid0.coords t) M h I S else S

theorem st3_same : (st3 c t M I S).x9 = S.x9 ∧ (st3 c t M I S).x10 = S.x10 ∧ (st3 c t M I S).x13 = S.x13 ∧ (st3 c t M I S).x14 = S.x14
    ∧ (st3 c t M I S).x16 = S.x16 ∧ (st3 c t M I S).scr = S.scr := by
  unfold st3
  split <;> exact ⟨rfl, rfl, rfl, rfl, rfl, rfl⟩

variable {t I}

/-- The half the backward pass reads. -/
def backHalf (t : ℕ) : Fin 2 := ⟨(t / 8 - 1) % 2, by omega⟩

theorem bcode_eq (q8 : 8 ≤ t.val) (hk : Kept A t.val S.scr) (hs : Scales A (t.val / 8 - 1) S.scr) (p : Fin 64) (r : Fin 512) :
    bcode S (backHalf t.val) p ⟨512 * (t.val % 8) + r.val, by omega⟩ = Spec.gcode A ((t.val - 8) / 8) p.val (512 * ((t.val - 8) % 8) + r.val) := by
  have hN := N_eq
  have ht := t.isLt
  have hr := r.isLt
  have e1 : (t.val - 8) / 8 = t.val / 8 - 1 := by omega
  have e2 : (t.val - 8) % 8 = t.val % 8 := by omega
  rw [e1, e2]
  unfold bcode Spec.gcode
  have k1 := hk.grad (t.val / 8 - 1) ⟨512 * (t.val % 8) + r.val, by omega⟩ (backHalf t.val) p (by omega)
    (by show 8 * (t.val / 8 - 1) + (512 * (t.val % 8) + r.val) / 512 < _; omega)
    (by show _ ≤ 8 * (t.val / 8 - 1) + (512 * (t.val % 8) + r.val) / 512 + 16; omega) rfl
  have k2 := hs.inv p
  exact congrArg₂ (fun y z : EReal => min (Ideal.ofBits .f32 1197473792#32) (max (Ideal.ofBits .f32 3344957440#32) (y * z))) k1 k2

theorem bgdq_eq (q8 : 8 ≤ t.val) (hk : Kept A t.val S.scr) (hs : Scales A (t.val / 8 - 1) S.scr) (p : Fin 64) (r : Fin 512) :
    bgdq S (backHalf t.val) p ⟨512 * (t.val % 8) + r.val, by omega⟩ = Spec.gdq A ((t.val - 8) / 8) p.val (512 * ((t.val - 8) % 8) + r.val) := by
  unfold bgdq Spec.gdq
  rw [bcode_eq q8 hk hs p r]
  have e1 : (t.val - 8) / 8 = t.val / 8 - 1 := by omega
  rw [e1]
  exact congrArg (fun z : EReal => _ * z) (hs.sc p)

theorem st3_gcode (q8 : 8 ≤ t.val) (hk : Kept A t.val S.scr) (hs : Scales A (t.val / 8 - 1) S.scr) :
    GcodeOk A (t.val - 8) (st3 c t M I S).x15 := by
  unfold st3
  rw [dif_pos ((cond4_iff t).mpr q8)]
  intro p r
  refine (stBack_x15 c _ M I S ((cond4_iff t).mpr q8) (backHalf t.val) (512 * (t.val % 8)) (by omega) (off2_eq t q8) p r).trans ?_
  exact bcode_eq q8 hk hs p r

theorem st3_dH (q8 : 8 ≤ t.val) (hk : Kept A t.val S.scr) (hc : Consts A S.scr) (hs : Scales A (t.val / 8 - 1) S.scr) :
    DHOk A (t.val - 8) (st3 c t M I S).x11 := by
  unfold st3
  rw [dif_pos ((cond4_iff t).mpr q8)]
  intro r d
  refine (stBack_x11 c _ M I S ((cond4_iff t).mpr q8) (backHalf t.val) (512 * (t.val % 8)) (by omega) (off2_eq t q8) r d).trans ?_
  exact Finset.sum_congr rfl fun p _ => congrArg₂ (fun y z : EReal => y * z) (bgdq_eq q8 hk hs p r) (hc.wdq p d)

theorem st3_dw (hk : Kept A t.val S.scr) (hs : 8 ≤ t.val → Scales A (t.val / 8 - 1) S.scr) (hd : DWOk A (t.val - 8) S.x12) :
    DWOk A (t.val + 1 - 8) (st3 c t M I S).x12 := by
  have hN := N_eq
  have ht := t.isLt
  unfold st3
  split
  · rename_i h4
    have q8 := (cond4_iff t).mp h4
    intro p d
    refine (stBack_x12 c _ M I S h4 (backHalf t.val) (512 * (t.val % 8)) (by omega) (off2_eq t q8) (off3_eq t q8) (off4_eq t q8) p d).trans ?_
    rw [show t.val + 1 - 8 = t.val - 8 + 1 by omega, Spec.dWAcc_succ, ← hd p d]
    refine congrArg (fun z : EReal => (S.x12 (ix2 p d) : EReal) + z) (Finset.sum_congr rfl fun r _ => ?_)
    have hr := r.isLt
    have e1 : (t.val - 8) / 8 = t.val / 8 - 1 := by omega
    have e2 : (t.val - 8) % 8 = t.val % 8 := by omega
    have a1 := hk.hs (t.val / 8 - 1) ⟨512 * (t.val % 8) + r.val, by omega⟩ (backHalf t.val) (by omega)
      (by show 8 * (t.val / 8 - 1) + (512 * (t.val % 8) + r.val) / 512 < _; omega)
      (by show _ ≤ 8 * (t.val / 8 - 1) + (512 * (t.val % 8) + r.val) / 512 + 16; omega) rfl
    have a2 := hk.code (t.val / 8 - 1) ⟨512 * (t.val % 8) + r.val, by omega⟩ (backHalf t.val) d (by omega)
      (by show 8 * (t.val / 8 - 1) + (512 * (t.val % 8) + r.val) / 512 < _; omega)
      (by show _ ≤ 8 * (t.val / 8 - 1) + (512 * (t.val % 8) + r.val) / 512 + 16; omega) rfl
    unfold Spec.dWterm
    rw [← bgdq_eq q8 hk (hs q8) p r, e1, e2]
    exact congrArg₂ (fun y z : EReal => bgdq S (backHalf t.val) p ⟨512 * (t.val % 8) + r.val, by omega⟩ * y * z) a1 a2
  · rename_i h4
    rw [cond4_iff] at h4
    rwa [show t.val - 8 = t.val + 1 - 8 by omega] at hd

/-! ### The forward pass -/

variable (t I)

/-- The contents after the forward pass. -/
noncomputable def st4 (S : St Ideal) : St Ideal :=
  if h : k0_cond5 (grid0.coords t) = 1#1 then stFwd c (grid0.coords t) M h I S else S

theorem st4_same : (st4 c t M I S).x9 = S.x9 ∧ (st4 c t M I S).x11 = S.x11 ∧ (st4 c t M I S).x12 = S.x12 ∧ (st4 c t M I S).x15 = S.x15
    ∧ (st4 c t M I S).x16 = S.x16 ∧ (st4 c t M I S).x22 = S.x22 ∧ (st4 c t M I S).x23 = S.x23 ∧ (st4 c t M I S).x24 = S.x24
    ∧ (st4 c t M I S).x25 = S.x25 ∧ (st4 c t M I S).x26 = S.x26 := by
  unfold st4
  split <;> exact ⟨rfl, rfl, rfl, rfl, rfl, rfl, rfl, rfl, rfl, rfl⟩

theorem stBody_eq (S : St Ideal) : stBody c (grid0.coords t) M I S = st4 c t M I (st3 c t M I (st2 c t M I (st1 c t M I S))) := rfl

/-- Where the forward pass of point `t` loads and stores. -/
theorem fwdAt (ht : t.val < 48) : FwdAt (grid0.coords t) ⟨t.val / 8 % 2, by omega⟩ ⟨t.val / 8, by omega⟩ (512 * (t.val % 8)) where
  ho := by omega
  hi := coords_zero t
  o5 := off5_eq t ht
  o6 k := off6_eq t k ht
  o7 k := off7_eq t k ht
  o8 := off8_eq t ht
  o9 k := off9_eq t k ht
  o10 k := off10_eq t k ht

variable {t I}

section Chunk
variable (ht : t.val < 48) (hI : InsOk A t.val I) (hc : Consts A S.scr)
include ht hI

theorem chunkY_eq (r : Fin 512) : chunkY I.x3 r = Spec.rowY A (t.val / 8) (512 * (t.val % 8) + r.val) :=
  congrArg (fun f => Spec.top f * Ideal.ofBits .f32 991054117#32) (funext fun d => congrArg Spec.ab (hI.x3 ht r d))

theorem chunkScale_eq (r : Fin 512) : chunkScale I.x3 r = Spec.hs A (t.val / 8) (512 * (t.val % 8) + r.val) :=
  congrArg Spec.scaleOf (chunkY_eq ht hI r)

theorem chunkCode_eq (r : Fin 512) (d : Fin 1536) : chunkCode I.x3 r d = Spec.code A (t.val / 8) (512 * (t.val % 8) + r.val) d.val := by
  unfold chunkCode Spec.code
  rw [chunkY_eq ht hI r, hI.x3 ht r d]

include hc

theorem fwPred_eq (p : Fin 64) (r : Fin 512) : fwPred I S p r = Spec.pred A (t.val / 8) p.val (512 * (t.val % 8) + r.val) := by
  have e : (∑ d : Fin 1536, (I.x4 (ix2 p d) : EReal) * chunkCode I.x3 r d) = Spec.acc A (t.val / 8) p.val (512 * (t.val % 8) + r.val) :=
    Finset.sum_congr rfl fun d _ => congrArg₂ (fun y z : EReal => y * z) (hI.x4 p d) (chunkCode_eq ht hI r d)
  unfold fwPred Spec.pred
  rw [e, chunkScale_eq ht hI r]
  exact congrArg₂ (fun y z : EReal => Spec.acc A (t.val / 8) p.val (512 * (t.val % 8) + r.val) * Spec.hs A (t.val / 8) (512 * (t.val % 8) + r.val) * y + z)
    (hc.ws p) (hc.bias p)

theorem fwDiff_eq (p : Fin 64) (r : Fin 512) : fwDiff I S p r = Spec.diff A (t.val / 8) p.val (512 * (t.val % 8) + r.val) := by
  unfold fwDiff Spec.diff
  rw [fwPred_eq ht hI hc p r, hI.x7 ht p r, hI.x8 ht p r]

theorem fwGrad_eq (p : Fin 64) (r : Fin 512) :
    fwGrad ⟨t.val / 8, by omega⟩ I S p r = Spec.grad A (t.val / 8) p.val (512 * (t.val % 8) + r.val) := by
  unfold fwGrad Spec.grad
  rw [fwDiff_eq ht hI hc p r, hI.x2]

end Chunk

theorem st4_pred (hI : InsOk A t.val I) (hc : Consts A S.scr) (hp : 48 ≤ t.val → PredOk A 47 S.x10) :
    PredOk A (min t.val 47) (st4 c t M I S).x10 := by
  unfold st4
  split
  · rename_i h5
    have ht := (cond5_iff t).mp h5
    intro p r
    rw [show min t.val 47 = t.val by omega]
    exact (stFwd_x10 c _ M I S h5 (fwdAt t ht) p r).trans (fwPred_eq ht hI hc p r)
  · rename_i h5
    rw [cond5_iff] at h5
    rw [show min t.val 47 = 47 by omega]
    exact hp (by omega)

theorem st4_code (hI : InsOk A t.val I) (hp : 48 ≤ t.val → CodeOk A 47 S.x13) : CodeOk A (min t.val 47) (st4 c t M I S).x13 := by
  unfold st4
  split
  · rename_i h5
    have ht := (cond5_iff t).mp h5
    intro r d
    rw [show min t.val 47 = t.val by omega]
    exact (stFwd_x13 c _ M I S h5 r d).trans (chunkCode_eq ht hI r d)
  · rename_i h5
    rw [cond5_iff] at h5
    rw [show min t.val 47 = 47 by omega]
    exact hp (by omega)

theorem st4_hs (hI : InsOk A t.val I) (hh : HsOk A t.val S.x14) : HsOk A (t.val + 1) (st4 c t M I S).x14 := by
  unfold st4
  split
  · rename_i h5
    have ht := (cond5_iff t).mp h5
    intro b s hb
    refine (stFwd_x14 c _ M I S h5 (fwdAt t ht) b s).trans ?_
    by_cases q : b = ⟨t.val / 8, by omega⟩ ∧ 512 * (t.val % 8) ≤ s.val ∧ s.val < 512 * (t.val % 8) + 512
    · rw [dif_pos q, chunkScale_eq ht hI]
      exact congrArg₂ (Spec.hs A) (congrArg Fin.val q.1).symm (show 512 * (t.val % 8) + (s.val - 512 * (t.val % 8)) = s.val by omega)
    · rw [dif_neg q]
      refine hh b s ?_
      rw [Fin.ext_iff] at q
      dsimp only at q
      omega
  · rename_i h5
    rw [cond5_iff] at h5
    intro b s hb
    exact hh b s (by omega)

theorem st4_runs (ht : t.val < 48) (hI : InsOk A t.val I) (hc : Consts A S.scr) (h : Runs8 A (t.val / 8) (t.val % 8) S.scr) :
    Runs8 A (t.val / 8) (t.val % 8 + 1) (st4 c t M I S).scr := by
  have h5 := (cond5_iff t).mpr ht
  unfold st4
  rw [dif_pos h5]
  refine ⟨fun p l => ?_, fun p l => ?_⟩
  · refine (stFwd_x20 c _ M I S h5 (fwdAt t ht) p l).trans ?_
    rw [fwGrad_eq ht hI hc, fwGrad_eq ht hI hc, fwGrad_eq ht hI hc, fwGrad_eq ht hI hc]
    exact congrArg (fun z : EReal => max (max (max (max z _) _) _) _) (h.mx p l)
  · refine (stFwd_x21 c _ M I S h5 (fwdAt t ht) p l).trans ?_
    rw [fwDiff_eq ht hI hc, fwDiff_eq ht hI hc, fwDiff_eq ht hI hc, fwDiff_eq ht hI hc]
    exact congrArg (fun z : EReal => (((z + _) + _) + _) + _) (h.sq p l)

theorem st4_kept (hI : InsOk A t.val I) (hc : Consts A S.scr) (h : Kept A t.val S.scr) : Kept A (t.val + 1) (st4 c t M I S).scr := by
  unfold st4
  split
  · rename_i h5
    have ht := (cond5_iff t).mp h5
    have out : ∀ (b : ℕ) (s : Fin 4096) (a : Fin 2), 8 * b + s.val / 512 < t.val + 1 → t.val + 1 ≤ 8 * b + s.val / 512 + 16 → a.val = b % 2 →
        ¬ (a = (⟨t.val / 8 % 2, by omega⟩ : Fin 2) ∧ 512 * (t.val % 8) ≤ s.val ∧ s.val < 512 * (t.val % 8) + 512) → 8 * b + s.val / 512 < t.val := by
      intro b s a h1 h2 h3 h4
      rw [Fin.ext_iff] at h4
      dsimp only at h4
      omega
    have inn : ∀ (b : ℕ) (s : Fin 4096) (a : Fin 2), 8 * b + s.val / 512 < t.val + 1 → t.val + 1 ≤ 8 * b + s.val / 512 + 16 → a.val = b % 2 →
        (a = (⟨t.val / 8 % 2, by omega⟩ : Fin 2) ∧ 512 * (t.val % 8) ≤ s.val ∧ s.val < 512 * (t.val % 8) + 512) →
        b = t.val / 8 ∧ 512 * (t.val % 8) + (s.val - 512 * (t.val % 8)) = s.val := by
      intro b s a h1 h2 h3 h4
      rw [Fin.ext_iff] at h4
      dsimp only at h4
      omega
    refine ⟨fun b s a h0 h1 h2 h3 => ?_, fun b s a d h0 h1 h2 h3 => ?_, fun b s a p h0 h1 h2 h3 => ?_⟩
    · refine (stFwd_x17 c _ M I S h5 (fwdAt t ht) a s).trans ?_
      split
      · rename_i q
        obtain ⟨e1, e2⟩ := inn b s a h1 h2 h3 q
        rw [chunkScale_eq ht hI, e1]
        exact congrArg (Spec.hs A (t.val / 8)) e2
      · rename_i q
        exact h.hs b s a h0 (out b s a h1 h2 h3 q) (by omega) h3
    · refine (stFwd_x18 c _ M I S h5 (fwdAt t ht) a s d).trans ?_
      split
      · rename_i q
        obtain ⟨e1, e2⟩ := inn b s a h1 h2 h3 q
        rw [chunkCode_eq ht hI, e1]
        exact congrArg (fun z => Spec.code A (t.val / 8) z d.val) e2
      · rename_i q
        exact h.code b s a d h0 (out b s a h1 h2 h3 q) (by omega) h3
    · refine (stFwd_x19 c _ M I S h5 (fwdAt t ht) a p s).trans ?_
      split
      · rename_i q
        obtain ⟨e1, e2⟩ := inn b s a h1 h2 h3 q
        rw [fwGrad_eq ht hI hc, e1]
        exact congrArg (fun z => Spec.grad A (t.val / 8) p.val z) e2
      · rename_i q
        exact h.grad b s a p h0 (out b s a h1 h2 h3 q) (by omega) h3
  · rename_i h5
    rw [cond5_iff] at h5
    refine ⟨fun b s a h0 h1 h2 h3 => h.hs b s a h0 (by omega) (by omega) h3, fun b s a d h0 h1 h2 h3 => h.code b s a d h0 (by omega) (by omega) h3,
      fun b s a p h0 h1 h2 h3 => h.grad b s a p h0 (by omega) (by omega) h3⟩

/-! ### The whole point -/

theorem Kept.congr {n : ℕ} {Z Z' : Scr Ideal} (h : Kept A n Z) (h17 : Z'.x17 = Z.x17) (h18 : Z'.x18 = Z.x18) (h19 : Z'.x19 = Z.x19) : Kept A n Z' := by
  refine ⟨?_, ?_, ?_⟩
  · rw [h17]; exact h.hs
  · rw [h18]; exact h.code
  · rw [h19]; exact h.grad

theorem Consts.congr {Z Z' : Scr Ideal} (h : Consts A Z) (h22 : Z'.x22 = Z.x22) (h23 : Z'.x23 = Z.x23) (h24 : Z'.x24 = Z.x24) : Consts A Z' := by
  refine ⟨?_, ?_, ?_⟩
  · rw [h22]; exact h.ws
  · rw [h23]; exact h.bias
  · rw [h24]; exact h.wdq

theorem Runs8.congr {b n : ℕ} {Z Z' : Scr Ideal} (h : Runs8 A b n Z) (h20 : Z'.x20 = Z.x20) (h21 : Z'.x21 = Z.x21) : Runs8 A b n Z' := by
  refine ⟨?_, ?_⟩
  · rw [h20]; exact h.mx
  · rw [h21]; exact h.sq

theorem Scales.congr {b : ℕ} {Z Z' : Scr Ideal} (h : Scales A b Z) (h25 : Z'.x25 = Z.x25) (h26 : Z'.x26 = Z.x26) : Scales A b Z' := by
  refine ⟨?_, ?_⟩
  · rw [h25]; exact h.sc
  · rw [h26]; exact h.inv

/-- One point keeps the statement. -/
theorem step_value (hI : InsOk A t.val I) (h : Inv A t.val S.scr) (hp : Prev A t.val S) :
    Inv A (t.val + 1) (stBody c (grid0.coords t) M I S).scr
      ∧ LossOk A (t.val / 8) (stBody c (grid0.coords t) M I S).x9
      ∧ PredOk A (min t.val 47) (stBody c (grid0.coords t) M I S).x10
      ∧ (8 ≤ t.val → DHOk A (t.val - 8) (stBody c (grid0.coords t) M I S).x11)
      ∧ DWOk A (t.val + 1 - 8) (stBody c (grid0.coords t) M I S).x12
      ∧ CodeOk A (min t.val 47) (stBody c (grid0.coords t) M I S).x13
      ∧ HsOk A (t.val + 1) (stBody c (grid0.coords t) M I S).x14
      ∧ (8 ≤ t.val → GcodeOk A (t.val - 8) (stBody c (grid0.coords t) M I S).x15)
      ∧ GsOk A (t.val / 8) (stBody c (grid0.coords t) M I S).x16 := by
  rw [stBody_eq]
  obtain ⟨a9, a10, a13, a17, a18, a19, a20, a21, a25, a26⟩ := st1_same c t M I S
  have k1 : Kept A t.val (st1 c t M I S).scr := h.kept.congr a17 a18 a19
  have c1 := st1_consts c M hI h
  have r1 : RunsBefore A t.val (st1 c t M I S).scr := fun q q' => (h.runs q q').congr a20 a21
  have s1 : 9 ≤ t.val → Scales A ((t.val - 1) / 8 - 1) (st1 c t M I S).scr := fun q => (h.scales q).congr a25 a26
  have d1 : DWOk A (t.val - 8) (st1 c t M I S).x12 := st1_dw c M hp
  have h1 : HsOk A t.val (st1 c t M I S).x14 := st1_hs c M hp
  have g1 : GsOk A ((t.val - 1) / 8) (st1 c t M I S).x16 := st1_gs c M hp
  have l1 : LossOk A ((t.val - 1) / 8) (st1 c t M I S).x9 := by rw [a9]; exact hp.loss
  have p1 : 48 ≤ t.val → PredOk A 47 (st1 c t M I S).x10 := by rw [a10]; exact hp.pred
  have e1 : 48 ≤ t.val → CodeOk A 47 (st1 c t M I S).x13 := by rw [a13]; exact hp.code
  generalize st1 c t M I S = S1 at *
  obtain ⟨b10, b12, b13, b14, b17, b18, b19, b22, b23, b24⟩ := st2_same (S := S1) c t M I
  have k2 : Kept A t.val (st2 c t M I S1).scr := k1.congr b17 b18 b19
  have c2 : Consts A (st2 c t M I S1).scr := c1.congr b22 b23 b24
  have r2 : t.val < 48 → Runs8 A (t.val / 8) (t.val % 8) (st2 c t M I S1).scr := fun q => st2_runs c M q r1
  have s2 : 8 ≤ t.val → Scales A (t.val / 8 - 1) (st2 c t M I S1).scr := fun q => st2_scales c M q r1 s1
  have d2 : DWOk A (t.val - 8) (st2 c t M I S1).x12 := by rw [b12]; exact d1
  have h2 : HsOk A t.val (st2 c t M I S1).x14 := by rw [b14]; exact h1
  have g2 := st2_gs (I := I) c M r1 g1
  have l2 := st2_loss c M hI r1 l1
  have p2 : 48 ≤ t.val → PredOk A 47 (st2 c t M I S1).x10 := by rw [b10]; exact p1
  have e2 : 48 ≤ t.val → CodeOk A 47 (st2 c t M I S1).x13 := by rw [b13]; exact e1
  generalize st2 c t M I S1 = S2 at *
  obtain ⟨f9, f10, f13, f14, f16, fs⟩ := st3_same (S := S2) c t M I
  have x3 : 8 ≤ t.val → DHOk A (t.val - 8) (st3 c t M I S2).x11 := fun q => st3_dH c M q k2 c2 (s2 q)
  have y3 : 8 ≤ t.val → GcodeOk A (t.val - 8) (st3 c t M I S2).x15 := fun q => st3_gcode c M q k2 (s2 q)
  have d3 : DWOk A (t.val + 1 - 8) (st3 c t M I S2).x12 := st3_dw c M k2 s2 d2
  rw [← fs] at k2 c2 r2 s2
  rw [← f14] at h2
  rw [← f16] at g2
  rw [← f9] at l2
  rw [← f10] at p2
  rw [← f13] at e2
  generalize st3 c t M I S2 = S3 at *
  obtain ⟨j9, j11, j12, j15, j16, j22, j23, j24, j25, j26⟩ := st4_same (S := S3) c t M I
  refine ⟨⟨st4_kept c M hI c2 k2, fun q q' => ?_, fun _ => c2.congr j22 j23 j24, fun q => ?_⟩, ?_, st4_pred c M hI c2 p2, ?_, ?_,
    st4_code c M hI e2, st4_hs c M hI h2, ?_, ?_⟩
  · exact st4_runs c M (by omega) hI c2 (r2 (by omega))
  · exact (s2 (by omega)).congr j25 j26
  · rw [j9]; exact l2
  · rw [j11]; exact x3
  · rw [j12]; exact d3
  · rw [j15]; exact y3
  · rw [j16]; exact g2

end Cert.KernelIdeal.Gen
-- ==== Proof.Arrays.lean ====
module
public import proofs.«01_k».proof.Proof.Spec
public import proofs.«01_k».proof.KernelIdeal

@[expose] public section

/-!
# Arrays and numbers

`argsOf` reads the seven argument arrays as the numbers of `Spec.Args`; `outLoss` … `outGs` are the eight
result arrays, each element the number that Spec.lean gives it.
-/

set_option maxRecDepth 16384

noncomputable section

namespace Cert.Spec
open Idealize.ShloMosaic Cert.KernelIdeal

/-- The numbers the argument arrays hold (zero outside the arrays). -/
def argsOf (x : Vec Ideal S6x4096x1536 .bf16) (w : Vec Ideal S1536x64 .fp8e4m3) (ws b : Vec Ideal S64 .f32)
    (x0 nz : Vec Ideal S6x4096x64 .bf16) (lw : Vec Ideal S6 .f32) : Spec.Args where
  lw i := if h : i < 6 then lw (ix1 ⟨i, h⟩) else 0
  x i s d := if h : i < 6 ∧ s < 4096 ∧ d < 1536 then x (ix3 ⟨i, h.1⟩ ⟨s, h.2.1⟩ ⟨d, h.2.2⟩) else 0
  w p d := if h : p < 64 ∧ d < 1536 then w (ix2 ⟨d, h.2⟩ ⟨p, h.1⟩) else 0
  ws p := if h : p < 64 then ws (ix1 ⟨p, h⟩) else 0
  bias p := if h : p < 64 then b (ix1 ⟨p, h⟩) else 0
  x0 i p s := if h : i < 6 ∧ p < 64 ∧ s < 4096 then x0 (ix3 ⟨i, h.1⟩ ⟨s, h.2.2⟩ ⟨p, h.2.1⟩) else 0
  nz i p s := if h : i < 6 ∧ p < 64 ∧ s < 4096 then nz (ix3 ⟨i, h.1⟩ ⟨s, h.2.2⟩ ⟨p, h.2.1⟩) else 0

variable (A : Args)

/-- the losses, -/
def outLoss : Vec Ideal S6 .f32 := fun i => loss A (i 0).val
/-- the predictions (sample, channel, token), -/
def outPred : Vec Ideal S6x64x4096 .f32 := fun i => pred A (i 0).val (i 1).val (i 2).val
/-- the gradient of the hidden rows, -/
def outDH : Vec Ideal S6x4096x1536 .bf16 := fun i => dH A (i 0).val (i 1).val (i 2).val
/-- the gradient of the weights (channel, coordinate), -/
def outDW : Vec Ideal S64x1536 .f32 := fun i => dW A (i 0).val (i 1).val
/-- the codes of the hidden rows, -/
def outCode : Vec Ideal S6x4096x1536 .fp8e4m3 := fun i => code A (i 0).val (i 1).val (i 2).val
/-- their scales, -/
def outHs : Vec Ideal S6x4096 .f32 := fun i => hs A (i 0).val (i 1).val
/-- the codes of the gradient of the predictions (sample, channel, token) -/
def outGcode : Vec Ideal S6x64x4096 .fp8e5m2 := fun i => gcode A (i 0).val (i 1).val (i 2).val
/-- and their scales. -/
def outGs : Vec Ideal S6x64 .f32 := fun i => gs A (i 0).val (i 1).val

end Cert.Spec
-- ==== Proof.Inputs.lean ====
module
public import proofs.«01_k».proof.Proof.StepValue
public import proofs.«01_k».proof.Proof.Arrays
public import proofs.«01_k».proof.Proof.Gen.KernelIdeal.Frame
public import Idealize.ShloMosaic.Lib.Pipeline.FrameBody
public import Idealize.ShloMosaic.Lib.Pipeline.ValueKit
public import Idealize.ShloMosaic.Lib.StableHlo.ReadAt

@[expose] public section

/-!
# What the body finds in its input blocks

`argsAt` are the numbers of a core's argument arrays. `insOk`: at every grid point the
input blocks hold the weights and the chunk of the tokens that point works on.
-/

set_option maxRecDepth 16384

noncomputable section

namespace Cert.KernelIdeal.Gen
open Idealize.ShloMosaic Idealize.ShloMosaic.TcCoe Idealize.ShloMosaic.Tactic Cert.KernelIdeal
open Idealize.ShloMosaic.Pipeline (RDat Cfg Window)

variable (m : (ℓ : Loc nD τ sig) → Buf (Elt Ideal) ℓ)

/-- The numbers of core `c`'s argument arrays. -/
abbrev argsAt (c : Dev nD) : Spec.Args :=
  Spec.argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- An input window whose relation leaves the buffer as found holds a fetched block at every point. -/
theorem finds_fetched (T : Dev nD → Track Ideal) (c : Dev nD) (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t Y X, (rdat m T c).after w t Y X → X = Y) (t : Fin cfg0.N) (X) (h : (rdat m T c).Finds w t X) :
    ∃ d, X = (rdat m T c).fetched w t d :=
  (rdat m T c).finds_in_eq_fetched w hw hclip hkeep t X h

theorem blk0 (c : Dev nD) (t : Fin cfg0.N) (b : Fin 6) : (iblk m c 0 t (ix1 b) : EReal) = (argsAt m c).lw b.val := by
  have e : ∀ t, win0_0.index t = ![0] := by decide +kernel
  refine Eq.trans ?_ (dif_pos b.isLt).symm
  blk_ext [iblk, V, e t]

theorem blk1 (c : Dev nD) (t : Fin cfg0.N) (ht : t.val < 48) (r : Fin 512) (d : Fin 1536) :
    (iblk m c 1 t (ix3 0 r d) : EReal) = (argsAt m c).x (t.val / 8) (512 * (t.val % 8) + r.val) d.val := by
  have e : ∀ t : Fin cfg0.N, t.val < 48 → win0_1.index t = ![t.val / 8, t.val % 8, 0] := by decide +kernel
  have e' := e t ht
  have h6 : t.val / 8 < 6 := by omega
  have h4 : 512 * (t.val % 8) + r.val < 4096 := by omega
  refine Eq.trans ?_ (dif_pos ⟨h6, h4, d.isLt⟩).symm
  blk_ext [iblk, V, e']

theorem blk2 (c : Dev nD) (t : Fin cfg0.N) (p : Fin 64) (d : Fin 1536) : (iblk m c 2 t (ix2 p d) : EReal) = (argsAt m c).w p.val d.val := by
  have e : ∀ t, win0_2.index t = ![0, 0] := by decide +kernel
  refine Eq.trans ?_ (dif_pos ⟨p.isLt, d.isLt⟩).symm
  have hb : ((cfg0.win 2).blk t).view.emb (ix2 p d) = ix2 p d := by blk_ext [e t]
  unfold iblk View.read
  rw [hb]
  show V m c main_v0 (ix2 p d) = _
  unfold V
  after_reads_at

theorem blk3 (c : Dev nD) (t : Fin cfg0.N) (p : Fin 64) : (iblk m c 3 t (ix2 0 p) : EReal) = (argsAt m c).ws p.val := by
  have e : ∀ t, win0_3.index t = ![0, 0] := by decide +kernel
  refine Eq.trans ?_ (dif_pos p.isLt).symm
  have hb : ((cfg0.win 3).blk t).view.emb (ix2 0 p) = ix2 0 p := by blk_ext [e t]
  unfold iblk View.read
  rw [hb]
  show V m c main_v1 (ix2 0 p) = _
  unfold V
  after_reads_at

theorem blk4 (c : Dev nD) (t : Fin cfg0.N) (p : Fin 64) : (iblk m c 4 t (ix2 0 p) : EReal) = (argsAt m c).bias p.val := by
  have e : ∀ t, win0_4.index t = ![0, 0] := by decide +kernel
  refine Eq.trans ?_ (dif_pos p.isLt).symm
  have hb : ((cfg0.win 4).blk t).view.emb (ix2 0 p) = ix2 0 p := by blk_ext [e t]
  unfold iblk View.read
  rw [hb]
  show V m c main_v2 (ix2 0 p) = _
  unfold V
  after_reads_at

theorem blk5 (c : Dev nD) (t : Fin cfg0.N) (ht : t.val < 48) (p : Fin 64) (r : Fin 512) :
    (iblk m c 5 t (ix3 0 p r) : EReal) = (argsAt m c).x0 (t.val / 8) p.val (512 * (t.val % 8) + r.val) := by
  have e : ∀ t : Fin cfg0.N, t.val < 48 → win0_5.index t = ![t.val / 8, 0, t.val % 8] := by decide +kernel
  have e' := e t ht
  have h6 : t.val / 8 < 6 := by omega
  have h4 : 512 * (t.val % 8) + r.val < 4096 := by omega
  refine Eq.trans ?_ (dif_pos ⟨h6, p.isLt, h4⟩).symm
  have hb : ((cfg0.win 5).blk t).view.emb (ix3 0 p r) = ix3 ⟨t.val / 8, h6⟩ p ⟨512 * (t.val % 8) + r.val, h4⟩ := by blk_ext [e']
  unfold iblk View.read
  rw [hb]
  show V m c main_v3 (ix3 ⟨t.val / 8, h6⟩ p ⟨512 * (t.val % 8) + r.val, h4⟩) = _
  unfold V
  after_reads_at

theorem blk6 (c : Dev nD) (t : Fin cfg0.N) (ht : t.val < 48) (p : Fin 64) (r : Fin 512) :
    (iblk m c 6 t (ix3 0 p r) : EReal) = (argsAt m c).nz (t.val / 8) p.val (512 * (t.val % 8) + r.val) := by
  have e : ∀ t : Fin cfg0.N, t.val < 48 → win0_6.index t = ![t.val / 8, 0, t.val % 8] := by decide +kernel
  have e' := e t ht
  have h6 : t.val / 8 < 6 := by omega
  have h4 : 512 * (t.val % 8) + r.val < 4096 := by omega
  refine Eq.trans ?_ (dif_pos ⟨h6, p.isLt, h4⟩).symm
  have hb : ((cfg0.win 6).blk t).view.emb (ix3 0 p r) = ix3 ⟨t.val / 8, h6⟩ p ⟨512 * (t.val % 8) + r.val, h4⟩ := by blk_ext [e']
  unfold iblk View.read
  rw [hb]
  show V m c main_v4 (ix3 ⟨t.val / 8, h6⟩ p ⟨512 * (t.val % 8) + r.val, h4⟩) = _
  unfold V
  after_reads_at

/-- What the body finds in its input blocks at point `t`. -/
theorem insOk (T : Dev nD → Track Ideal) (c : Dev nD) (t : Fin cfg0.N) (Y : Blocks Ideal)
    (hY : ∀ w, (rdat m T c).Finds w t (Y w)) : InsOk (argsAt m c) t.val (insOf Y) := by
  have h0 : Y 0 = iblk m c 0 t := (finds_fetched m T c 0 rfl (fun _ _ _ => rfl) (fun _ _ _ h => h) t _ (hY 0)).elim fun _ h => h
  have h1 : Y 1 = iblk m c 1 t := (finds_fetched m T c 1 rfl (fun _ _ _ => rfl) (fun _ _ _ h => h) t _ (hY 1)).elim fun _ h => h
  have h2 : Y 2 = iblk m c 2 t := (finds_fetched m T c 2 rfl (fun _ _ _ => rfl) (fun _ _ _ h => h) t _ (hY 2)).elim fun _ h => h
  have h3 : Y 3 = iblk m c 3 t := (finds_fetched m T c 3 rfl (fun _ _ _ => rfl) (fun _ _ _ h => h) t _ (hY 3)).elim fun _ h => h
  have h4 : Y 4 = iblk m c 4 t := (finds_fetched m T c 4 rfl (fun _ _ _ => rfl) (fun _ _ _ h => h) t _ (hY 4)).elim fun _ h => h
  have h5 : Y 5 = iblk m c 5 t := (finds_fetched m T c 5 rfl (fun _ _ _ => rfl) (fun _ _ _ h => h) t _ (hY 5)).elim fun _ h => h
  have h6 : Y 6 = iblk m c 6 t := (finds_fetched m T c 6 rfl (fun _ _ _ => rfl) (fun _ _ _ h => h) t _ (hY 6)).elim fun _ h => h
  exact {
    x2 := fun b => (congrFun h0 _).trans (blk0 m c t b)
    x3 := fun ht r d => (congrFun h1 _).trans (blk1 m c t ht r d)
    x4 := fun p d => (congrFun h2 _).trans (blk2 m c t p d)
    x5 := fun p => (congrFun h3 _).trans (blk3 m c t p)
    x6 := fun p => (congrFun h4 _).trans (blk4 m c t p)
    x7 := fun ht p r => (congrFun h5 _).trans (blk5 m c t ht p r)
    x8 := fun ht p r => (congrFun h6 _).trans (blk6 m c t ht p r) }

end Cert.KernelIdeal.Gen
-- ==== Proof.TrackValue.lean ====
module
public import proofs.«01_k».proof.Proof.Inputs

@[expose] public section

/-!
# The run, point by point

`valTrack` states what the scratch buffers hold before each grid point and what each output block holds
after it. `valTrack_ok`: the body keeps it, by `step_value`. An output block that has not been written
back since the previous point is found as that point left it (`found`).
-/

set_option maxRecDepth 16384

noncomputable section

namespace Cert.KernelIdeal.Gen
open Idealize.ShloMosaic Idealize.ShloMosaic.TcCoe Idealize.ShloMosaic.Tactic Cert.KernelIdeal
open Idealize.ShloMosaic.Pipeline (RDat Cfg Window)

variable (m : (ℓ : Loc nD τ sig) → Buf (Elt Ideal) ℓ)

/-- What is stated of core `c`'s run. -/
def valTrack (c : Dev nD) : Track Ideal where
  inv n := Inv (argsAt m c) n.val
  o7 t := LossOk (argsAt m c) (t.val / 8)
  o8 t := PredOk (argsAt m c) (min t.val 47)
  o9 t X := 8 ≤ t.val → DHOk (argsAt m c) (t.val - 8) X
  o10 t := DWOk (argsAt m c) (t.val + 1 - 8)
  o11 t := CodeOk (argsAt m c) (min t.val 47)
  o12 t := HsOk (argsAt m c) (t.val + 1)
  o13 t X := 8 ≤ t.val → GcodeOk (argsAt m c) (t.val - 8) X
  o14 t := GsOk (argsAt m c) (t.val / 8)

/-- Nothing is asked before the first point. -/
theorem inv_zero (A : Spec.Args) (Z : Scr Ideal) : Inv A 0 Z where
  kept := ⟨fun _ _ _ _ h => absurd h (by omega), fun _ _ _ _ _ h => absurd h (by omega), fun _ _ _ _ _ h => absurd h (by omega)⟩
  runs h := absurd h (by omega)
  consts h := absurd h (by omega)
  scales h := absurd h (by omega)

/-- A block not fetched at `t` and not written back at the point before is found as that point left it. -/
theorem found (T : Dev nD → Track Ideal) (c : Dev nD) (w : Fin cfg0.W) (t : Fin cfg0.N) (ht : t.val ≠ 0)
    (hf : (cfg0.win w).fetch t = false) (hl : ∀ u : Fin cfg0.N, u.val + 1 = t.val → (cfg0.win w).flush u = false)
    (X) (h : (rdat m T c).Finds w t X) : ∃ u : Fin cfg0.N, u.val + 1 = t.val ∧ ∃ Y, (rdat m T c).after w u Y X := by
  have hu : t.val - 1 < cfg0.N := Nat.lt_of_le_of_lt (Nat.sub_le _ _) t.isLt
  have e : (⟨t.val - 1, hu⟩ : Fin cfg0.N).val + 1 = t.val := Nat.sub_add_cancel (Nat.one_le_iff_ne_zero.mpr ht)
  rcases ((rdat m T c).finds_of_pos hf ht X).mp h with hfl | ⟨Y, -, hR⟩
  · exact absurd (hfl.symm.trans (hl _ e)) (by decide)
  · exact ⟨_, e, Y, hR⟩

theorem fetch_out : ∀ (w : Fin cfg0.W) (t : Fin cfg0.N), 7 ≤ w.val → (cfg0.win w).fetch t = false := by decide +kernel
theorem flush_whole : ∀ t : Fin cfg0.N, t.val < 55 → (cfg0.win 7).flush t = false ∧ (cfg0.win 10).flush t = false
    ∧ (cfg0.win 12).flush t = false ∧ (cfg0.win 14).flush t = false := by decide +kernel
theorem flush_last : ∀ t : Fin cfg0.N, 47 ≤ t.val → t.val < 55 → (cfg0.win 8).flush t = false ∧ (cfg0.win 11).flush t = false := by
  decide +kernel

/-- The output blocks before point `t`. -/
theorem prevOk (c : Dev nD) (t : Fin cfg0.N) (Y : Blocks Ideal) (Z : Scr Ideal)
    (hY : ∀ w, (rdat m (valTrack m) c).Finds w t (Y w)) : Prev (argsAt m c) t.val (stOf Y Z) := by
  have hN : t.val < 56 := lt_of_lt_of_eq t.isLt N_eq
  by_cases h0 : t.val = 0
  · exact {
      loss := fun b h => absurd h (by omega)
      pred := fun h => absurd h (by omega)
      dw := fun h => absurd h (by omega)
      code := fun h => absurd h (by omega)
      hs := fun b s h => absurd h (by omega)
      gs := fun b p h => absurd h (by omega) }
  · refine ⟨?_, fun h => ?_, fun _ => ?_, fun h => ?_, ?_, ?_⟩
    · obtain ⟨u, hu, V, hR⟩ := found m _ c 7 t h0 (fetch_out 7 t (by decide)) (fun u hu => (flush_whole u (by omega)).1) _ (hY 7)
      rw [← hu]; exact hR
    · obtain ⟨u, hu, V, hR⟩ := found m _ c 8 t h0 (fetch_out 8 t (by decide)) (fun u hu => (flush_last u (by omega) (by omega)).1) _ (hY 8)
      have hR' : PredOk (argsAt m c) (min u.val 47) (Y 8) := hR
      rw [show min u.val 47 = 47 by omega] at hR'
      exact hR'
    · obtain ⟨u, hu, V, hR⟩ := found m _ c 10 t h0 (fetch_out 10 t (by decide)) (fun u hu => (flush_whole u (by omega)).2.1) _ (hY 10)
      rw [← hu]; exact hR
    · obtain ⟨u, hu, V, hR⟩ := found m _ c 11 t h0 (fetch_out 11 t (by decide)) (fun u hu => (flush_last u (by omega) (by omega)).2) _ (hY 11)
      have hR' : CodeOk (argsAt m c) (min u.val 47) (Y 11) := hR
      rw [show min u.val 47 = 47 by omega] at hR'
      exact hR'
    · obtain ⟨u, hu, V, hR⟩ := found m _ c 12 t h0 (fetch_out 12 t (by decide)) (fun u hu => (flush_whole u (by omega)).2.2.1) _ (hY 12)
      rw [← hu]; exact hR
    · obtain ⟨u, hu, V, hR⟩ := found m _ c 14 t h0 (fetch_out 14 t (by decide)) (fun u hu => (flush_whole u (by omega)).2.2.2) _ (hY 14)
      rw [← hu]; exact hR

/-- The body keeps the statement. -/
theorem valTrack_ok : Track.Ok m (valTrack m) where
  zero c Z := inv_zero _ Z
  step c t Y Z hY hZ := step_value c (memsAt t) (insOk m _ c t Y hY) hZ (prevOk m c t Y Z hY)

end Cert.KernelIdeal.Gen
-- ==== Proof.Final.lean ====
module
public import proofs.«01_k».proof.Proof.TrackValue
public import Idealize.ShloMosaic.Lib.Pipeline.ArrRel

@[expose] public section

/-!
# The arrays after the run

Every output array is made of the blocks written back; each block is what the body left there (`valTrack`).
`final`: after the run the eight results are the arrays of Arrays.lean and the arguments are unchanged.
-/

set_option maxRecDepth 16384

noncomputable section

namespace Cert.KernelIdeal.Gen
open Idealize.ShloMosaic Idealize.ShloMosaic.TcCoe Idealize.ShloMosaic.Tactic Cert.KernelIdeal
open Idealize.SL Idealize.SL.Sem
open Idealize.ShloMosaic.Pipeline (Dat RDat Cfg Window)

variable (m : (ℓ : Loc nD τ sig) → Buf (Elt Ideal) ℓ) (ρ : Dev nD → PrngReg)

theorem flush_eq_last : ∀ t : Fin cfg0.N, ((cfg0.win 7).flush t = true → t.val = 55) ∧ ((cfg0.win 10).flush t = true → t.val = 55)
    ∧ ((cfg0.win 12).flush t = true → t.val = 55) ∧ ((cfg0.win 14).flush t = true → t.val = 55) := by decide +kernel
theorem flush_late : ∀ t : Fin cfg0.N, ((cfg0.win 9).flush t = true → 8 ≤ t.val) ∧ ((cfg0.win 13).flush t = true → 8 ≤ t.val) := by
  decide +kernel

section
variable (c : Dev nD) (after : (w : Fin cfg0.W) → Fin cfg0.N → (cfg0.win w).block.Idx → Elt Ideal (cfg0.win w).elt)
  (hA : ∀ (w : Fin cfg0.W) (u : Fin cfg0.N), (cfg0.win w).flush u = true → (rdat m (valTrack m) c).Leaves w u (after w u))
include hA

theorem arr7 : ((rdat m (valTrack m) c).withAfter after).arrAt 7 cfg0.N = Spec.outLoss (argsAt m c) := by
  refine Dat.arrAt_eq_of_covers _ 7 _ (by decide +kernel) fun t hf y => ?_
  have e : ∀ t, win0_7.index t = ![0] := by decide +kernel
  obtain ⟨Y, -, hR⟩ := hA 7 t hf
  have hR' : LossOk (argsAt m c) (t.val / 8) (after 7 t) := hR
  have ht := (flush_eq_last t).1 hf
  have h0 : (y 0).val < 6 := (y 0).isLt
  have hy : ((cfg0.win 7).blk t).view.emb y = ix1 (y 0) := by blk_ext [e t]
  rw [hy]
  exact (congrArg (after 7 t) (eq_ix1 _)).trans (hR' (y 0) (by omega))

theorem arr8 : ((rdat m (valTrack m) c).withAfter after).arrAt 8 cfg0.N = Spec.outPred (argsAt m c) := by
  refine Dat.arrAt_eq_of_covers _ 8 _ (by decide +kernel) fun t hf y => ?_
  have e : ∀ t : Fin cfg0.N, win0_8.index t = ![min t.val 47 / 8, 0, min t.val 47 % 8] := by decide +kernel
  obtain ⟨Y, -, hR⟩ := hA 8 t hf
  have hR' : PredOk (argsAt m c) (min t.val 47) (after 8 t) := hR
  have h2 : (y 2).val < 512 := (y 2).isLt
  have hy : ((cfg0.win 8).blk t).view.emb y = ix3 ⟨min t.val 47 / 8, by omega⟩ (y 1) ⟨512 * (min t.val 47 % 8) + (y 2).val, by omega⟩ := by
    blk_ext [e t]
  rw [hy]
  exact (congrArg (after 8 t) ((eq_ix3 _).trans (congrArg (fun z : Fin 1 => ix3 z (y 1) (y 2))
    (Subsingleton.elim (α := Fin 1) _ 0)))).trans (hR' (y 1) (y 2))

theorem arr9 : ((rdat m (valTrack m) c).withAfter after).arrAt 9 cfg0.N = Spec.outDH (argsAt m c) := by
  refine Dat.arrAt_eq_of_covers _ 9 _ (by decide +kernel) fun t hf y => ?_
  have e : ∀ t : Fin cfg0.N, 8 ≤ t.val → win0_9.index t = ![(t.val - 8) / 8, (t.val - 8) % 8, 0] := by decide +kernel
  obtain ⟨Y, -, hR⟩ := hA 9 t hf
  have ht := (flush_late t).1 hf
  have hN : t.val < 56 := lt_of_lt_of_eq t.isLt N_eq
  have hR' : DHOk (argsAt m c) (t.val - 8) (after 9 t) := hR ht
  have h1 : (y 1).val < 512 := (y 1).isLt
  have hy : ((cfg0.win 9).blk t).view.emb y = ix3 ⟨(t.val - 8) / 8, by omega⟩ ⟨512 * ((t.val - 8) % 8) + (y 1).val, by omega⟩ (y 2) := by
    blk_ext [e t ht]
  rw [hy]
  exact (congrArg (after 9 t) ((eq_ix3 _).trans (congrArg (fun z : Fin 1 => ix3 z (y 1) (y 2))
    (Subsingleton.elim (α := Fin 1) _ 0)))).trans (hR' (y 1) (y 2))

theorem arr10 : ((rdat m (valTrack m) c).withAfter after).arrAt 10 cfg0.N = Spec.outDW (argsAt m c) := by
  refine Dat.arrAt_eq_of_covers _ 10 _ (by decide +kernel) fun t hf y => ?_
  have e : ∀ t, win0_10.index t = ![0, 0] := by decide +kernel
  obtain ⟨Y, -, hR⟩ := hA 10 t hf
  have hR' : DWOk (argsAt m c) (t.val + 1 - 8) (after 10 t) := hR
  have ht := (flush_eq_last t).2.1 hf
  rw [show t.val + 1 - 8 = 48 by omega] at hR'
  have hy : ((cfg0.win 10).blk t).view.emb y = ix2 (y 0) (y 1) := by blk_ext [e t]
  rw [hy]
  exact (congrArg (after 10 t) (eq_ix2 _)).trans ((hR' (y 0) (y 1)).trans (Spec.dWAcc_all _ _ _))

theorem arr11 : ((rdat m (valTrack m) c).withAfter after).arrAt 11 cfg0.N = Spec.outCode (argsAt m c) := by
  refine Dat.arrAt_eq_of_covers _ 11 _ (by decide +kernel) fun t hf y => ?_
  have e : ∀ t : Fin cfg0.N, win0_11.index t = ![min t.val 47 / 8, min t.val 47 % 8, 0] := by decide +kernel
  obtain ⟨Y, -, hR⟩ := hA 11 t hf
  have hR' : CodeOk (argsAt m c) (min t.val 47) (after 11 t) := hR
  have h1 : (y 1).val < 512 := (y 1).isLt
  have hy : ((cfg0.win 11).blk t).view.emb y = ix3 ⟨min t.val 47 / 8, by omega⟩ ⟨512 * (min t.val 47 % 8) + (y 1).val, by omega⟩ (y 2) := by
    blk_ext [e t]
  rw [hy]
  exact (congrArg (after 11 t) ((eq_ix3 _).trans (congrArg (fun z : Fin 1 => ix3 z (y 1) (y 2))
    (Subsingleton.elim (α := Fin 1) _ 0)))).trans (hR' (y 1) (y 2))

theorem arr12 : ((rdat m (valTrack m) c).withAfter after).arrAt 12 cfg0.N = Spec.outHs (argsAt m c) := by
  refine Dat.arrAt_eq_of_covers _ 12 _ (by decide +kernel) fun t hf y => ?_
  have e : ∀ t, win0_12.index t = ![0, 0] := by decide +kernel
  obtain ⟨Y, -, hR⟩ := hA 12 t hf
  have hR' : HsOk (argsAt m c) (t.val + 1) (after 12 t) := hR
  have ht := (flush_eq_last t).2.2.1 hf
  have h0 : (y 0).val < 6 := (y 0).isLt
  have h1 : (y 1).val < 4096 := (y 1).isLt
  have hy : ((cfg0.win 12).blk t).view.emb y = ix2 (y 0) (y 1) := by blk_ext [e t]
  rw [hy]
  exact (congrArg (after 12 t) (eq_ix2 _)).trans (hR' (y 0) (y 1) (by omega))

theorem arr13 : ((rdat m (valTrack m) c).withAfter after).arrAt 13 cfg0.N = Spec.outGcode (argsAt m c) := by
  refine Dat.arrAt_eq_of_covers _ 13 _ (by decide +kernel) fun t hf y => ?_
  have e : ∀ t : Fin cfg0.N, 8 ≤ t.val → win0_13.index t = ![(t.val - 8) / 8, 0, (t.val - 8) % 8] := by decide +kernel
  obtain ⟨Y, -, hR⟩ := hA 13 t hf
  have ht := (flush_late t).2 hf
  have hN : t.val < 56 := lt_of_lt_of_eq t.isLt N_eq
  have hR' : GcodeOk (argsAt m c) (t.val - 8) (after 13 t) := hR ht
  have h2 : (y 2).val < 512 := (y 2).isLt
  have hy : ((cfg0.win 13).blk t).view.emb y = ix3 ⟨(t.val - 8) / 8, by omega⟩ (y 1) ⟨512 * ((t.val - 8) % 8) + (y 2).val, by omega⟩ := by
    blk_ext [e t ht]
  rw [hy]
  exact (congrArg (after 13 t) ((eq_ix3 _).trans (congrArg (fun z : Fin 1 => ix3 z (y 1) (y 2))
    (Subsingleton.elim (α := Fin 1) _ 0)))).trans (hR' (y 1) (y 2))

theorem arr14 : ((rdat m (valTrack m) c).withAfter after).arrAt 14 cfg0.N = Spec.outGs (argsAt m c) := by
  refine Dat.arrAt_eq_of_covers _ 14 _ (by decide +kernel) fun t hf y => ?_
  have e : ∀ t, win0_14.index t = ![0, 0] := by decide +kernel
  obtain ⟨Y, -, hR⟩ := hA 14 t hf
  have hR' : GsOk (argsAt m c) (t.val / 8) (after 14 t) := hR
  have ht := (flush_eq_last t).2.2.2 hf
  have h0 : (y 0).val < 6 := (y 0).isLt
  have hy : ((cfg0.win 14).blk t).view.emb y = ix2 (y 0) (y 1) := by blk_ext [e t]
  rw [hy]
  exact (congrArg (after 14 t) (eq_ix2 _)).trans (hR' (y 0) (y 1) (by omega))

end

/-- After the run the results are the arrays of Arrays.lean and the arguments are unchanged. -/
theorem final : θ_run defs (onTc (τ := τ) (main (F := Ideal))) ⟨m, fun _ => 0, ρ⟩ (fun r => ∀ c : Dev nD,
      r.2.mem ((c.tc : Thread nD τ).loc main_v5_0) = Spec.outLoss (argsAt m c)
      ∧ r.2.mem ((c.tc : Thread nD τ).loc main_v5_1) = Spec.outPred (argsAt m c)
      ∧ r.2.mem ((c.tc : Thread nD τ).loc main_v5_2) = Spec.outDH (argsAt m c)
      ∧ r.2.mem ((c.tc : Thread nD τ).loc main_v5_3) = Spec.outDW (argsAt m c)
      ∧ r.2.mem ((c.tc : Thread nD τ).loc main_v5_4) = Spec.outCode (argsAt m c)
      ∧ r.2.mem ((c.tc : Thread nD τ).loc main_v5_5) = Spec.outHs (argsAt m c)
      ∧ r.2.mem ((c.tc : Thread nD τ).loc main_v5_6) = Spec.outGcode (argsAt m c)
      ∧ r.2.mem ((c.tc : Thread nD τ).loc main_v5_7) = Spec.outGs (argsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_track m ρ (valTrack m) (valTrack_ok m))
  obtain ⟨after, hL, hA⟩ := h.1.exists_exact c
  exact ⟨(hA 7).trans (arr7 m c after hL), (hA 8).trans (arr8 m c after hL), (hA 9).trans (arr9 m c after hL),
    (hA 10).trans (arr10 m c after hL), (hA 11).trans (arr11 m c after hL), (hA 12).trans (arr12 m c after hL),
    (hA 13).trans (arr13 m c after hL), (hA 14).trans (arr14 m c after hL), args_of m (valTrack m) r h.1 c⟩

end Cert.KernelIdeal.Gen
-- ==== Proof.Scale.lean ====
module
public import proofs.«01_k».proof.Proof.Words

@[expose] public section

/-!
# The quantiser's scale, stated twice

The kernel forms the scale in the bits of a word, the reference as twice the greatest power of two not above the range.
Here the two are shown to be one number, and its reciprocal the kernel's inverse.
-/

namespace Cert.Spec
open Idealize.ShloMosaic

/-- The word whose exponent field is `k`. -/
def pwBits (k : ℕ) : BitVec 32 := IntOp.shli ArithUnit.vector (BitVec.ofNat 32 k) 23#32

/-- The power of two `2^(k-127)`. -/
noncomputable def pw (k : ℕ) : ℝ := (2 : ℝ) ^ ((k : ℤ) - 127)

theorem pw_pos (k : ℕ) : 0 < pw k := by
  unfold pw
  positivity

theorem pw_mono {j k : ℕ} (h : j ≤ k) : pw j ≤ pw k := by
  unfold pw
  exact zpow_le_zpow_right₀ (by norm_num) (by omega)

theorem pwBits_fields : ∀ k : Fin 255,
    ((pwBits k.val).extractLsb' 31 1 == 1#1) = false ∧ ((pwBits k.val).extractLsb' 23 8).toNat = k.val
      ∧ ((pwBits k.val).extractLsb' 0 23).toNat = 0 := by
  decide +kernel

theorem pwBits_toInt : ∀ k : Fin 253, (pwBits k.val).toInt = k.val * 8388608 := by
  decide +kernel

theorem pwBits_succ : ∀ k : Fin 253, IntOp.addi (pwBits k.val) 8388608#32 = pwBits (k.val + 1) := by
  decide +kernel

theorem pwBits_inv : ∀ k : Fin 253, IntOp.subi 2122317824#32 (pwBits k.val) = pwBits (253 - k.val) := by
  decide +kernel

/-- A word with exponent field `k` and no other bit denotes `2^(k-127)`. -/
theorem ieee_of_fields (w : BitVec 32) (k : ℕ) (h0 : k ≠ 0) (h : k < 255) (h1 : (w.extractLsb' (8 + 23) 1 == 1#1) = false)
    (h2 : (w.extractLsb' 23 8).toNat = k) (h3 : (w.extractLsb' 0 23).toNat = 0) :
    Ideal.ieee 8 23 w = (pw k : EReal) := by
  have hk : ¬ k = 2 ^ 8 - 1 := by omega
  unfold Ideal.ieee
  simp only [h1, h2, h3, if_neg hk, if_neg h0]
  apply congrArg
  unfold pw
  have e : ((k : ℤ) - 127) = 23 + ((k : ℤ) - (2 ^ (8 - 1) - 1) - (23 : ℕ)) := by push_cast; norm_num
  rw [e, zpow_add₀ (by norm_num)]
  norm_num

/-- The word with exponent field `k` denotes `2^(k-127)`. -/
theorem ofBits_pwBits (k : ℕ) (h0 : k ≠ 0) (h : k < 255) : Ideal.ofBits .f32 (pwBits k) = (pw k : EReal) := by
  have hf := pwBits_fields ⟨k, h⟩
  simp only at hf
  generalize pwBits k = w at *
  exact ieee_of_fields w k h0 h hf.1 hf.2.1 hf.2.2

theorem pwBits_zero : pwBits 0 = 0#32 := by decide

theorem maxsi_toInt (x y : BitVec 32) : (IntOp.maxsi x y).toInt = max x.toInt y.toInt := by
  unfold IntOp.maxsi
  by_cases h : x.toInt ≤ y.toInt
  · simp [BitVec.slt, h]
    split <;> omega
  · simp [BitVec.slt]
    split <;> omega

/-- The word of the greatest power, read as a number: the greatest of the candidates. -/
theorem expBits_toInt (y : EReal) : (expBits y).toInt
    = Finset.fold max (2147483648#32).toInt (fun k : Fin 253 =>
        if Ideal.ofBits .f32 (pwBits k.val) ≤ y then (k.val : ℤ) * 8388608 else 0) Finset.univ := by
  unfold expBits
  rw [← Finset.fold_hom (op := IntOp.maxsi) (op' := max) (m := BitVec.toInt) maxsi_toInt]
  congr 1
  funext k
  show BitVec.toInt (if Ideal.ofBits .f32 (pwBits k.val) ≤ y then pwBits k.val else 0#32) = _
  split
  · exact pwBits_toInt k
  · rfl

/-- When `K` is the last power not above `y`, the word is `K`'s. -/
theorem expBits_eq (y : EReal) (K : ℕ) (hK : K ≤ 252) (h : K = 0 ∨ (pw K : EReal) ≤ y)
    (hlast : ∀ k, K < k → k ≤ 252 → ¬ (pw k : EReal) ≤ y) : expBits y = pwBits K := by
  apply BitVec.eq_of_toInt_eq
  rw [expBits_toInt, pwBits_toInt ⟨K, by omega⟩]
  apply le_antisymm
  · rw [Finset.fold_max_le]
    have e : (2147483648#32).toInt = -2147483648 := by decide
    refine ⟨by rw [e]; simp only; omega, fun k _ => ?_⟩
    split
    · rename_i hk
      by_cases hkK : k.val ≤ K
      · simp only; omega
      · rw [ofBits_pwBits k.val (by omega) (by omega)] at hk
        exact absurd hk (hlast k.val (by omega) (by omega))
    · simp only; omega
  · rw [Finset.le_fold_max]
    refine Or.inr ⟨⟨K, by omega⟩, Finset.mem_univ _, ?_⟩
    split
    · exact le_refl _
    · rename_i hk
      rcases h with h | h
      · subst h; simp
      · by_cases h0 : K = 0
        · subst h0; simp
        · rw [ofBits_pwBits K h0 (by omega)] at hk
          exact absurd h hk

/-- There is a last power not above `y`, or none. -/
theorem exists_last (y : EReal) : ∃ K ≤ 252, (K = 0 ∨ (pw K : EReal) ≤ y)
    ∧ ∀ k, K < k → k ≤ 252 → ¬ (pw k : EReal) ≤ y := by
  classical
  refine ⟨Nat.findGreatest (fun k => (pw k : EReal) ≤ y) 252, Nat.findGreatest_le _, ?_, fun k h1 h2 => ?_⟩
  · by_cases h : Nat.findGreatest (fun k => (pw k : EReal) ≤ y) 252 = 0
    · exact Or.inl h
    · exact Or.inr (Nat.findGreatest_of_ne_zero (P := fun k => (pw k : EReal) ≤ y) rfl h)
  · exact Nat.findGreatest_is_greatest h1 h2

/-- The reference's `j`-th power: `2^(j-126)`. -/
noncomputable def power (j : ℕ) : EReal :=
  Ideal.exp2 (((IntOp.subi (BitVec.ofNat 32 j) 126#32).toInt : ℝ) : EReal)

theorem power_int : ∀ j : Fin 252, (IntOp.subi (BitVec.ofNat 32 j.val) 126#32).toInt = (j.val : ℤ) - 126 := by
  decide +kernel

theorem power_eq (j : Fin 252) : power j.val = (pw (j.val + 1) : EReal) := by
  unfold power
  rw [power_int, Ideal.exp2_coe]
  congr 1
  show (2 : ℝ) ^ (((j.val : ℤ) - 126 : ℤ) : ℝ) = _
  rw [Real.rpow_intCast]
  unfold pw
  congr 1
  push_cast
  ring

/-- The reference's greatest power of two not above `y`, or 0. -/
noncomputable def below (y : EReal) : EReal :=
  top (fun j : Fin 252 => Scalar.select (Ideal.cmp .ole (power j.val) y) (power j.val) 0)

theorem select_ole (x y a b : EReal) : Scalar.select (Ideal.cmp .ole x y) a b = if x ≤ y then a else b := by
  unfold Scalar.select Ideal.cmp
  by_cases h : x ≤ y <;> simp [h]

theorem select_oeq (x y a b : EReal) : Scalar.select (Ideal.cmp .oeq x y) a b = if x = y then a else b := by
  unfold Scalar.select Ideal.cmp
  by_cases h : x = y <;> simp [h]

theorem below_eq (y : EReal) (K : ℕ) (hK : K ≤ 252) (h : K = 0 ∨ (pw K : EReal) ≤ y)
    (hlast : ∀ k, K < k → k ≤ 252 → ¬ (pw k : EReal) ≤ y) :
    below y = if K = 0 then 0 else (pw K : EReal) := by
  unfold below
  apply le_antisymm
  · refine top_le _ _ fun j => ?_
    rw [select_ole, power_eq]
    split
    · rename_i hj
      have hjK : j.val + 1 ≤ K := by
        by_contra hc
        exact hlast (j.val + 1) (by omega) (by omega) hj
      rw [if_neg (by omega)]
      exact EReal.coe_le_coe_iff.mpr (pw_mono hjK)
    · split
      · exact le_refl _
      · exact_mod_cast (pw_pos K).le
  · by_cases h0 : K = 0
    · rw [if_pos h0]
      refine le_trans ?_ (le_top _ (⟨0, by omega⟩ : Fin 252))
      simp only
      rw [select_ole, power_eq ⟨0, by omega⟩]
      split
      · exact_mod_cast (pw_pos _).le
      · exact le_refl _
    · rw [if_neg h0]
      refine le_trans ?_ (le_top _ (⟨K - 1, by omega⟩ : Fin 252))
      simp only
      rw [select_ole, power_eq ⟨K - 1, by omega⟩]
      have e : K - 1 + 1 = K := by omega
      simp only [e]
      rw [if_pos (h.resolve_left h0)]

theorem select_zero_word {α : Type} (w : BitVec 32) (a b : α) :
    Scalar.select (IntOp.cmpi .eq w 0#32) a b = if w = 0#32 then a else b := by
  unfold Scalar.select
  by_cases h : w = 0#32
  · simp [IntOp.cmpi, h]
  · have h' : (w == 0#32) = false := beq_eq_false_iff_ne.mpr h
    simp [IntOp.cmpi, h', h]

theorem pwBits_ne_zero : ∀ k : Fin 252, pwBits (k.val + 1) ≠ 0#32 := by
  decide +kernel

/-- Scale and inverse by the last power not above `y`. -/
theorem scaleOf_cases (y : EReal) (K : ℕ) (hK : K ≤ 252) (h : K = 0 ∨ (pw K : EReal) ≤ y)
    (hlast : ∀ k, K < k → k ≤ 252 → ¬ (pw k : EReal) ≤ y) :
    scaleOf y = (if K = 0 then 1 else (pw (K + 1) : EReal))
      ∧ invOf y = (if K = 0 then 1 else (pw (253 - K) : EReal)) := by
  unfold scaleOf invOf
  rw [expBits_eq y K hK h hlast, select_zero_word, select_zero_word]
  by_cases h0 : K = 0
  · subst h0
    simp [pwBits_zero]
  · have hne : ¬ pwBits K = 0#32 := by
      have := pwBits_ne_zero ⟨K - 1, by omega⟩
      simp only [show K - 1 + 1 = K by omega] at this
      exact this
    have e1 := pwBits_succ ⟨K, by omega⟩
    have e2 := pwBits_inv ⟨K, by omega⟩
    simp only at e1 e2
    rw [if_neg hne, if_neg hne, if_neg h0, if_neg h0, e1, e2, ofBits_pwBits _ (by omega) (by omega),
      ofBits_pwBits _ (by omega) (by omega)]
    exact ⟨rfl, rfl⟩

/-- The reference's scale is the kernel's. -/
theorem scale_ref (y : EReal) :
    Scalar.select (Ideal.cmp .oeq (below y) 0) (1 : EReal) (Ideal.ofBits .f32 0x40000000#32 * below y) = scaleOf y := by
  obtain ⟨K, hK, h, hlast⟩ := exists_last y
  rw [(scaleOf_cases y K hK h hlast).1, select_oeq, below_eq y K hK h hlast]
  by_cases h0 : K = 0
  · simp [h0]
  · have hp : ¬ ((pw K : ℝ) : EReal) = 0 := by exact_mod_cast (pw_pos K).ne'
    have e : Ideal.ofBits .f32 0x40000000#32 = ((2 : ℝ) : EReal) := by
      rw [show (0x40000000#32 : BitVec 32) = pwBits 128 by decide, ofBits_pwBits 128 (by omega) (by omega)]
      congr 1
      norm_num [pw]
    simp only [if_neg h0]
    rw [if_neg hp, e, ← EReal.coe_mul]
    congr 1
    unfold pw
    rw [show (((K + 1 : ℕ) : ℤ) - 127) = 1 + ((K : ℤ) - 127) by push_cast; ring, zpow_add₀ (by norm_num)]
    norm_num

/-- The reciprocal of the scale is the kernel's inverse. -/
theorem inv_ref (y : EReal) : Ideal.div 1 (scaleOf y) = invOf y := by
  obtain ⟨K, hK, h, hlast⟩ := exists_last y
  rw [(scaleOf_cases y K hK h hlast).1, (scaleOf_cases y K hK h hlast).2]
  by_cases h0 : K = 0
  · rw [if_pos h0, if_pos h0, ← EReal.coe_one, Ideal.div_coe one_ne_zero, ← EReal.coe_mul]
    norm_num
  · rw [if_neg h0, if_neg h0, Ideal.div_coe (pw_pos _).ne', one_mul, one_div]
    congr 1
    unfold pw
    rw [← zpow_neg]
    congr 1
    omega

/-- The bf16 words for ∓448 denote what the f32 words do. -/
theorem lo_bits : Ideal.ofBits .bf16 50144#16 = Ideal.ofBits .f32 0xC3E00000#32 := by
  simp [Ideal.ofBits, Ideal.ieee]
  norm_num
  rw [← EReal.coe_mul, ← EReal.coe_mul]
  norm_num

theorem hi_bits : Ideal.ofBits .bf16 17376#16 = Ideal.ofBits .f32 0x43E00000#32 := by
  simp [Ideal.ofBits, Ideal.ieee]
  norm_num
  rw [← EReal.coe_mul, ← EReal.coe_mul]
  norm_num

theorem ofBits_one : Ideal.ofBits .f32 0x3F800000#32 = 1 := by
  rw [show (0x3F800000#32 : BitVec 32) = pwBits 127 by decide, ofBits_pwBits 127 (by omega) (by omega)]
  norm_num [pw]

/-- Division by 2^18 is the product with 2^-18. -/
theorem div_count (z : EReal) :
    Ideal.div z (Ideal.ofBits .f32 0x48800000#32) = z * Ideal.ofBits .f32 914358272#32 := by
  rw [show (0x48800000#32 : BitVec 32) = pwBits 145 by decide, show (914358272#32 : BitVec 32) = pwBits 109 by decide,
    ofBits_pwBits 145 (by omega) (by omega), ofBits_pwBits 109 (by omega) (by omega),
    Ideal.div_coe (pw_pos _).ne', one_div]
  have e : (pw 145)⁻¹ = pw 109 := by
    unfold pw
    rw [← zpow_neg]
    norm_num
  rw [e]

/-- The two orders of clamping agree between ∓448. -/
theorem clamp_swap (v : EReal) :
    min (Ideal.ofBits .f32 0x43E00000#32) (max (Ideal.ofBits .f32 0xC3E00000#32) v)
      = min (max v (Ideal.ofBits .bf16 50144#16)) (Ideal.ofBits .bf16 17376#16) := by
  rw [lo_bits, hi_bits, min_comm, max_comm]

end Cert.Spec
-- ==== Proof.RefRaw.lean ====
module
public import proofs.«01_k».proof.Proof.Scale
public import proofs.«01_k».proof.Proof.Arrays
public import proofs.«01_k».proof.Proof.Gen.ReferenceIdeal.Value

@[expose] public section

/-!
# The reference's operations, read at an index

Each theorem reads one step of the reference, given its inputs, at one index.
-/

set_option maxRecDepth 16384

noncomputable section

namespace Cert.ReferenceIdeal.Rows
open Idealize.ShloMosaic Cert.ReferenceIdeal Cert.ReferenceIdeal.Gen

/-- The operations by their names over the extended reals. -/
theorem exp2_at (v : EReal) : FloatOps.exp2 (F := Ideal) (φ := .f32) v = Ideal.exp2 v := rfl
theorem sitofp_at (v : BitVec 32) : (FloatOps.sitofp (F := Ideal) .f32 v : EReal) = ((v.toInt : ℝ) : EReal) := rfl
theorem absf_at (v : EReal) : FloatOps.absf (F := Ideal) (φ := .f32) v = max v (-v) := rfl

/-- The reference's greatest power, as its maximum reads. -/
theorem below_fold (y : EReal) :
    Finset.fold max (Ideal.ofBits .f32 0xFF800000#32) (fun j : Fin 252 =>
      if Ideal.exp2 (((IntOp.subi (BitVec.ofNat 32 j.val) 126#32).toInt : ℝ) : EReal) ≤ y then
        Ideal.exp2 (((IntOp.subi (BitVec.ofNat 32 j.val) 126#32).toInt : ℝ) : EReal) else 0) Finset.univ = Spec.below y := by
  unfold Spec.below Spec.top
  simp only [Spec.select_ole, Spec.power]

/-- The scale, as the reference's choice reads. -/
theorem scale_fold (y : EReal) :
    (if Spec.below y = 0 then (1 : EReal) else Ideal.ofBits .f32 1073741824#32 * Spec.below y) = Spec.scaleOf y := by
  rw [← Spec.scale_ref, Spec.select_oeq]

/-- The greatest power of two not above each entry. -/
def belowV4096 (v6 : FVec Ideal S6x4096x1 .f32) : FVec Ideal S6x4096 .f32 :=
  (multiReduction (F := Ideal) .maximumf [2] S6x4096 (select (cmpf .ole (exp2 (sitofp (F := Ideal) .f32 (subi (iota .tc S6x4096x252 32 [2] iota_S6x4096x252_d2_w32) (broadcast S6x4096x252 126#32)))) (broadcastTo S6x4096x252 v6 broadcasts_S6x4096x1_S6x4096x252)) (exp2 (sitofp (F := Ideal) .f32 (subi (iota .tc S6x4096x252 32 [2] iota_S6x4096x252_d2_w32) (broadcast S6x4096x252 126#32)))) (broadcast S6x4096x252 (Scalar.ofBits (F := Ideal) .f32 0x00000000#32))) 0xFF800000#32 reduces_S6x4096x252_S6x4096 (.inl rfl) rfl)

theorem belowV4096_at (v6 : FVec Ideal S6x4096x1 .f32) (b : Fin 6) (s : Fin 4096) :
    (belowV4096 v6 (ix2 b s) : EReal) = Spec.below (v6 (ix3 b s 0)) := by
  rw [← below_fold]
  simp only [← exp2_at, ← sitofp_at]
  unfold belowV4096
  pointwise

/-- The choice between 1 and twice that power. -/
def chooseV4096 (v16 : FVec Ideal S6x4096 .f32) : FVec Ideal S6x4096 .f32 :=
  (select (cmpf .oeq v16 (broadcast S6x4096 (Scalar.ofBits (F := Ideal) .f32 0x00000000#32))) (broadcast S6x4096 (Scalar.ofBits (F := Ideal) .f32 0x3F800000#32)) (mulf (broadcast S6x4096 (Scalar.ofBits (F := Ideal) .f32 0x40000000#32)) v16) : FVec Ideal S6x4096 .f32)

theorem chooseV4096_at (v16 : FVec Ideal S6x4096 .f32) (b : Fin 6) (s : Fin 4096) :
    (chooseV4096 v16 (ix2 b s) : EReal)
      = if (v16 (ix2 b s) : EReal) = 0 then (1 : EReal) else Ideal.ofBits .f32 1073741824#32 * v16 (ix2 b s) := by
  unfold chooseV4096
  pointwise

theorem scaleV4096_at (v6 : FVec Ideal S6x4096x1 .f32) (b : Fin 6) (s : Fin 4096) :
    (chooseV4096 (belowV4096 v6) (ix2 b s) : EReal) = Spec.scaleOf (v6 (ix3 b s 0)) := by
  rw [chooseV4096_at, belowV4096_at, scale_fold]

/-- The greatest power of two not above each entry. -/
def belowV64 (v6 : FVec Ideal S6x64x1 .f32) : FVec Ideal S6x64 .f32 :=
  (multiReduction (F := Ideal) .maximumf [2] S6x64 (select (cmpf .ole (exp2 (sitofp (F := Ideal) .f32 (subi (iota .tc S6x64x252 32 [2] iota_S6x64x252_d2_w32) (broadcast S6x64x252 126#32)))) (broadcastTo S6x64x252 v6 broadcasts_S6x64x1_S6x64x252)) (exp2 (sitofp (F := Ideal) .f32 (subi (iota .tc S6x64x252 32 [2] iota_S6x64x252_d2_w32) (broadcast S6x64x252 126#32)))) (broadcast S6x64x252 (Scalar.ofBits (F := Ideal) .f32 0x00000000#32))) 0xFF800000#32 reduces_S6x64x252_S6x64 (.inl rfl) rfl)

theorem belowV64_at (v6 : FVec Ideal S6x64x1 .f32) (b : Fin 6) (s : Fin 64) :
    (belowV64 v6 (ix2 b s) : EReal) = Spec.below (v6 (ix3 b s 0)) := by
  rw [← below_fold]
  simp only [← exp2_at, ← sitofp_at]
  unfold belowV64
  pointwise

/-- The choice between 1 and twice that power. -/
def chooseV64 (v16 : FVec Ideal S6x64 .f32) : FVec Ideal S6x64 .f32 :=
  (select (cmpf .oeq v16 (broadcast S6x64 (Scalar.ofBits (F := Ideal) .f32 0x00000000#32))) (broadcast S6x64 (Scalar.ofBits (F := Ideal) .f32 0x3F800000#32)) (mulf (broadcast S6x64 (Scalar.ofBits (F := Ideal) .f32 0x40000000#32)) v16) : FVec Ideal S6x64 .f32)

theorem chooseV64_at (v16 : FVec Ideal S6x64 .f32) (b : Fin 6) (s : Fin 64) :
    (chooseV64 v16 (ix2 b s) : EReal)
      = if (v16 (ix2 b s) : EReal) = 0 then (1 : EReal) else Ideal.ofBits .f32 1073741824#32 * v16 (ix2 b s) := by
  unfold chooseV64
  pointwise

theorem scaleV64_at (v6 : FVec Ideal S6x64x1 .f32) (b : Fin 6) (s : Fin 64) :
    (chooseV64 (belowV64 v6) (ix2 b s) : EReal) = Spec.scaleOf (v6 (ix3 b s 0)) := by
  rw [chooseV64_at, belowV64_at, scale_fold]

/-- The largest entry of a row. -/
theorem max_raw (v2 : FVec Ideal S6x4096x1536 .f32) (b : Fin 6) (s : Fin 4096) :
    ((multiReduction (F := Ideal) .maximumf [2] S6x4096 v2 0xFF800000#32 reduces_S6x4096x1536_S6x4096 (.inl rfl) rfl : FVec Ideal S6x4096 .f32) (ix2 b s) : EReal)
      = Finset.fold max (Ideal.ofBits .f32 0xFF800000#32) (fun d : Fin 1536 => (v2 (ix3 b s d) : EReal)) Finset.univ := by
  pointwise

/-- An entry over the divisor. -/
theorem over_raw (v3 : FVec Ideal S6x4096 .f32) (b : Fin 6) (s : Fin 4096) :
    ((mulf (shapeCast S6x4096x1 v3 shapeCasts_S6x4096_S6x4096x1) (broadcast S6x4096x1 (Scalar.ofBits (F := Ideal) .f32 0x3B124925#32)) : FVec Ideal S6x4096x1 .f32) (ix3 b s 0) : EReal)
      = v3 (ix2 b s) * Ideal.ofBits .f32 991054117#32 := by
  pointwise

/-- A magnitude. -/
theorem abs_raw (v1 : Vec Ideal S6x4096x1536 .bf16) (b : Fin 6) (s : Fin 4096) (d : Fin 1536) :
    ((absf (extf .f32 v1 bitsLt_bf16_f32) : FVec Ideal S6x4096x1536 .f32) (ix3 b s d) : EReal)
      = Spec.ab (v1 (ix3 b s d)) := by
  unfold Spec.ab
  rw [← absf_at]
  pointwise

/-- A code of a hidden row. -/
theorem code_raw (v1 : FVec Ideal S6x4096x1536 .f32) (v22 : FVec Ideal S6x4096 .f32) (b : Fin 6) (s : Fin 4096) (d : Fin 1536) :
    ((truncf .fp8e4m3 (minimumf (broadcast S6x4096x1536 (Scalar.ofBits (F := Ideal) .f32 0x43E00000#32)) (maximumf (broadcast S6x4096x1536 (Scalar.ofBits (F := Ideal) .f32 0xC3E00000#32)) (mulf v1 (broadcastTo S6x4096x1536 (shapeCast S6x4096x1 (divf (broadcast S6x4096 (Scalar.ofBits (F := Ideal) .f32 0x3F800000#32)) v22) shapeCasts_S6x4096_S6x4096x1) broadcasts_S6x4096x1_S6x4096x1536)))) bitsLt_fp8e4m3_f32 : FVec Ideal S6x4096x1536 .fp8e4m3) (ix3 b s d) : EReal)
      = min (Ideal.ofBits .f32 0x43E00000#32) (max (Ideal.ofBits .f32 0xC3E00000#32) ((v1 (ix3 b s d) : EReal) * Ideal.div 1 (v22 (ix2 b s)))) := by
  pointwise

/-- A prediction. -/
theorem pred_raw (v22 : FVec Ideal S6x4096 .f32) (v32 : FVec Ideal S6x4096x1536 .fp8e4m3) (v36 : FVec Ideal S1536x64 .fp8e4m3) (v42 v46 : Vec Ideal S64 .f32) (b : Fin 6) (s : Fin 4096) (p : Fin 64) :
    ((addf (mulf (mulf (shapeCast S6x4096x64 (matmul (F := Ideal) dot_S24576x1536_S1536x64_S24576x64_1_0_0_1_n_n none (shapeCast S24576x1536 v32 shapeCasts_S6x4096x1536_S24576x1536) v36 (constant S24576x64 .f32 0x00000000#32)) shapeCasts_S24576x64_S6x4096x64) (broadcastTo S6x4096x64 (shapeCast S6x4096x1 v22 shapeCasts_S6x4096_S6x4096x1) broadcasts_S6x4096x1_S6x4096x64)) (broadcastTo S6x4096x64 (shapeCast S1x1x64 v42 shapeCasts_S64_S1x1x64) broadcasts_S1x1x64_S6x4096x64)) (broadcastTo S6x4096x64 (shapeCast S1x1x64 v46 shapeCasts_S64_S1x1x64) broadcasts_S1x1x64_S6x4096x64) : FVec Ideal S6x4096x64 .f32) (ix3 b s p) : EReal)
      = (∑ d : Fin 1536, (v32 (ix3 b s d) : EReal) * v36 (ix2 d p)) * v22 (ix2 b s) * v42 (ix1 p) + v46 (ix1 p) := by
  pointwise

/-- Samples and channels laid out as the results are. -/
theorem swap_raw (v : FVec Ideal S6x4096x64 .f32) (b : Fin 6) (p : Fin 64) (s : Fin 4096) :
    ((transpose S6x64x4096 [0, 2, 1] v transposes_S6x4096x64_p0_2_1_S6x64x4096 : FVec Ideal S6x64x4096 .f32) (ix3 b p s) : EReal)
      = v (ix3 b s p) := by
  pointwise

/-- The same of the codes. -/
theorem swap_raw8 (v : FVec Ideal S6x4096x64 .fp8e5m2) (b : Fin 6) (p : Fin 64) (s : Fin 4096) :
    ((transpose S6x64x4096 [0, 2, 1] v transposes_S6x4096x64_p0_2_1_S6x64x4096 : FVec Ideal S6x64x4096 .fp8e5m2) (ix3 b p s) : EReal)
      = v (ix3 b s p) := by
  pointwise

/-- A prediction less its target. -/
theorem diff_raw (v49 : FVec Ideal S6x4096x64 .f32) (v52 v54 : Vec Ideal S6x4096x64 .bf16) (b : Fin 6) (s : Fin 4096) (p : Fin 64) :
    ((subf v49 (subf (extf .f32 v52 bitsLt_bf16_f32) (extf .f32 v54 bitsLt_bf16_f32)) : FVec Ideal S6x4096x64 .f32) (ix3 b s p) : EReal)
      = (v49 (ix3 b s p) : EReal) - ((v52 (ix3 b s p) : EReal) - v54 (ix3 b s p)) := by
  pointwise

/-- A sample's loss. -/
theorem loss_raw (v57 : FVec Ideal S6x4096x64 .f32) (v63 : Vec Ideal S6 .f32) (b : Fin 6) :
    ((mulf v63 (divf (multiReduction .add [1] S6 (multiReduction .add [2] S6x4096 (mulf v57 v57) 0x00000000#32 reduces_S6x4096x64_S6x4096 (.inl rfl) rfl) 0x00000000#32 reduces_S6x4096_S6 (.inl rfl) rfl) (broadcast S6 (Scalar.ofBits (F := Ideal) .f32 0x48800000#32))) : FVec Ideal S6 .f32) (ix1 b) : EReal)
      = v63 (ix1 b) * Ideal.div (∑ s : Fin 4096, ∑ p : Fin 64, (v57 (ix3 b s p) : EReal) * v57 (ix3 b s p)) (Ideal.ofBits .f32 0x48800000#32) := by
  pointwise

/-- A gradient. -/
theorem grad_raw (v57 : FVec Ideal S6x4096x64 .f32) (v66 : Vec Ideal S6 .f32) (b : Fin 6) (s : Fin 4096) (p : Fin 64) :
    ((mulf v57 (broadcastTo S6x4096x64 (shapeCast S6x1x1 (mulf v66 (broadcast S6 (Scalar.ofBits (F := Ideal) .f32 0x35AAAAAB#32))) shapeCasts_S6_S6x1x1) broadcasts_S6x1x1_S6x4096x64) : FVec Ideal S6x4096x64 .f32) (ix3 b s p) : EReal)
      = (v57 (ix3 b s p) : EReal) * (v66 (ix1 b) * Ideal.ofBits .f32 900377259#32) := by
  pointwise

/-- The largest entry of a sample and channel. -/
theorem gmax_raw (v72 : FVec Ideal S6x4096x64 .f32) (b : Fin 6) (p : Fin 64) :
    ((multiReduction (F := Ideal) .maximumf [1] S6x64 v72 0xFF800000#32 reduces_S6x4096x64_S6x64 (.inl rfl) rfl : FVec Ideal S6x64 .f32) (ix2 b p) : EReal)
      = Finset.fold max (Ideal.ofBits .f32 0xFF800000#32) (fun s : Fin 4096 => (v72 (ix3 b s p) : EReal)) Finset.univ := by
  pointwise

/-- An entry over the divisor. -/
theorem gover_raw (v73 : FVec Ideal S6x64 .f32) (b : Fin 6) (p : Fin 64) :
    ((mulf (shapeCast S6x64x1 v73 shapeCasts_S6x64_S6x64x1) (broadcast S6x64x1 (Scalar.ofBits (F := Ideal) .f32 0x37924925#32)) : FVec Ideal S6x64x1 .f32) (ix3 b p 0) : EReal)
      = v73 (ix2 b p) * Ideal.ofBits .f32 932333861#32 := by
  pointwise

/-- A magnitude of the gradient. -/
theorem gabs_raw (v1 : FVec Ideal S6x4096x64 .f32) (b : Fin 6) (s : Fin 4096) (p : Fin 64) :
    ((absf v1 : FVec Ideal S6x4096x64 .f32) (ix3 b s p) : EReal)
      = Spec.ab (v1 (ix3 b s p)) := by
  unfold Spec.ab
  rw [← absf_at]
  pointwise

/-- A code of the gradient. -/
theorem gcode_raw (v71 : FVec Ideal S6x4096x64 .f32) (v92 : FVec Ideal S6x64 .f32) (b : Fin 6) (s : Fin 4096) (p : Fin 64) :
    ((truncf .fp8e5m2 (minimumf (broadcast S6x4096x64 (Scalar.ofBits (F := Ideal) .f32 0x47600000#32)) (maximumf (broadcast S6x4096x64 (Scalar.ofBits (F := Ideal) .f32 0xC7600000#32)) (mulf v71 (broadcastTo S6x4096x64 (shapeCast S6x1x64 (divf (broadcast S6x64 (Scalar.ofBits (F := Ideal) .f32 0x3F800000#32)) v92) shapeCasts_S6x64_S6x1x64) broadcasts_S6x1x64_S6x4096x64)))) bitsLt_fp8e5m2_f32 : FVec Ideal S6x4096x64 .fp8e5m2) (ix3 b s p) : EReal)
      = min (Ideal.ofBits .f32 1197473792#32) (max (Ideal.ofBits .f32 3344957440#32) ((v71 (ix3 b s p) : EReal) * Ideal.div 1 (v92 (ix2 b p)))) := by
  pointwise

/-- The gradient of a hidden row. -/
theorem dH_raw (v102 : FVec Ideal S6x4096x64 .fp8e5m2) (v92 : FVec Ideal S6x64 .f32) (v112 : Vec Ideal S1536x64 .fp8e4m3) (v114 : Vec Ideal S64 .f32) (b : Fin 6) (s : Fin 4096) (d : Fin 1536) :
    ((shapeCast S6x4096x1536 (truncf .bf16 (matmul (F := Ideal) dot_S24576x64_S1536x64_S24576x1536_1_1_0_0_n_n none (shapeCast S24576x64 (mulf (extf .bf16 v102 bitsLt_fp8e5m2_bf16) (broadcastTo S6x4096x64 (shapeCast S6x1x64 (truncf .bf16 v92 bitsLt_bf16_f32 : FVec Ideal S6x64 .bf16) shapeCasts_S6x64_S6x1x64) broadcasts_S6x1x64_S6x4096x64)) shapeCasts_S6x4096x64_S24576x64 : FVec Ideal S24576x64 .bf16) (mulf (extf .bf16 v112 bitsLt_fp8e4m3_bf16) (broadcastTo S1536x64 (shapeCast S1x64 (truncf .bf16 v114 bitsLt_bf16_f32 : FVec Ideal S64 .bf16) shapeCasts_S64_S1x64) broadcasts_S1x64_S1536x64)) (constant S24576x1536 .f32 0x00000000#32)) bitsLt_bf16_f32 : FVec Ideal S24576x1536 .bf16) shapeCasts_S24576x1536_S6x4096x1536 : FVec Ideal S6x4096x1536 .bf16) (ix3 b s d) : EReal)
      = ∑ p : Fin 64, (v102 (ix3 b s p) : EReal) * v92 (ix2 b p) * (v112 (ix2 d p) * v114 (ix1 p)) := by
  pointwise

/-- The gradient of the weights, over all rows. -/
theorem dW_raw (v22 : FVec Ideal S6x4096 .f32) (v32 : FVec Ideal S6x4096x1536 .fp8e4m3) (v102 : FVec Ideal S6x4096x64 .fp8e5m2) (v92 : FVec Ideal S6x64 .f32) (p : Fin 64) (d : Fin 1536) :
    ((transpose S64x1536 [1, 0] (matmul (F := Ideal) dot_S24576x1536_S24576x64_S1536x64_0_0_1_1_n_n none (shapeCast S24576x1536 (mulf (extf .bf16 v32 bitsLt_fp8e4m3_bf16) (broadcastTo S6x4096x1536 (shapeCast S6x4096x1 (truncf .bf16 v22 bitsLt_bf16_f32 : FVec Ideal S6x4096 .bf16) shapeCasts_S6x4096_S6x4096x1) broadcasts_S6x4096x1_S6x4096x1536)) shapeCasts_S6x4096x1536_S24576x1536) (shapeCast S24576x64 (mulf (extf .bf16 v102 bitsLt_fp8e5m2_bf16) (broadcastTo S6x4096x64 (shapeCast S6x1x64 (truncf .bf16 v92 bitsLt_bf16_f32 : FVec Ideal S6x64 .bf16) shapeCasts_S6x64_S6x1x64) broadcasts_S6x1x64_S6x4096x64)) shapeCasts_S6x4096x64_S24576x64 : FVec Ideal S24576x64 .bf16) (constant S1536x64 .f32 0x00000000#32)) transposes_S1536x64_p1_0_S64x1536 : FVec Ideal S64x1536 .f32) (ix2 p d) : EReal)
      = ∑ r : Fin 24576, (v32 (ix3 ⟨r.val / 4096, by omega⟩ ⟨r.val % 4096, by omega⟩ d) : EReal) * v22 (ix2 ⟨r.val / 4096, by omega⟩ ⟨r.val % 4096, by omega⟩) * (v102 (ix3 ⟨r.val / 4096, by omega⟩ ⟨r.val % 4096, by omega⟩ p) * v92 (ix2 ⟨r.val / 4096, by omega⟩ p)) := by
  pointwise

end Cert.ReferenceIdeal.Rows
-- ==== Proof.RefRows.lean ====
module
public import proofs.«01_k».proof.Proof.RefRaw
public import proofs.«01_k».proof.Proof.Running

@[expose] public section

/-!
# The reference's results

Each array the reference returns holds the numbers of Spec.lean.
-/

set_option maxRecDepth 16384

noncomputable section

namespace Cert.ReferenceIdeal.Rows
open Idealize.ShloMosaic Cert.ReferenceIdeal Cert.ReferenceIdeal.Gen Cert.ReferenceIdeal.Value

variable (x : Vec Ideal S6x4096x1536 .bf16) (w : Vec Ideal S1536x64 .fp8e4m3) (ws bi : Vec Ideal S64 .f32)
  (x0 nz : Vec Ideal S6x4096x64 .bf16) (lw : Vec Ideal S6 .f32)

/-! The numbers the arguments hold. -/

theorem x_at (b : Fin 6) (s : Fin 4096) (d : Fin 1536) :
    (x (ix3 b s d) : EReal) = (Spec.argsOf x w ws bi x0 nz lw).x b.val s.val d.val := by
  simp only [Spec.argsOf]
  rw [dif_pos ⟨b.isLt, s.isLt, d.isLt⟩]
theorem w_at (d : Fin 1536) (p : Fin 64) : (w (ix2 d p) : EReal) = (Spec.argsOf x w ws bi x0 nz lw).w p.val d.val := by
  simp only [Spec.argsOf]
  rw [dif_pos ⟨p.isLt, d.isLt⟩]
theorem ws_at (p : Fin 64) : (ws (ix1 p) : EReal) = (Spec.argsOf x w ws bi x0 nz lw).ws p.val := by
  simp only [Spec.argsOf]
  rw [dif_pos p.isLt]
theorem bi_at (p : Fin 64) : (bi (ix1 p) : EReal) = (Spec.argsOf x w ws bi x0 nz lw).bias p.val := by
  simp only [Spec.argsOf]
  rw [dif_pos p.isLt]
theorem x0_at (b : Fin 6) (s : Fin 4096) (p : Fin 64) :
    (x0 (ix3 b s p) : EReal) = (Spec.argsOf x w ws bi x0 nz lw).x0 b.val p.val s.val := by
  simp only [Spec.argsOf]
  rw [dif_pos ⟨b.isLt, p.isLt, s.isLt⟩]
theorem nz_at (b : Fin 6) (s : Fin 4096) (p : Fin 64) :
    (nz (ix3 b s p) : EReal) = (Spec.argsOf x w ws bi x0 nz lw).nz b.val p.val s.val := by
  simp only [Spec.argsOf]
  rw [dif_pos ⟨b.isLt, p.isLt, s.isLt⟩]
theorem lw_at (b : Fin 6) : (lw (ix1 b) : EReal) = (Spec.argsOf x w ws bi x0 nz lw).lw b.val := by
  simp only [Spec.argsOf]
  rw [dif_pos b.isLt]

/-! The rows. -/

/-- The reference's range of a row. -/
def rangeV : FVec Ideal S6x4096x1 .f32 :=
  mulf (shapeCast S6x4096x1 (multiReduction (F := Ideal) .maximumf [2] S6x4096
    (absf (extf .f32 x bitsLt_bf16_f32) : FVec Ideal S6x4096x1536 .f32) 0xFF800000#32 reduces_S6x4096x1536_S6x4096
    (.inl rfl) rfl) shapeCasts_S6x4096_S6x4096x1) (broadcast S6x4096x1 (Scalar.ofBits (F := Ideal) .f32 0x3B124925#32))

theorem pay4_eq : k0_pay4 (F := Ideal) x = chooseV4096 (belowV4096 (rangeV x)) := rfl

theorem rangeV_at (b : Fin 6) (s : Fin 4096) :
    (rangeV x (ix3 b s 0) : EReal) = Spec.rowY (Spec.argsOf x w ws bi x0 nz lw) b.val s.val := by
  unfold rangeV Spec.rowY
  refine (over_raw _ b s).trans (congrArg (· * Ideal.ofBits .f32 991054117#32) ((max_raw _ b s).trans ?_))
  unfold Spec.top
  refine Finset.fold_congr fun d _ => ?_
  exact (abs_raw x b s d).trans (congrArg Spec.ab (x_at x w ws bi x0 nz lw b s d))

/-- The scales of the hidden rows. -/
theorem scale_at (b : Fin 6) (s : Fin 4096) :
    (k0_pay4 (F := Ideal) x (ix2 b s) : EReal) = Spec.hs (Spec.argsOf x w ws bi x0 nz lw) b.val s.val := by
  rw [pay4_eq, scaleV4096_at, rangeV_at x w ws bi x0 nz lw]
  rfl

theorem pay5_eq : k0_pay5 (F := Ideal) x = (truncf .fp8e4m3 (minimumf (broadcast S6x4096x1536
    (Scalar.ofBits (F := Ideal) .f32 0x43E00000#32)) (maximumf (broadcast S6x4096x1536
    (Scalar.ofBits (F := Ideal) .f32 0xC3E00000#32)) (mulf (k0_pay3 x) (broadcastTo S6x4096x1536 (shapeCast S6x4096x1
    (divf (broadcast S6x4096 (Scalar.ofBits (F := Ideal) .f32 0x3F800000#32)) (k0_pay4 x)) shapeCasts_S6x4096_S6x4096x1)
    broadcasts_S6x4096x1_S6x4096x1536)))) bitsLt_fp8e4m3_f32 : FVec Ideal S6x4096x1536 .fp8e4m3) := rfl

/-- The codes of the hidden rows. -/
theorem code_at (b : Fin 6) (s : Fin 4096) (d : Fin 1536) :
    (k0_pay5 (F := Ideal) x (ix3 b s d) : EReal) = Spec.code (Spec.argsOf x w ws bi x0 nz lw) b.val s.val d.val := by
  rw [pay5_eq]
  refine (code_raw (k0_pay3 x) (k0_pay4 x) b s d).trans ?_
  rw [scale_at x w ws bi x0 nz lw, Spec.clamp_swap]
  unfold Spec.hs Spec.code
  rw [Spec.inv_ref, ← x_at x w ws bi x0 nz lw]
  rfl

/-- The predictions as the reference computes them. -/
def predV : FVec Ideal S6x4096x64 .f32 := k0_pay7 (F := Ideal) (k0_pay4 x) (k0_pay6 x) w ws bi

theorem predV_at (b : Fin 6) (s : Fin 4096) (p : Fin 64) :
    (predV x w ws bi (ix3 b s p) : EReal) = Spec.pred (Spec.argsOf x w ws bi x0 nz lw) b.val p.val s.val := by
  refine (pred_raw (k0_pay4 x) (k0_pay5 x) w ws bi b s p).trans ?_
  unfold Spec.pred Spec.acc
  rw [scale_at x w ws bi x0 nz lw, ws_at x w ws bi x0 nz lw, bi_at x w ws bi x0 nz lw]
  refine congrArg (fun z : EReal => z * _ * _ + _) (Finset.sum_congr rfl fun d _ => ?_)
  rw [code_at x w ws bi x0 nz lw, w_at x w ws bi x0 nz lw, mul_comm]

/-- The predictions less the targets. -/
def diffV : FVec Ideal S6x4096x64 .f32 := k0_pay9 (F := Ideal) (k0_pay4 x) (k0_pay6 x) w ws bi nz x0

theorem diffV_at (b : Fin 6) (s : Fin 4096) (p : Fin 64) :
    (diffV x w ws bi x0 nz (ix3 b s p) : EReal) = Spec.diff (Spec.argsOf x w ws bi x0 nz lw) b.val p.val s.val := by
  refine (diff_raw (predV x w ws bi) nz x0 b s p).trans ?_
  unfold Spec.diff
  rw [predV_at x w ws bi x0 nz lw, nz_at x w ws bi x0 nz lw, x0_at x w ws bi x0 nz lw]

/-- The gradient of the predictions. -/
def gradV : FVec Ideal S6x4096x64 .f32 := k0_pay11 (F := Ideal) (k0_pay4 x) (k0_pay6 x) w ws bi nz x0 lw

theorem gradV_at (b : Fin 6) (s : Fin 4096) (p : Fin 64) :
    (gradV x w ws bi x0 nz lw (ix3 b s p) : EReal) = Spec.grad (Spec.argsOf x w ws bi x0 nz lw) b.val p.val s.val := by
  refine (grad_raw (diffV x w ws bi x0 nz) lw b s p).trans ?_
  unfold Spec.grad
  rw [diffV_at x w ws bi x0 nz lw, lw_at x w ws bi x0 nz lw]

/-- The largest magnitudes of the gradient, one a sample and channel. -/
def gtopV : FVec Ideal S6x64x1 .f32 := k0_pay12 (F := Ideal) (k0_pay4 x) (k0_pay6 x) w ws bi nz x0 lw

/-- The range of the gradient of a sample and channel. -/
def grangeV (v : FVec Ideal S6x64x1 .f32) : FVec Ideal S6x64x1 .f32 :=
  mulf v (broadcast S6x64x1 (Scalar.ofBits (F := Ideal) .f32 0x37924925#32))

theorem pay13_eq (v : FVec Ideal S6x64x1 .f32) : k0_pay13 (F := Ideal) v = chooseV64 (belowV64 (grangeV v)) := rfl

theorem grangeV_at (b : Fin 6) (p : Fin 64) :
    (grangeV (gtopV x w ws bi x0 nz lw) (ix3 b p 0) : EReal) = Spec.gradY (Spec.argsOf x w ws bi x0 nz lw) b.val p.val := by
  unfold Spec.gradY
  refine (gover_raw (multiReduction (F := Ideal) .maximumf [1] S6x64 (absf (gradV x w ws bi x0 nz lw)) 0xFF800000#32
    reduces_S6x4096x64_S6x64 (.inl rfl) rfl) b p).trans
    (congrArg (· * Ideal.ofBits .f32 932333861#32) ((gmax_raw _ b p).trans ?_))
  unfold Spec.top
  refine Finset.fold_congr fun s _ => ?_
  exact (gabs_raw (gradV x w ws bi x0 nz lw) b s p).trans (congrArg Spec.ab (gradV_at x w ws bi x0 nz lw b s p))

/-- The scales of the gradient. -/
theorem gscale_at (b : Fin 6) (p : Fin 64) :
    (k0_pay13 (F := Ideal) (gtopV x w ws bi x0 nz lw) (ix2 b p) : EReal)
      = Spec.gs (Spec.argsOf x w ws bi x0 nz lw) b.val p.val := by
  rw [pay13_eq, scaleV64_at, grangeV_at]
  rfl

/-- The codes of the gradient, as the reference computes them. -/
def gcodeV : FVec Ideal S6x4096x64 .fp8e5m2 := k0_pay14 (F := Ideal) (gradV x w ws bi x0 nz lw) (gtopV x w ws bi x0 nz lw)

theorem gcodeV_at (b : Fin 6) (s : Fin 4096) (p : Fin 64) :
    (gcodeV x w ws bi x0 nz lw (ix3 b s p) : EReal) = Spec.gcode (Spec.argsOf x w ws bi x0 nz lw) b.val p.val s.val := by
  refine (gcode_raw (gradV x w ws bi x0 nz lw) (k0_pay13 (gtopV x w ws bi x0 nz lw)) b s p).trans ?_
  rw [gscale_at, gradV_at]
  unfold Spec.gs Spec.gcode
  rw [Spec.inv_ref]

/-! The values the reference states apart. -/

theorem pay18_eq : k0_pay18 (F := Ideal) x w ws bi x0 nz lw = k0_pay4 x := by
  unfold k0_pay18
  rw [View.ld_unit_zero (S := S6x4096x1536) hz0 _ x]

theorem pay19_eq : k0_pay19 (F := Ideal) x w ws bi x0 nz lw = k0_pay6 x := by
  unfold k0_pay19
  rw [View.ld_unit_zero (S := S6x4096x1536) hz0 _ x]

theorem pay20_eq : k0_pay20 (F := Ideal) x w ws bi x0 nz lw = gradV x w ws bi x0 nz lw := by
  unfold k0_pay20
  rw [pay18_eq, pay19_eq, View.ld_unit_zero (S := S1536x64) hz1 _ w, View.ld_unit_zero (S := S64) hz2 _ ws,
    View.ld_unit_zero (S := S64) hz2 _ bi, View.ld_unit_zero (S := S6x4096x64) hz0 _ x0,
    View.ld_unit_zero (S := S6x4096x64) hz0 _ nz, View.ld_unit_zero (S := S6) hz2 _ lw]
  rfl

theorem pay21_eq : k0_pay21 (F := Ideal) x w ws bi x0 nz lw = gtopV x w ws bi x0 nz lw := by
  unfold k0_pay21
  rw [pay18_eq, pay19_eq, View.ld_unit_zero (S := S1536x64) hz1 _ w, View.ld_unit_zero (S := S64) hz2 _ ws,
    View.ld_unit_zero (S := S64) hz2 _ bi, View.ld_unit_zero (S := S6x4096x64) hz0 _ x0,
    View.ld_unit_zero (S := S6x4096x64) hz0 _ nz, View.ld_unit_zero (S := S6) hz2 _ lw]
  rfl

/-! The results. -/

theorem loss_eq : G7 (F := Ideal) x w ws bi x0 nz lw = Spec.outLoss (Spec.argsOf x w ws bi x0 nz lw) := by
  show k0_pay10 (F := Ideal) (k0_pay18 x w ws bi x0 nz lw) (k0_pay19 x w ws bi x0 nz lw) w ws bi nz x0 lw = _
  rw [pay18_eq, pay19_eq]
  funext i
  obtain ⟨b, rfl⟩ : ∃ b, i = ix1 b := ⟨i 0, eq_ix1 i⟩
  refine (loss_raw (diffV x w ws bi x0 nz) lw b).trans ?_
  show _ = Spec.loss (Spec.argsOf x w ws bi x0 nz lw) b.val
  unfold Spec.loss Spec.sse
  rw [Spec.div_count, lw_at x w ws bi x0 nz lw, Finset.sum_comm]
  simp only [diffV_at x w ws bi x0 nz lw]

theorem pred_eq : G8 (F := Ideal) x w ws bi x0 nz lw = Spec.outPred (Spec.argsOf x w ws bi x0 nz lw) := by
  show k0_pay8 (F := Ideal) (k0_pay18 x w ws bi x0 nz lw) (k0_pay19 x w ws bi x0 nz lw) w ws bi = _
  rw [pay18_eq, pay19_eq]
  funext i
  obtain ⟨b, p, s, rfl⟩ : ∃ b p s, i = ix3 b p s := ⟨i 0, i 1, i 2, eq_ix3 i⟩
  exact (swap_raw (predV x w ws bi) b p s).trans (predV_at x w ws bi x0 nz lw b s p)

theorem dH_eq : G9 (F := Ideal) x w ws bi x0 nz lw = Spec.outDH (Spec.argsOf x w ws bi x0 nz lw) := by
  show k0_pay1 (F := Ideal) (k0_pay16 (k0_pay20 x w ws bi x0 nz lw) (k0_pay21 x w ws bi x0 nz lw)) (k0_pay17 w) ws = _
  rw [pay20_eq, pay21_eq]
  funext i
  obtain ⟨b, s, d, rfl⟩ : ∃ b s d, i = ix3 b s d := ⟨i 0, i 1, i 2, eq_ix3 i⟩
  refine (dH_raw (gcodeV x w ws bi x0 nz lw) (k0_pay13 (gtopV x w ws bi x0 nz lw)) w ws b s d).trans ?_
  show _ = Spec.dH (Spec.argsOf x w ws bi x0 nz lw) b.val s.val d.val
  unfold Spec.dH Spec.gdq Spec.wdq
  refine Finset.sum_congr rfl fun p _ => ?_
  rw [gcodeV_at, gscale_at, w_at x w ws bi x0 nz lw, ws_at x w ws bi x0 nz lw]

/-- A sum over all rows is a sum over samples of sums over tokens. -/
theorem sum_rows (f : ℕ → ℕ → EReal) :
    ∑ r : Fin 24576, f (r.val / 4096) (r.val % 4096) = ∑ b : Fin 6, ∑ s : Fin 4096, f b.val s.val := by
  rw [← Finset.sum_range (fun r => f (r / 4096) (r % 4096)), show 24576 = 4096 * 6 by norm_num, Spec.sum_samples,
    Finset.sum_range]
  refine Finset.sum_congr rfl fun b _ => Finset.sum_congr rfl fun s _ => ?_
  have := s.isLt
  rw [show (4096 * b.val + s.val) / 4096 = b.val by omega, show (4096 * b.val + s.val) % 4096 = s.val by omega]

theorem dW_eq : G10 (F := Ideal) x w ws bi x0 nz lw = Spec.outDW (Spec.argsOf x w ws bi x0 nz lw) := by
  show k0_pay2 (F := Ideal) (k0_pay18 x w ws bi x0 nz lw) (k0_pay5 x)
    (k0_pay16 (k0_pay20 x w ws bi x0 nz lw) (k0_pay21 x w ws bi x0 nz lw)) = _
  rw [pay18_eq, pay20_eq, pay21_eq]
  funext i
  obtain ⟨p, d, rfl⟩ : ∃ p d, i = ix2 p d := ⟨i 0, i 1, eq_ix2 i⟩
  refine (dW_raw (k0_pay4 x) (k0_pay5 x) (gcodeV x w ws bi x0 nz lw) (k0_pay13 (gtopV x w ws bi x0 nz lw)) p d).trans ?_
  show _ = Spec.dW (Spec.argsOf x w ws bi x0 nz lw) p.val d.val
  unfold Spec.dW
  rw [← sum_rows fun b s => Spec.dWterm (Spec.argsOf x w ws bi x0 nz lw) b s p.val d.val]
  refine Finset.sum_congr rfl fun r _ => ?_
  rw [gcodeV_at, gscale_at, code_at x w ws bi x0 nz lw, scale_at x w ws bi x0 nz lw]
  unfold Spec.dWterm Spec.gdq
  rw [mul_comm, mul_assoc _ (Spec.hs _ _ _), mul_comm (Spec.hs _ _ _)]

theorem code_eq : G11 (F := Ideal) x w ws bi x0 nz lw = Spec.outCode (Spec.argsOf x w ws bi x0 nz lw) := by
  funext i
  obtain ⟨b, s, d, rfl⟩ : ∃ b s d, i = ix3 b s d := ⟨i 0, i 1, i 2, eq_ix3 i⟩
  exact code_at x w ws bi x0 nz lw b s d

theorem hs_eq : G12 (F := Ideal) x w ws bi x0 nz lw = Spec.outHs (Spec.argsOf x w ws bi x0 nz lw) := by
  funext i
  obtain ⟨b, s, rfl⟩ : ∃ b s, i = ix2 b s := ⟨i 0, i 1, eq_ix2 i⟩
  exact scale_at x w ws bi x0 nz lw b s

theorem gcode_eq : G13 (F := Ideal) x w ws bi x0 nz lw = Spec.outGcode (Spec.argsOf x w ws bi x0 nz lw) := by
  show k0_pay15 (F := Ideal) (k0_pay20 x w ws bi x0 nz lw) (k0_pay21 x w ws bi x0 nz lw) = _
  rw [pay20_eq, pay21_eq]
  funext i
  obtain ⟨b, p, s, rfl⟩ : ∃ b p s, i = ix3 b p s := ⟨i 0, i 1, i 2, eq_ix3 i⟩
  exact (swap_raw8 (gcodeV x w ws bi x0 nz lw) b p s).trans (gcodeV_at x w ws bi x0 nz lw b s p)

theorem gs_eq : G14 (F := Ideal) x w ws bi x0 nz lw = Spec.outGs (Spec.argsOf x w ws bi x0 nz lw) := by
  show k0_pay13 (F := Ideal) (k0_pay21 x w ws bi x0 nz lw) = _
  rw [pay21_eq]
  funext i
  obtain ⟨b, p, rfl⟩ : ∃ b p, i = ix2 b p := ⟨i 0, i 1, eq_ix2 i⟩
  exact gscale_at x w ws bi x0 nz lw b p

end Cert.ReferenceIdeal.Rows
-- ==== Proof.lean ====
/- The claims of this directory, assembled: the programs' facts and their frames (Proof/Track*.lean), and that kernel and
   reference compute one set of results (Proof/Final.lean, Proof/RefRows.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.TrackK
public import proofs.«01_k».proof.Proof.TrackI
public import Idealize.ShloMosaic.Adequacy
public import Idealize.ShloMosaic.Init
public import proofs.«01_k».proof.Proof.Gen.ReferenceIdeal.Value
public import proofs.«01_k».proof.Proof.Final
public import proofs.«01_k».proof.Proof.RefRows

@[expose] public section

noncomputable section

namespace Cert.Proof

open Idealize.ShloMosaic Idealize.SL.Sem Cert.Kernel

/-- The reference leaves the arrays of Proof/Arrays.lean. -/
theorem reference_final (m : (ℓ : Loc Cert.ReferenceIdeal.nD Cert.ReferenceIdeal.τ Cert.ReferenceIdeal.sig) → Buf (Elt Ideal) ℓ)
    (ρ : Dev Cert.ReferenceIdeal.nD → PrngReg) (A : Dev Cert.ReferenceIdeal.nD → Cert.Spec.Args)
    (hA : ∀ c : Dev Cert.ReferenceIdeal.nD, Cert.Spec.argsOf
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6)) = A c) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v0_0) = Cert.Spec.outLoss (A c)
      ∧ r.2.mem ((c.tc : Thread Cert.ReferenceIdeal.nD Cert.ReferenceIdeal.τ).loc Cert.ReferenceIdeal.main_v0_1) = Cert.Spec.outPred (A c)
      ∧ r.2.mem ((c.tc : Thread Cert.ReferenceIdeal.nD Cert.ReferenceIdeal.τ).loc Cert.ReferenceIdeal.main_v0_2) = Cert.Spec.outDH (A c)
      ∧ r.2.mem ((c.tc : Thread Cert.ReferenceIdeal.nD Cert.ReferenceIdeal.τ).loc Cert.ReferenceIdeal.main_v0_3) = Cert.Spec.outDW (A c)
      ∧ r.2.mem ((c.tc : Thread Cert.ReferenceIdeal.nD Cert.ReferenceIdeal.τ).loc Cert.ReferenceIdeal.main_v0_4) = Cert.Spec.outCode (A c)
      ∧ r.2.mem ((c.tc : Thread Cert.ReferenceIdeal.nD Cert.ReferenceIdeal.τ).loc Cert.ReferenceIdeal.main_v0_5) = Cert.Spec.outHs (A c)
      ∧ r.2.mem ((c.tc : Thread Cert.ReferenceIdeal.nD Cert.ReferenceIdeal.τ).loc Cert.ReferenceIdeal.main_v0_6) = Cert.Spec.outGcode (A c)
      ∧ r.2.mem ((c.tc : Thread Cert.ReferenceIdeal.nD Cert.ReferenceIdeal.τ).loc Cert.ReferenceIdeal.main_v0_7) = Cert.Spec.outGs (A c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) := by
  refine (θ_run _ _ _).mono (fun r h c => ?_) (Cert.ReferenceIdeal.Value.run m ρ)
  obtain ⟨h0, h1, h2, h3, h4, h5, h6, h7, hk⟩ := h c
  rw [← hA c]
  exact ⟨h0.trans (Cert.ReferenceIdeal.Rows.loss_eq ..), h1.trans (Cert.ReferenceIdeal.Rows.pred_eq ..),
    h2.trans (Cert.ReferenceIdeal.Rows.dH_eq ..), h3.trans (Cert.ReferenceIdeal.Rows.dW_eq ..),
    h4.trans (Cert.ReferenceIdeal.Rows.code_eq ..), h5.trans (Cert.ReferenceIdeal.Rows.hs_eq ..),
    h6.trans (Cert.ReferenceIdeal.Rows.gcode_eq ..), h7.trans (Cert.ReferenceIdeal.Rows.gs_eq ..), hk⟩

/-- Kernel and reference, given the same arguments, leave the same results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Spec.outLoss (Cert.KernelIdeal.Gen.argsAt m c), fun c => Cert.Spec.outPred (Cert.KernelIdeal.Gen.argsAt m c),
    fun c => Cert.Spec.outDH (Cert.KernelIdeal.Gen.argsAt m c), fun c => Cert.Spec.outDW (Cert.KernelIdeal.Gen.argsAt m c),
    fun c => Cert.Spec.outCode (Cert.KernelIdeal.Gen.argsAt m c), fun c => Cert.Spec.outHs (Cert.KernelIdeal.Gen.argsAt m c),
    fun c => Cert.Spec.outGcode (Cert.KernelIdeal.Gen.argsAt m c), fun c => Cert.Spec.outGs (Cert.KernelIdeal.Gen.argsAt m c),
    Cert.KernelIdeal.Gen.final m g, reference_final m' g' (fun c => Cert.KernelIdeal.Gen.argsAt m c) fun c => ?_⟩
  obtain ⟨a0, a1, a2, a3, a4, a5, a6⟩ := hargs c
  rw [a0, a1, a2, a3, a4, a5, a6]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
